-- ==== Defs.lean ====
def Pre_Kernel [hPre_item_in_range : Cert.Pre_item_in_range.Facts] (m : (ℓ : Loc Cert.Kernel.nD Cert.Kernel.τ Cert.Kernel.sig) → Buf (Elt Bits) ℓ) : Prop :=
  ∀ c : Dev Cert.Kernel.nD,
    (Cert.Pre_item_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_item_in_range : Cert.Pre_item_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_item_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_item_in_range [hPre_item_in_range : Cert.Pre_item_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_item_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_item_in_range : Cert.Pre_item_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_item_in_range : Cert.Pre_item_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_item_in_range [hReferenceIdeal : Cert.ReferenceIdeal.Facts] [hPre_item_in_range : Cert.Pre_item_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_item_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_item_in_range : Cert.Pre_item_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_item_in_range : Cert.Pre_item_in_range.Facts),
    quiescent_Kernel (hKernel := hKernel) (hPre_item_in_range := hPre_item_in_range)
    ∧ quiescent_KernelIdeal (hKernelIdeal := hKernelIdeal) (hPre_item_in_range := hPre_item_in_range)
    ∧ quiescent_ReferenceIdeal (hReferenceIdeal := hReferenceIdeal)
    ∧ quiescent_ReferenceIdeal_pre_item_in_range (hReferenceIdeal := hReferenceIdeal) (hPre_item_in_range := hPre_item_in_range)
    ∧ preserves_Kernel_KernelIdeal
    ∧ algebraic_KernelIdeal_ReferenceIdeal (hKernelIdeal := hKernelIdeal) (hReferenceIdeal := hReferenceIdeal) (hPre_item_in_range := hPre_item_in_range)
-- ==== Pre_item_in_range.lean ====
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : IVec S4096 32) (main_arg2 : FVec F S4096 .f32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 100000#32
  let main_v2 : IVec S4096 32 := broadcastInDim S4096 ![] bcast_S_S4096 main_c_0
  let main_v3 : IVec S4096 1 := cmpi .slt main_arg1 main_v2
  let main_v4 : IVec S4096 1 := andi main_v1 main_v3
  main_v4
-- ==== Kernel.lean ====
abbrev S4096 : Shape := ⟨1, ![4096]⟩
abbrev S50000 : Shape := ⟨1, ![50000]⟩
abbrev S8192 : Shape := ⟨1, ![8192]⟩
abbrev S8448 : Shape := ⟨1, ![8448]⟩
abbrev S4112 : Shape := ⟨1, ![4112]⟩
abbrev S16 : Shape := ⟨1, ![16]⟩
abbrev S_ : Shape := ⟨0, ![]⟩

abbrev nBuf : Table → Nat
  | .hbm => 8
  | .local .scVector .vmem => 8
  | _ => 0

abbrev bufTy : (tb : Table) → Fin (nBuf tb) → BufTy
  | .hbm, ⟨0, _⟩ => ⟨S4096, .i32⟩
  | .hbm, ⟨1, _⟩ => ⟨S4096, .i32⟩
  | .hbm, ⟨2, _⟩ => ⟨S4096, .f32⟩
  | .hbm, ⟨3, _⟩ => ⟨S50000, .i32⟩
  | .hbm, ⟨4, _⟩ => ⟨S8192, .i32⟩
  | .hbm, ⟨5, _⟩ => ⟨S8192, .i32⟩
  | .hbm, ⟨6, _⟩ => ⟨S8192, .i32⟩
  | .hbm, ⟨7, _⟩ => ⟨S8192, .f32⟩
  | .local .scVector .vmem, ⟨0, _⟩ => ⟨S4096, .i32⟩
  | .local .scVector .vmem, ⟨1, _⟩ => ⟨S50000, .i32⟩
  | .local .scVector .vmem, ⟨2, _⟩ => ⟨S8192, .i32⟩
  | .local .scVector .vmem, ⟨3, _⟩ => ⟨S8448, .i32⟩
  | .local .scVector .vmem, ⟨4, _⟩ => ⟨S4112, .i32⟩
  | .local .scVector .vmem, ⟨5, _⟩ => ⟨S16, .i32⟩
  | .local .scVector .vmem, ⟨6, _⟩ => ⟨S8192, .i32⟩
  | .local .scVector .vmem, ⟨7, _⟩ => ⟨S8192, .f32⟩
  | _, _ => ⟨S4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_c_scv : Ref sig .scVector := ⟨.hbm, 3, rfl⟩
abbrev main_c_0_scv : Ref sig .scVector := ⟨.hbm, 4, rfl⟩
abbrev main_v0_0_scv : Ref sig .scVector := ⟨.hbm, 5, rfl⟩
abbrev main_v0_1_scv : Ref sig .scVector := ⟨.hbm, 6, rfl⟩
abbrev main_v0_2_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_7 : BitVec 32 := 0#32
  let c256_i32 : BitVec 32 := 256#32
  let v12 : BitVec 32 := Scalar.addi c0_i32_7 c256_i32
  let c1_i32_8 : BitVec 32 := 1#32
  ⟨c0_i32_7, v12, c1_i32_8⟩
def k0_off1 (k0_t1 : Fin k0_t1_loop.trips) : Fin 1 → Nat :=
  let c4096_i32_49 : BitVec 32 := 4096#32
  let c16_i32 : BitVec 32 := 16#32
  let c0_i32_48 : BitVec 32 := 0#32
  let c0_i32_7 : BitVec 32 := 0#32
  let c1_i32_8 : BitVec 32 := 1#32
  let arg27 : BitVec 32 := Scf.iv c0_i32_7 c1_i32_8 k0_t1
  let c1_i32_47 : BitVec 32 := 1#32
  let v50 : BitVec 32 := Scalar.muli arg27 c1_i32_47
  let v51 : BitVec 32 := Scalar.addi c0_i32_48 v50
  let v52 : BitVec 32 := Scalar.muli c16_i32 v51
  let v53 : BitVec 32 := Scalar.addi c4096_i32_49 v52
  let v54 : Index := Scalar.indexCast v53
  ![v54.toNat]
@[reducible] def k0_t2_loop : Scf.Loop 32 :=
  let c0_i32_10 : BitVec 32 := 0#32
  let c528_i32 : BitVec 32 := 528#32
  let v13 : BitVec 32 := Scalar.addi c0_i32_10 c528_i32
  let c1_i32_11 : BitVec 32 := 1#32
  ⟨c0_i32_10, v13, c1_i32_11⟩
def k0_off2 (k0_t2 : Fin k0_t2_loop.trips) : Fin 1 → Nat :=
  let c16_i32 : BitVec 32 := 16#32
  let c0_i32_48 : BitVec 32 := 0#32
  let c0_i32_10 : BitVec 32 := 0#32
  let c1_i32_11 : BitVec 32 := 1#32
  let arg27 : BitVec 32 := Scf.iv c0_i32_10 c1_i32_11 k0_t2
  let c1_i32_47 : BitVec 32 := 1#32
  let v50 : BitVec 32 := Scalar.muli arg27 c1_i32_47
  let v51 : BitVec 32 := Scalar.addi c0_i32_48 v50
  let v52 : BitVec 32 := Scalar.muli c16_i32 v51
  let v53 : Index := Scalar.indexCast v52
  ![v53.toNat]
@[reducible] def k0_t3_loop : Scf.Loop 32 :=
  let c0_i32_13 : BitVec 32 := 0#32
  let c256_i32_14 : BitVec 32 := 256#32
  let v14 : BitVec 32 := Scalar.addi c0_i32_13 c256_i32_14
  let c1_i32_15 : BitVec 32 := 1#32
  ⟨c0_i32_13, v14, c1_i32_15⟩
def k0_off3 (k0_t3 : Fin k0_t3_loop.trips) : Fin 1 → Nat :=
  let c16_i32 : BitVec 32 := 16#32
  let c0_i32_48 : BitVec 32 := 0#32
  let c0_i32_13 : BitVec 32 := 0#32
  let c1_i32_15 : BitVec 32 := 1#32
  let arg27 : BitVec 32 := Scf.iv c0_i32_13 c1_i32_15 k0_t3
  let c1_i32_47 : BitVec 32 := 1#32
  let v50 : BitVec 32 := Scalar.muli arg27 c1_i32_47
  let v51 : BitVec 32 := Scalar.addi c0_i32_48 v50
  let v52 : BitVec 32 := Scalar.muli c16_i32 v51
  let v53 : Index := Scalar.indexCast v52
  ![v53.toNat]

def k0_chk1 (i : grid0.Coords) (v56 : IVec S16 32) : Prop :=
  (∀ (k0_h1 : k0_cond1 i = 1#1), ∀ a x, ((![v56] : Fin 1 → IVec S16 32) a x).toNat < S50000.size a)
theorem k0_idx1_inb : ∀ (i : grid0.Coords) (v56 : IVec S16 32) (k0_hw1 : k0_chk1 i v56), ∀ (k0_h1 : k0_cond1 i = 1#1), ∀ a x, ((![v56] : Fin 1 → IVec S16 32) a x).toNat < S50000.size a := fun i v56 k0_hw1 k0_h1 => k0_hw1 k0_h1

def k0_chk2 (i : grid0.Coords) (v64 : IVec S16 32) : Prop :=
  (∀ (k0_h1 : k0_cond1 i = 1#1), ∀ a x, ((![v64] : Fin 1 → IVec S16 32) a x).toNat < S8448.size a)
theorem k0_idx2_inb : ∀ (i : grid0.Coords) (v64 : IVec S16 32) (k0_hw2 : k0_chk2 i v64), ∀ (k0_h1 : k0_cond1 i = 1#1), ∀ a x, ((![v64] : Fin 1 → IVec S16 32) a x).toNat < S8448.size a := fun i v64 k0_hw2 k0_h1 => k0_hw2 k0_h1
@[reducible] def k0_t4_loop : Scf.Loop 32 :=
  let c0_i32_18 : BitVec 32 := 0#32
  let c512_i32 : BitVec 32 := 512#32
  let v16 : BitVec 32 := Scalar.addi c0_i32_18 c512_i32
  let c1_i32_19 : BitVec 32 := 1#32
  ⟨c0_i32_18, v16, c1_i32_19⟩
def k0_off4 (k0_t4 : Fin k0_t4_loop.trips) : Fin 1 → Nat :=
  let c16_i32 : BitVec 32 := 16#32
  let c0_i32_48 : BitVec 32 := 0#32
  let c0_i32_18 : BitVec 32 := 0#32
  let c1_i32_19 : BitVec 32 := 1#32
  let arg27 : BitVec 32 := Scf.iv c0_i32_18 c1_i32_19 k0_t4
  let c1_i32_47 : BitVec 32 := 1#32
  let v50 : BitVec 32 := Scalar.muli arg27 c1_i32_47
  let v51 : BitVec 32 := Scalar.addi c0_i32_48 v50
  let v52 : BitVec 32 := Scalar.muli c16_i32 v51
  let v53 : Index := Scalar.indexCast v52
  ![v53.toNat]
@[reducible] def k0_t5_loop : Scf.Loop 32 :=
  let c0_i32_21 : BitVec 32 := 0#32
  let c512_i32_22 : BitVec 32 := 512#32
  let v21 : BitVec 32 := Scalar.addi c0_i32_21 c512_i32_22
  let c1_i32_23 : BitVec 32 := 1#32
  ⟨c0_i32_21, v21, c1_i32_23⟩
def k0_off5 (k0_t5 : Fin k0_t5_loop.trips) : Fin 1 → Nat :=
  let c16_i32 : BitVec 32 := 16#32
  let c0_i32_48 : BitVec 32 := 0#32
  let c0_i32_21 : BitVec 32 := 0#32
  let c1_i32_23 : BitVec 32 := 1#32
  let arg27 : BitVec 32 := Scf.iv c0_i32_21 c1_i32_23 k0_t5
  let c1_i32_47 : BitVec 32 := 1#32
  let v50 : BitVec 32 := Scalar.muli arg27 c1_i32_47
  let v51 : BitVec 32 := Scalar.addi c0_i32_48 v50
  let v52 : BitVec 32 := Scalar.muli c16_i32 v51
  let v53 : Index := Scalar.indexCast v52
  ![v53.toNat]
def k0_off6 (k0_t5 : Fin k0_t5_loop.trips) : Fin 1 → Nat :=
  let c16_i32_49 : BitVec 32 := 16#32
  let c0_i32_48 : BitVec 32 := 0#32
  let c0_i32_21 : BitVec 32 := 0#32
  let c1_i32_23 : BitVec 32 := 1#32
  let arg27 : BitVec 32 := Scf.iv c0_i32_21 c1_i32_23 k0_t5
  let c1_i32_47 : BitVec 32 := 1#32
  let v50 : BitVec 32 := Scalar.muli arg27 c1_i32_47
  let v51 : BitVec 32 := Scalar.addi c0_i32_48 v50
  let v55 : BitVec 32 := Scalar.muli c16_i32_49 v51
  let v56 : Index := Scalar.indexCast v55
  ![v56.toNat]

def k0_chk3 (i : grid0.Coords) (v69 : IVec S16 32) : Prop :=
  (∀ (k0_h1 : k0_cond1 i = 1#1), ∀ a x, ((![v69] : Fin 1 → IVec S16 32) a x).toNat < S4112.size a)
theorem k0_idx3_inb : ∀ (i : grid0.Coords) (v69 : IVec S16 32) (k0_hw3 : k0_chk3 i v69), ∀ (k0_h1 : k0_cond1 i = 1#1), ∀ a x, ((![v69] : Fin 1 → IVec S16 32) a x).toNat < S4112.size a := fun i v69 k0_hw3 k0_h1 => k0_hw3 k0_h1
@[reducible] def k0_t6_loop : Scf.Loop 32 :=
  let c0_i32_35 : BitVec 32 := 0#32
  let c512_i32_36 : BitVec 32 := 512#32
  let v41 : BitVec 32 := Scalar.addi c0_i32_35 c512_i32_36
  let c1_i32_37 : BitVec 32 := 1#32
  ⟨c0_i32_35, v41, c1_i32_37⟩
def k0_off7 (k0_t6 : Fin k0_t6_loop.trips) : Fin 1 → Nat :=
  let c16_i32 : BitVec 32 := 16#32
  let c0_i32_48 : BitVec 32 := 0#32
  let c0_i32_35 : BitVec 32 := 0#32
  let c1_i32_37 : BitVec 32 := 1#32
  let arg27 : BitVec 32 := Scf.iv c0_i32_35 c1_i32_37 k0_t6
  let c1_i32_47 : BitVec 32 := 1#32
  let v50 : BitVec 32 := Scalar.muli arg27 c1_i32_47
  let v51 : BitVec 32 := Scalar.addi c0_i32_48 v50
  let v52 : BitVec 32 := Scalar.muli c16_i32 v51
  let v53 : Index := Scalar.indexCast v52
  ![v53.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096 : Shape := ⟨1, ![4096]⟩
abbrev S_ : Shape := ⟨0, ![]⟩
abbrev S100000 : Shape := ⟨1, ![100000]⟩
abbrev S4096x1 : Shape := ⟨2, ![4096, 1]⟩
abbrev S1 : Shape := ⟨1, ![1]⟩
abbrev S2 : Shape := ⟨1, ![2]⟩
abbrev S8192 : Shape := ⟨1, ![8192]⟩

abbrev nBuf : Space → Nat
  | .hbm => 298
  | .vmem => 0
  | .smem => 0
  | _ => 0

abbrev hbmTy0_0 (i : Nat) : BufTy := match i % 128 with
  | 0 => ⟨S4096, .i32⟩
  | 1 => ⟨S4096, .i32⟩
  | 2 => ⟨S4096, .f32⟩
  | 3 => ⟨S_, .i1⟩
  | 4 => ⟨S100000, .i1⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S_, .i1⟩
  | 14 => ⟨S4096, .i1⟩
  | 15 => ⟨S100000, .i1⟩
  | 16 => ⟨S_, .i32⟩
  | 17 => ⟨S_, .i32⟩
  | 18 => ⟨S_, .i32⟩
  | 19 => ⟨S_, .i32⟩
  | 20 => ⟨S1, .i32⟩
  | 21 => ⟨S_, .i32⟩
  | 22 => ⟨S_, .i32⟩
  | 23 => ⟨S_, .i32⟩
  | 24 => ⟨S1, .i32⟩
  | 25 => ⟨S2, .i32⟩
  | 26 => ⟨S_, .f32⟩
  | 27 => ⟨S_, .f32⟩
  | 28 => ⟨S_, .f32⟩
  | 29 => ⟨S_, .f32⟩
  | 30 => ⟨S1, .f32⟩
  | 31 => ⟨S1, .f32⟩
  | 32 => ⟨S1, .i32⟩
  | 33 => ⟨S_, .i32⟩
  | 34 => ⟨S1, .i32⟩
  | 35 => ⟨S_, .i32⟩
  | 36 => ⟨S100000, .i64⟩
  | 37 => ⟨S_, .i64⟩
  | 38 => ⟨S100000, .i64⟩
  | 39 => ⟨S100000, .i64⟩
  | 40 => ⟨S_, .i64⟩
  | 41 => ⟨S100000, .i64⟩
  | 42 => ⟨S100000, .i64⟩
  | 43 => ⟨S100000, .i32⟩
  | 44 => ⟨S100000, .i32⟩
  | 45 => ⟨S_, .i32⟩
  | 46 => ⟨S_, .i32⟩
  | 47 => ⟨S_, .i32⟩
  | 48 => ⟨S100000, .i32⟩
  | 49 => ⟨S100000, .i32⟩
  | 50 => ⟨S100000, .i32⟩
  | 51 => ⟨S100000, .i32⟩
  | 52 => ⟨S100000, .i32⟩
  | 53 => ⟨S_, .i32⟩
  | 54 => ⟨S100000, .i32⟩
  | 55 => ⟨S100000, .i32⟩
  | 56 => ⟨S_, .i32⟩
  | 57 => ⟨S100000, .i32⟩
  | 58 => ⟨S100000, .i32⟩
  | 59 => ⟨S100000, .i32⟩
  | 60 => ⟨S100000, .i32⟩
  | 61 => ⟨S100000, .i32⟩
  | 62 => ⟨S_, .i32⟩
  | 63 => ⟨S100000, .i32⟩
  | 64 => ⟨S100000, .i32⟩
  | 65 => ⟨S_, .i32⟩
  | 66 => ⟨S100000, .i32⟩
  | 67 => ⟨S100000, .i32⟩
  | 68 => ⟨S100000, .i32⟩
  | 69 => ⟨S100000, .i32⟩
  | 70 => ⟨S100000, .i32⟩
  | 71 => ⟨S_, .i32⟩
  | 72 => ⟨S100000, .i32⟩
  | 73 => ⟨S100000, .i32⟩
  | 74 => ⟨S_, .i32⟩
  | 75 => ⟨S100000, .i32⟩
  | 76 => ⟨S100000, .i32⟩
  | 77 => ⟨S100000, .i32⟩
  | 78 => ⟨S100000, .i32⟩
  | 79 => ⟨S100000, .i32⟩
  | 80 => ⟨S_, .i32⟩
  | 81 => ⟨S100000, .i32⟩
  | 82 => ⟨S100000, .i32⟩
  | 83 => ⟨S_, .i32⟩
  | 84 => ⟨S100000, .i32⟩
  | 85 => ⟨S100000, .i32⟩
  | 86 => ⟨S100000, .i32⟩
  | 87 => ⟨S100000, .i32⟩
  | 88 => ⟨S100000, .i32⟩
  | 89 => ⟨S100000, .i32⟩
  | 90 => ⟨S100000, .i32⟩
  | 91 => ⟨S100000, .i32⟩
  | 92 => ⟨S_, .i32⟩
  | 93 => ⟨S100000, .i32⟩
  | 94 => ⟨S100000, .i32⟩
  | 95 => ⟨S100000, .i32⟩
  | 96 => ⟨S_, .i32⟩
  | 97 => ⟨S100000, .i32⟩
  | 98 => ⟨S100000, .i32⟩
  | 99 => ⟨S_, .i32⟩
  | 100 => ⟨S100000, .i32⟩
  | 101 => ⟨S100000, .i32⟩
  | 102 => ⟨S100000, .i32⟩
  | 103 => ⟨S100000, .i32⟩
  | 104 => ⟨S100000, .i32⟩
  | 105 => ⟨S_, .i32⟩
  | 106 => ⟨S100000, .i32⟩
  | 107 => ⟨S100000, .i32⟩
  | 108 => ⟨S_, .i32⟩
  | 109 => ⟨S100000, .i32⟩
  | 110 => ⟨S100000, .i32⟩
  | 111 => ⟨S100000, .i32⟩
  | 112 => ⟨S100000, .i32⟩
  | 113 => ⟨S100000, .i32⟩
  | 114 => ⟨S_, .i32⟩
  | 115 => ⟨S100000, .i32⟩
  | 116 => ⟨S100000, .i32⟩
  | 117 => ⟨S_, .i32⟩
  | 118 => ⟨S100000, .i32⟩
  | 119 => ⟨S100000, .i32⟩
  | 120 => ⟨S100000, .i32⟩
  | 121 => ⟨S100000, .i32⟩
  | 122 => ⟨S100000, .i32⟩
  | 123 => ⟨S_, .i32⟩
  | 124 => ⟨S100000, .i32⟩
  | 125 => ⟨S100000, .i32⟩
  | 126 => ⟨S_, .i32⟩
  | 127 => ⟨S100000, .i32⟩
  | _ => ⟨S4096, .i32⟩

abbrev hbmTy0_1 (i : Nat) : BufTy := match i % 128 with
  | 0 => ⟨S100000, .i32⟩
  | 1 => ⟨S100000, .i32⟩
  | 2 => ⟨S100000, .i32⟩
  | 3 => ⟨S100000, .i32⟩
  | 4 => ⟨S100000, .i32⟩
  | 5 => ⟨S100000, .i32⟩
  | 6 => ⟨S100000, .i32⟩
  | 7 => ⟨S_, .i32⟩
  | 8 => ⟨S100000, .i32⟩
  | 9 => ⟨S100000, .i32⟩
  | 10 => ⟨S100000, .i32⟩
  | 11 => ⟨S_, .i32⟩
  | 12 => ⟨S100000, .i32⟩
  | 13 => ⟨S100000, .i32⟩
  | 14 => ⟨S_, .i32⟩
  | 15 => ⟨S100000, .i32⟩
  | 16 => ⟨S100000, .i32⟩
  | 17 => ⟨S100000, .i32⟩
  | 18 => ⟨S100000, .i32⟩
  | 19 => ⟨S100000, .i32⟩
  | 20 => ⟨S_, .i32⟩
  | 21 => ⟨S100000, .i32⟩
  | 22 => ⟨S100000, .i32⟩
  | 23 => ⟨S_, .i32⟩
  | 24 => ⟨S100000, .i32⟩
  | 25 => ⟨S100000, .i32⟩
  | 26 => ⟨S100000, .i32⟩
  | 27 => ⟨S100000, .i32⟩
  | 28 => ⟨S100000, .i32⟩
  | 29 => ⟨S_, .i32⟩
  | 30 => ⟨S100000, .i32⟩
  | 31 => ⟨S100000, .i32⟩
  | 32 => ⟨S_, .i32⟩
  | 33 => ⟨S100000, .i32⟩
  | 34 => ⟨S100000, .i32⟩
  | 35 => ⟨S100000, .i32⟩
  | 36 => ⟨S100000, .i32⟩
  | 37 => ⟨S100000, .i32⟩
  | 38 => ⟨S_, .i32⟩
  | 39 => ⟨S100000, .i32⟩
  | 40 => ⟨S100000, .i32⟩
  | 41 => ⟨S_, .i32⟩
  | 42 => ⟨S100000, .i32⟩
  | 43 => ⟨S100000, .i32⟩
  | 44 => ⟨S100000, .i32⟩
  | 45 => ⟨S100000, .i32⟩
  | 46 => ⟨S100000, .i32⟩
  | 47 => ⟨S100000, .i32⟩
  | 48 => ⟨S100000, .i32⟩
  | 49 => ⟨S100000, .i32⟩
  | 50 => ⟨S_, .i32⟩
  | 51 => ⟨S100000, .i32⟩
  | 52 => ⟨S100000, .i32⟩
  | 53 => ⟨S100000, .i32⟩
  | 54 => ⟨S_, .i32⟩
  | 55 => ⟨S100000, .i32⟩
  | 56 => ⟨S100000, .i32⟩
  | 57 => ⟨S_, .i32⟩
  | 58 => ⟨S100000, .i32⟩
  | 59 => ⟨S100000, .i32⟩
  | 60 => ⟨S100000, .i32⟩
  | 61 => ⟨S100000, .i32⟩
  | 62 => ⟨S100000, .i32⟩
  | 63 => ⟨S_, .i32⟩
  | 64 => ⟨S100000, .i32⟩
  | 65 => ⟨S100000, .i32⟩
  | 66 => ⟨S_, .i32⟩
  | 67 => ⟨S100000, .i32⟩
  | 68 => ⟨S100000, .i32⟩
  | 69 => ⟨S100000, .i32⟩
  | 70 => ⟨S100000, .i32⟩
  | 71 => ⟨S100000, .i32⟩
  | 72 => ⟨S_, .i32⟩
  | 73 => ⟨S100000, .i32⟩
  | 74 => ⟨S100000, .i32⟩
  | 75 => ⟨S_, .i32⟩
  | 76 => ⟨S100000, .i32⟩
  | 77 => ⟨S100000, .i32⟩
  | 78 => ⟨S100000, .i32⟩
  | 79 => ⟨S100000, .i32⟩
  | 80 => ⟨S100000, .i32⟩
  | 81 => ⟨S_, .i32⟩
  | 82 => ⟨S100000, .i32⟩
  | 83 => ⟨S100000, .i32⟩
  | 84 => ⟨S_, .i32⟩
  | 85 => ⟨S100000, .i32⟩
  | 86 => ⟨S100000, .i32⟩
  | 87 => ⟨S100000, .i32⟩
  | 88 => ⟨S100000, .i32⟩
  | 89 => ⟨S100000, .i32⟩
  | 90 => ⟨S100000, .i32⟩
  | 91 => ⟨S100000, .i32⟩
  | 92 => ⟨S100000, .i32⟩
  | 93 => ⟨S_, .i32⟩
  | 94 => ⟨S100000, .i32⟩
  | 95 => ⟨S100000, .i32⟩
  | 96 => ⟨S100000, .i32⟩
  | 97 => ⟨S_, .i32⟩
  | 98 => ⟨S100000, .i32⟩
  | 99 => ⟨S100000, .i32⟩
  | 100 => ⟨S_, .i32⟩
  | 101 => ⟨S100000, .i32⟩
  | 102 => ⟨S100000, .i32⟩
  | 103 => ⟨S100000, .i32⟩
  | 104 => ⟨S100000, .i32⟩
  | 105 => ⟨S100000, .i32⟩
  | 106 => ⟨S_, .i32⟩
  | 107 => ⟨S100000, .i32⟩
  | 108 => ⟨S100000, .i32⟩
  | 109 => ⟨S_, .i32⟩
  | 110 => ⟨S100000, .i32⟩
  | 111 => ⟨S100000, .i32⟩
  | 112 => ⟨S100000, .i32⟩
  | 113 => ⟨S100000, .i32⟩
  | 114 => ⟨S100000, .i32⟩
  | 115 => ⟨S_, .i32⟩
  | 116 => ⟨S100000, .i32⟩
  | 117 => ⟨S100000, .i32⟩
  | 118 => ⟨S_, .i32⟩
  | 119 => ⟨S100000, .i32⟩
  | 120 => ⟨S100000, .i32⟩
  | 121 => ⟨S100000, .i32⟩
  | 122 => ⟨S100000, .i32⟩
  | 123 => ⟨S100000, .i32⟩
  | 124 => ⟨S_, .i32⟩
  | 125 => ⟨S100000, .i32⟩
  | 126 => ⟨S100000, .i32⟩
  | 127 => ⟨S_, .i32⟩
  | _ => ⟨S4096, .i32⟩

abbrev hbmTy0_2 (i : Nat) : BufTy := match i % 128 with
  | 0 => ⟨S100000, .i32⟩
  | 1 => ⟨S100000, .i32⟩
  | 2 => ⟨S100000, .i32⟩
  | 3 => ⟨S100000, .i32⟩
  | 4 => ⟨S100000, .i32⟩
  | 5 => ⟨S100000, .i32⟩
  | 6 => ⟨S100000, .i32⟩
  | 7 => ⟨S100000, .i32⟩
  | 8 => ⟨S_, .i32⟩
  | 9 => ⟨S100000, .i32⟩
  | 10 => ⟨S100000, .i32⟩
  | 11 => ⟨S100000, .i32⟩
  | 12 => ⟨S_, .i32⟩
  | 13 => ⟨S100000, .i32⟩
  | 14 => ⟨S100000, .i32⟩
  | 15 => ⟨S_, .i32⟩
  | 16 => ⟨S100000, .i32⟩
  | 17 => ⟨S100000, .i32⟩
  | 18 => ⟨S100000, .f32⟩
  | 19 => ⟨S_, .f32⟩
  | 20 => ⟨S100000, .f32⟩
  | 21 => ⟨S100000, .f32⟩
  | 22 => ⟨S1, .f32⟩
  | 23 => ⟨S100000, .f32⟩
  | 24 => ⟨S100000, .f32⟩
  | 25 => ⟨S100000, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S4096, .f32⟩
  | 34 => ⟨S4096, .i32⟩
  | 35 => ⟨S_, .f32⟩
  | 36 => ⟨S4096, .f32⟩
  | 37 => ⟨S1, .i32⟩
  | 38 => ⟨S_, .i32⟩
  | 39 => ⟨S8192, .i32⟩
  | 40 => ⟨S8192, .i32⟩
  | 41 => ⟨S8192, .f32⟩
  | _ => ⟨S4096, .i32⟩

abbrev hbmTy (i : Nat) : BufTy := match i / 128 with
  | 0 => hbmTy0_0 i
  | 1 => hbmTy0_1 i
  | 2 => hbmTy0_2 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_c_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_cst_6 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_c_0 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_call0_v0 : Ref sig .tc := ⟨.hbm, 45, rfl⟩
abbrev main_call0_call0_c : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_c_0 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_c_1 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_call0_v12 : Ref sig .tc := ⟨.hbm, 60, rfl⟩
abbrev main_call0_call0_v13 : Ref sig .tc := ⟨.hbm, 61, rfl⟩
abbrev main_call0_call0_c_2 : Ref sig .tc := ⟨.hbm, 62, rfl⟩
abbrev main_call0_call0_v14 : Ref sig .tc := ⟨.hbm, 63, rfl⟩
abbrev main_call0_call0_v15 : Ref sig .tc := ⟨.hbm, 64, rfl⟩
abbrev main_call0_call0_c_3 : Ref sig .tc := ⟨.hbm, 65, rfl⟩
abbrev main_call0_call0_v16 : Ref sig .tc := ⟨.hbm, 66, rfl⟩
abbrev main_call0_call0_v17 : Ref sig .tc := ⟨.hbm, 67, rfl⟩
abbrev main_call0_call0_v18 : Ref sig .tc := ⟨.hbm, 68, rfl⟩
abbrev main_call0_call0_v19 : Ref sig .tc := ⟨.hbm, 69, rfl⟩
abbrev main_call0_call0_v20 : Ref sig .tc := ⟨.hbm, 70, rfl⟩
abbrev main_call0_call0_c_4 : Ref sig .tc := ⟨.hbm, 71, rfl⟩
abbrev main_call0_call0_v21 : Ref sig .tc := ⟨.hbm, 72, rfl⟩
abbrev main_call0_call0_v22 : Ref sig .tc := ⟨.hbm, 73, rfl⟩
abbrev main_call0_call0_c_5 : Ref sig .tc := ⟨.hbm, 74, rfl⟩
abbrev main_call0_call0_v23 : Ref sig .tc := ⟨.hbm, 75, rfl⟩
abbrev main_call0_call0_v24 : Ref sig .tc := ⟨.hbm, 76, rfl⟩
abbrev main_call0_call0_v25 : Ref sig .tc := ⟨.hbm, 77, rfl⟩
abbrev main_call0_call0_v26 : Ref sig .tc := ⟨.hbm, 78, rfl⟩
abbrev main_call0_call0_v27 : Ref sig .tc := ⟨.hbm, 79, rfl⟩
abbrev main_call0_call0_c_6 : Ref sig .tc := ⟨.hbm, 80, rfl⟩
abbrev main_call0_call0_v28 : Ref sig .tc := ⟨.hbm, 81, rfl⟩
abbrev main_call0_call0_v29 : Ref sig .tc := ⟨.hbm, 82, rfl⟩
abbrev main_call0_call0_c_7 : Ref sig .tc := ⟨.hbm, 83, rfl⟩
abbrev main_call0_call0_v30 : Ref sig .tc := ⟨.hbm, 84, rfl⟩
abbrev main_call0_call0_v31 : Ref sig .tc := ⟨.hbm, 85, rfl⟩
abbrev main_call0_call0_v32 : Ref sig .tc := ⟨.hbm, 86, rfl⟩
abbrev main_call0_call0_v33 : Ref sig .tc := ⟨.hbm, 87, rfl⟩
abbrev main_call0_call0_v34 : Ref sig .tc := ⟨.hbm, 88, rfl⟩
abbrev main_call0_call0_v35 : Ref sig .tc := ⟨.hbm, 89, rfl⟩
abbrev main_call0_call0_v36 : Ref sig .tc := ⟨.hbm, 90, rfl⟩
abbrev main_call0_call0_v37 : Ref sig .tc := ⟨.hbm, 91, rfl⟩
abbrev main_call0_call0_c_8 : Ref sig .tc := ⟨.hbm, 92, rfl⟩
abbrev main_call0_call0_v38 : Ref sig .tc := ⟨.hbm, 93, rfl⟩
abbrev main_call0_call0_v39 : Ref sig .tc := ⟨.hbm, 94, rfl⟩
abbrev main_call0_call0_v40 : Ref sig .tc := ⟨.hbm, 95, rfl⟩
abbrev main_call0_call0_c_9 : Ref sig .tc := ⟨.hbm, 96, rfl⟩
abbrev main_call0_call0_v41 : Ref sig .tc := ⟨.hbm, 97, rfl⟩
abbrev main_call0_call0_v42 : Ref sig .tc := ⟨.hbm, 98, rfl⟩
abbrev main_call0_call0_c_10 : Ref sig .tc := ⟨.hbm, 99, rfl⟩
abbrev main_call0_call0_v43 : Ref sig .tc := ⟨.hbm, 100, rfl⟩
abbrev main_call0_call0_v44 : Ref sig .tc := ⟨.hbm, 101, rfl⟩
abbrev main_call0_call0_v45 : Ref sig .tc := ⟨.hbm, 102, rfl⟩
abbrev main_call0_call0_v46 : Ref sig .tc := ⟨.hbm, 103, rfl⟩
abbrev main_call0_call0_v47 : Ref sig .tc := ⟨.hbm, 104, rfl⟩
abbrev main_call0_call0_c_11 : Ref sig .tc := ⟨.hbm, 105, rfl⟩
abbrev main_call0_call0_v48 : Ref sig .tc := ⟨.hbm, 106, rfl⟩
abbrev main_call0_call0_v49 : Ref sig .tc := ⟨.hbm, 107, rfl⟩
abbrev main_call0_call0_c_12 : Ref sig .tc := ⟨.hbm, 108, rfl⟩
abbrev main_call0_call0_v50 : Ref sig .tc := ⟨.hbm, 109, rfl⟩
abbrev main_call0_call0_v51 : Ref sig .tc := ⟨.hbm, 110, rfl⟩
abbrev main_call0_call0_v52 : Ref sig .tc := ⟨.hbm, 111, rfl⟩
abbrev main_call0_call0_v53 : Ref sig .tc := ⟨.hbm, 112, rfl⟩
abbrev main_call0_call0_v54 : Ref sig .tc := ⟨.hbm, 113, rfl⟩
abbrev main_call0_call0_c_13 : Ref sig .tc := ⟨.hbm, 114, rfl⟩
abbrev main_call0_call0_v55 : Ref sig .tc := ⟨.hbm, 115, rfl⟩
abbrev main_call0_call0_v56 : Ref sig .tc := ⟨.hbm, 116, rfl⟩
abbrev main_call0_call0_c_14 : Ref sig .tc := ⟨.hbm, 117, rfl⟩
abbrev main_call0_call0_v57 : Ref sig .tc := ⟨.hbm, 118, rfl⟩
abbrev main_call0_call0_v58 : Ref sig .tc := ⟨.hbm, 119, rfl⟩
abbrev main_call0_call0_v59 : Ref sig .tc := ⟨.hbm, 120, rfl⟩
abbrev main_call0_call0_v60 : Ref sig .tc := ⟨.hbm, 121, rfl⟩
abbrev main_call0_call0_v61 : Ref sig .tc := ⟨.hbm, 122, rfl⟩
abbrev main_call0_call0_c_15 : Ref sig .tc := ⟨.hbm, 123, rfl⟩
abbrev main_call0_call0_v62 : Ref sig .tc := ⟨.hbm, 124, rfl⟩
abbrev main_call0_call0_v63 : Ref sig .tc := ⟨.hbm, 125, rfl⟩
abbrev main_call0_call0_c_16 : Ref sig .tc := ⟨.hbm, 126, rfl⟩
abbrev main_call0_call0_v64 : Ref sig .tc := ⟨.hbm, 127, rfl⟩
abbrev main_call0_call0_v65 : Ref sig .tc := ⟨.hbm, 128, rfl⟩
abbrev main_call0_call0_v66 : Ref sig .tc := ⟨.hbm, 129, rfl⟩
abbrev main_call0_call0_v67 : Ref sig .tc := ⟨.hbm, 130, rfl⟩
abbrev main_call0_call0_v68 : Ref sig .tc := ⟨.hbm, 131, rfl⟩
abbrev main_call0_call0_v69 : Ref sig .tc := ⟨.hbm, 132, rfl⟩
abbrev main_call0_call0_v70 : Ref sig .tc := ⟨.hbm, 133, rfl⟩
abbrev main_call0_call0_v71 : Ref sig .tc := ⟨.hbm, 134, rfl⟩
abbrev main_call0_call0_c_17 : Ref sig .tc := ⟨.hbm, 135, rfl⟩
abbrev main_call0_call0_v72 : Ref sig .tc := ⟨.hbm, 136, rfl⟩
abbrev main_call0_call0_v73 : Ref sig .tc := ⟨.hbm, 137, rfl⟩
abbrev main_call0_call0_v74 : Ref sig .tc := ⟨.hbm, 138, rfl⟩
abbrev main_call0_call0_c_18 : Ref sig .tc := ⟨.hbm, 139, rfl⟩
abbrev main_call0_call0_v75 : Ref sig .tc := ⟨.hbm, 140, rfl⟩
abbrev main_call0_call0_v76 : Ref sig .tc := ⟨.hbm, 141, rfl⟩
abbrev main_call0_call0_c_19 : Ref sig .tc := ⟨.hbm, 142, rfl⟩
abbrev main_call0_call0_v77 : Ref sig .tc := ⟨.hbm, 143, rfl⟩
abbrev main_call0_call0_v78 : Ref sig .tc := ⟨.hbm, 144, rfl⟩
abbrev main_call0_call0_v79 : Ref sig .tc := ⟨.hbm, 145, rfl⟩
abbrev main_call0_call0_v80 : Ref sig .tc := ⟨.hbm, 146, rfl⟩
abbrev main_call0_call0_v81 : Ref sig .tc := ⟨.hbm, 147, rfl⟩
abbrev main_call0_call0_c_20 : Ref sig .tc := ⟨.hbm, 148, rfl⟩
abbrev main_call0_call0_v82 : Ref sig .tc := ⟨.hbm, 149, rfl⟩
abbrev main_call0_call0_v83 : Ref sig .tc := ⟨.hbm, 150, rfl⟩
abbrev main_call0_call0_c_21 : Ref sig .tc := ⟨.hbm, 151, rfl⟩
abbrev main_call0_call0_v84 : Ref sig .tc := ⟨.hbm, 152, rfl⟩
abbrev main_call0_call0_v85 : Ref sig .tc := ⟨.hbm, 153, rfl⟩
abbrev main_call0_call0_v86 : Ref sig .tc := ⟨.hbm, 154, rfl⟩
abbrev main_call0_call0_v87 : Ref sig .tc := ⟨.hbm, 155, rfl⟩
abbrev main_call0_call0_v88 : Ref sig .tc := ⟨.hbm, 156, rfl⟩
abbrev main_call0_call0_c_22 : Ref sig .tc := ⟨.hbm, 157, rfl⟩
abbrev main_call0_call0_v89 : Ref sig .tc := ⟨.hbm, 158, rfl⟩
abbrev main_call0_call0_v90 : Ref sig .tc := ⟨.hbm, 159, rfl⟩
abbrev main_call0_call0_c_23 : Ref sig .tc := ⟨.hbm, 160, rfl⟩
abbrev main_call0_call0_v91 : Ref sig .tc := ⟨.hbm, 161, rfl⟩
abbrev main_call0_call0_v92 : Ref sig .tc := ⟨.hbm, 162, rfl⟩
abbrev main_call0_call0_v93 : Ref sig .tc := ⟨.hbm, 163, rfl⟩
abbrev main_call0_call0_v94 : Ref sig .tc := ⟨.hbm, 164, rfl⟩
abbrev main_call0_call0_v95 : Ref sig .tc := ⟨.hbm, 165, rfl⟩
abbrev main_call0_call0_c_24 : Ref sig .tc := ⟨.hbm, 166, rfl⟩
abbrev main_call0_call0_v96 : Ref sig .tc := ⟨.hbm, 167, rfl⟩
abbrev main_call0_call0_v97 : Ref sig .tc := ⟨.hbm, 168, rfl⟩
abbrev main_call0_call0_c_25 : Ref sig .tc := ⟨.hbm, 169, rfl⟩
abbrev main_call0_call0_v98 : Ref sig .tc := ⟨.hbm, 170, rfl⟩
abbrev main_call0_call0_v99 : Ref sig .tc := ⟨.hbm, 171, rfl⟩
abbrev main_call0_call0_v100 : Ref sig .tc := ⟨.hbm, 172, rfl⟩
abbrev main_call0_call0_v101 : Ref sig .tc := ⟨.hbm, 173, rfl⟩
abbrev main_call0_call0_v102 : Ref sig .tc := ⟨.hbm, 174, rfl⟩
abbrev main_call0_call0_v103 : Ref sig .tc := ⟨.hbm, 175, rfl⟩
abbrev main_call0_call0_v104 : Ref sig .tc := ⟨.hbm, 176, rfl⟩
abbrev main_call0_call0_v105 : Ref sig .tc := ⟨.hbm, 177, rfl⟩
abbrev main_call0_call0_c_26 : Ref sig .tc := ⟨.hbm, 178, rfl⟩
abbrev main_call0_call0_v106 : Ref sig .tc := ⟨.hbm, 179, rfl⟩
abbrev main_call0_call0_v107 : Ref sig .tc := ⟨.hbm, 180, rfl⟩
abbrev main_call0_call0_v108 : Ref sig .tc := ⟨.hbm, 181, rfl⟩
abbrev main_call0_call0_c_27 : Ref sig .tc := ⟨.hbm, 182, rfl⟩
abbrev main_call0_call0_v109 : Ref sig .tc := ⟨.hbm, 183, rfl⟩
abbrev main_call0_call0_v110 : Ref sig .tc := ⟨.hbm, 184, rfl⟩
abbrev main_call0_call0_c_28 : Ref sig .tc := ⟨.hbm, 185, rfl⟩
abbrev main_call0_call0_v111 : Ref sig .tc := ⟨.hbm, 186, rfl⟩
abbrev main_call0_call0_v112 : Ref sig .tc := ⟨.hbm, 187, rfl⟩
abbrev main_call0_call0_v113 : Ref sig .tc := ⟨.hbm, 188, rfl⟩
abbrev main_call0_call0_v114 : Ref sig .tc := ⟨.hbm, 189, rfl⟩
abbrev main_call0_call0_v115 : Ref sig .tc := ⟨.hbm, 190, rfl⟩
abbrev main_call0_call0_c_29 : Ref sig .tc := ⟨.hbm, 191, rfl⟩
abbrev main_call0_call0_v116 : Ref sig .tc := ⟨.hbm, 192, rfl⟩
abbrev main_call0_call0_v117 : Ref sig .tc := ⟨.hbm, 193, rfl⟩
abbrev main_call0_call0_c_30 : Ref sig .tc := ⟨.hbm, 194, rfl⟩
abbrev main_call0_call0_v118 : Ref sig .tc := ⟨.hbm, 195, rfl⟩
abbrev main_call0_call0_v119 : Ref sig .tc := ⟨.hbm, 196, rfl⟩
abbrev main_call0_call0_v120 : Ref sig .tc := ⟨.hbm, 197, rfl⟩
abbrev main_call0_call0_v121 : Ref sig .tc := ⟨.hbm, 198, rfl⟩
abbrev main_call0_call0_v122 : Ref sig .tc := ⟨.hbm, 199, rfl⟩
abbrev main_call0_call0_c_31 : Ref sig .tc := ⟨.hbm, 200, rfl⟩
abbrev main_call0_call0_v123 : Ref sig .tc := ⟨.hbm, 201, rfl⟩
abbrev main_call0_call0_v124 : Ref sig .tc := ⟨.hbm, 202, rfl⟩
abbrev main_call0_call0_c_32 : Ref sig .tc := ⟨.hbm, 203, rfl⟩
abbrev main_call0_call0_v125 : Ref sig .tc := ⟨.hbm, 204, rfl⟩
abbrev main_call0_call0_v126 : Ref sig .tc := ⟨.hbm, 205, rfl⟩
abbrev main_call0_call0_v127 : Ref sig .tc := ⟨.hbm, 206, rfl⟩
abbrev main_call0_call0_v128 : Ref sig .tc := ⟨.hbm, 207, rfl⟩
abbrev main_call0_call0_v129 : Ref sig .tc := ⟨.hbm, 208, rfl⟩
abbrev main_call0_call0_c_33 : Ref sig .tc := ⟨.hbm, 209, rfl⟩
abbrev main_call0_call0_v130 : Ref sig .tc := ⟨.hbm, 210, rfl⟩
abbrev main_call0_call0_v131 : Ref sig .tc := ⟨.hbm, 211, rfl⟩
abbrev main_call0_call0_c_34 : Ref sig .tc := ⟨.hbm, 212, rfl⟩
abbrev main_call0_call0_v132 : Ref sig .tc := ⟨.hbm, 213, rfl⟩
abbrev main_call0_call0_v133 : Ref sig .tc := ⟨.hbm, 214, rfl⟩
abbrev main_call0_call0_v134 : Ref sig .tc := ⟨.hbm, 215, rfl⟩
abbrev main_call0_call0_v135 : Ref sig .tc := ⟨.hbm, 216, rfl⟩
abbrev main_call0_call0_v136 : Ref sig .tc := ⟨.hbm, 217, rfl⟩
abbrev main_call0_call0_v137 : Ref sig .tc := ⟨.hbm, 218, rfl⟩
abbrev main_call0_call0_v138 : Ref sig .tc := ⟨.hbm, 219, rfl⟩
abbrev main_call0_call0_v139 : Ref sig .tc := ⟨.hbm, 220, rfl⟩
abbrev main_call0_call0_c_35 : Ref sig .tc := ⟨.hbm, 221, rfl⟩
abbrev main_call0_call0_v140 : Ref sig .tc := ⟨.hbm, 222, rfl⟩
abbrev main_call0_call0_v141 : Ref sig .tc := ⟨.hbm, 223, rfl⟩
abbrev main_call0_call0_v142 : Ref sig .tc := ⟨.hbm, 224, rfl⟩
abbrev main_call0_call0_c_36 : Ref sig .tc := ⟨.hbm, 225, rfl⟩
abbrev main_call0_call0_v143 : Ref sig .tc := ⟨.hbm, 226, rfl⟩
abbrev main_call0_call0_v144 : Ref sig .tc := ⟨.hbm, 227, rfl⟩
abbrev main_call0_call0_c_37 : Ref sig .tc := ⟨.hbm, 228, rfl⟩
abbrev main_call0_call0_v145 : Ref sig .tc := ⟨.hbm, 229, rfl⟩
abbrev main_call0_call0_v146 : Ref sig .tc := ⟨.hbm, 230, rfl⟩
abbrev main_call0_call0_v147 : Ref sig .tc := ⟨.hbm, 231, rfl⟩
abbrev main_call0_call0_v148 : Ref sig .tc := ⟨.hbm, 232, rfl⟩
abbrev main_call0_call0_v149 : Ref sig .tc := ⟨.hbm, 233, rfl⟩
abbrev main_call0_call0_c_38 : Ref sig .tc := ⟨.hbm, 234, rfl⟩
abbrev main_call0_call0_v150 : Ref sig .tc := ⟨.hbm, 235, rfl⟩
abbrev main_call0_call0_v151 : Ref sig .tc := ⟨.hbm, 236, rfl⟩
abbrev main_call0_call0_c_39 : Ref sig .tc := ⟨.hbm, 237, rfl⟩
abbrev main_call0_call0_v152 : Ref sig .tc := ⟨.hbm, 238, rfl⟩
abbrev main_call0_call0_v153 : Ref sig .tc := ⟨.hbm, 239, rfl⟩
abbrev main_call0_call0_v154 : Ref sig .tc := ⟨.hbm, 240, rfl⟩
abbrev main_call0_call0_v155 : Ref sig .tc := ⟨.hbm, 241, rfl⟩
abbrev main_call0_call0_v156 : Ref sig .tc := ⟨.hbm, 242, rfl⟩
abbrev main_call0_call0_c_40 : Ref sig .tc := ⟨.hbm, 243, rfl⟩
abbrev main_call0_call0_v157 : Ref sig .tc := ⟨.hbm, 244, rfl⟩
abbrev main_call0_call0_v158 : Ref sig .tc := ⟨.hbm, 245, rfl⟩
abbrev main_call0_call0_c_41 : Ref sig .tc := ⟨.hbm, 246, rfl⟩
abbrev main_call0_call0_v159 : Ref sig .tc := ⟨.hbm, 247, rfl⟩
abbrev main_call0_call0_v160 : Ref sig .tc := ⟨.hbm, 248, rfl⟩
abbrev main_call0_call0_v161 : Ref sig .tc := ⟨.hbm, 249, rfl⟩
abbrev main_call0_call0_v162 : Ref sig .tc := ⟨.hbm, 250, rfl⟩
abbrev main_call0_call0_v163 : Ref sig .tc := ⟨.hbm, 251, rfl⟩
abbrev main_call0_call0_c_42 : Ref sig .tc := ⟨.hbm, 252, rfl⟩
abbrev main_call0_call0_v164 : Ref sig .tc := ⟨.hbm, 253, rfl⟩
abbrev main_call0_call0_v165 : Ref sig .tc := ⟨.hbm, 254, rfl⟩
abbrev main_call0_call0_c_43 : Ref sig .tc := ⟨.hbm, 255, rfl⟩
abbrev main_call0_call0_v166 : Ref sig .tc := ⟨.hbm, 256, rfl⟩
abbrev main_call0_call0_v167 : Ref sig .tc := ⟨.hbm, 257, rfl⟩
abbrev main_call0_call0_v168 : Ref sig .tc := ⟨.hbm, 258, rfl⟩
abbrev main_call0_call0_v169 : Ref sig .tc := ⟨.hbm, 259, rfl⟩
abbrev main_call0_call0_v170 : Ref sig .tc := ⟨.hbm, 260, rfl⟩
abbrev main_call0_v15_0 : Ref sig .tc := ⟨.hbm, 261, rfl⟩
abbrev main_call0_call0_v172 : Ref sig .tc := ⟨.hbm, 262, rfl⟩
abbrev main_call0_call0_v173 : Ref sig .tc := ⟨.hbm, 263, rfl⟩
abbrev main_call0_call0_c_44 : Ref sig .tc := ⟨.hbm, 264, rfl⟩
abbrev main_call0_call0_v174 : Ref sig .tc := ⟨.hbm, 265, rfl⟩
abbrev main_call0_v15_1 : Ref sig .tc := ⟨.hbm, 266, rfl⟩
abbrev main_call0_v16 : Ref sig .tc := ⟨.hbm, 267, rfl⟩
abbrev main_call0_c_1 : Ref sig .tc := ⟨.hbm, 268, rfl⟩
abbrev main_call0_v17 : Ref sig .tc := ⟨.hbm, 269, rfl⟩
abbrev main_call0_v18 : Ref sig .tc := ⟨.hbm, 270, rfl⟩
abbrev main_call0_c_2 : Ref sig .tc := ⟨.hbm, 271, rfl⟩
abbrev main_call0_v19 : Ref sig .tc := ⟨.hbm, 272, rfl⟩
abbrev main_call0_v20 : Ref sig .tc := ⟨.hbm, 273, rfl⟩
abbrev main_call0_v21 : Ref sig .tc := ⟨.hbm, 274, rfl⟩
abbrev main_call0_cst : Ref sig .tc := ⟨.hbm, 275, rfl⟩
abbrev main_call0_v22 : Ref sig .tc := ⟨.hbm, 276, rfl⟩
abbrev main_call0_v23 : Ref sig .tc := ⟨.hbm, 277, rfl⟩
abbrev main_call0_v24 : Ref sig .tc := ⟨.hbm, 278, rfl⟩
abbrev main_call0_v25 : Ref sig .tc := ⟨.hbm, 279, rfl⟩
abbrev main_call0_v26 : Ref sig .tc := ⟨.hbm, 280, rfl⟩
abbrev main_call0_v27 : Ref sig .tc := ⟨.hbm, 281, rfl⟩
abbrev main_call0_v28 : Ref sig .tc := ⟨.hbm, 282, rfl⟩
abbrev main_call0_v29 : Ref sig .tc := ⟨.hbm, 283, rfl⟩
abbrev main_v16 : Ref sig .tc := ⟨.hbm, 284, rfl⟩
abbrev main_cst_7 : Ref sig .tc := ⟨.hbm, 285, rfl⟩
abbrev main_call1_v0 : Ref sig .tc := ⟨.hbm, 286, rfl⟩
abbrev main_call1_v1 : Ref sig .tc := ⟨.hbm, 287, rfl⟩
abbrev main_v17 : Ref sig .tc := ⟨.hbm, 288, rfl⟩
abbrev main_values : Ref sig .tc := ⟨.hbm, 289, rfl⟩
abbrev main_indices : Ref sig .tc := ⟨.hbm, 290, rfl⟩
abbrev main_cst_8 : Ref sig .tc := ⟨.hbm, 291, rfl⟩
abbrev main_v18 : Ref sig .tc := ⟨.hbm, 292, rfl⟩
abbrev main_v19 : Ref sig .tc := ⟨.hbm, 293, rfl⟩
abbrev main_v20 : Ref sig .tc := ⟨.hbm, 294, rfl⟩
abbrev main_v21 : Ref sig .tc := ⟨.hbm, 295, rfl⟩
abbrev main_v22 : Ref sig .tc := ⟨.hbm, 296, rfl⟩
abbrev main_v23 : Ref sig .tc := ⟨.hbm, 297, rfl⟩

abbrev nD : Nat := 1
abbrev τ : Topo := Topo.v7x

variable {F : FTy → Type} [FloatOps F]
-- ==== Proof.Rows.lean ====
/-
  Reading a constant table as a list. A table printed as a tree of matches on the digits of the index is the list of its
  leaves' entries: each `Leaf` keeps one leaf's entries with the proof that the leaf reads them, each `Node` the lists
  of the leaves below it. Walking a list costs a step per entry where each reading of the tree walks its matches.
-/
module

public import Idealize.ShloMosaic.PureOps

@[expose] public section

set_option maxRecDepth 100000
set_option maxHeartbeats 4000000

namespace Cert.Proof.Rows

/-- Entry `n` of a list, `d` past its end. -/
def nth {α : Type} (d : α) (l : List α) : Nat → α :=
  List.rec (motive := fun _ => Nat → α) (fun _ => d) (fun a _ ih n => Nat.rec (motive := fun _ => α) a (fun m _ => ih m) n) l

theorem nth_ge {α : Type} (d : α) : ∀ (l : List α) (n : Nat), l.length ≤ n → nth d l n = d
  | [], _, _ => rfl
  | _ :: l, 0, h => absurd h (by simp)
  | _ :: l, n + 1, h => nth_ge d l n (by simpa using h)

theorem nth_map {α β : Type} (g : α → β) (d : α) : ∀ (l : List α) (n : Nat), nth (g d) (l.map g) n = g (nth d l n)
  | [], _ => rfl
  | _ :: _, 0 => rfl
  | _ :: l, n + 1 => nth_map g d l n

abbrev Word : Type := BitVec 32

/-- A leaf's entries, read by the index's last digit. -/
def Leaf (f : Nat → Word) : Type := {l : List Word // ∀ i, f i = nth 0#32 l (i % 128)}

def pick7 {α : Type} (a0 a1 a2 a3 a4 a5 a6 d : α) (n : Nat) : α := match n with
  | 0 => a0 | 1 => a1 | 2 => a2 | 3 => a3 | 4 => a4 | 5 => a5 | 6 => a6
  | _ => d
theorem pick7_eq {α : Type} (a0 a1 a2 a3 a4 a5 a6 d : α) (n : Nat) : pick7 a0 a1 a2 a3 a4 a5 a6 d n = nth d [a0, a1, a2, a3, a4, a5, a6] n := by
  unfold pick7
  split <;> first | rfl | skip
  rename_i hs
  refine (nth_ge d _ _ ?_).symm
  simp only [List.length_cons, List.length_nil]
  simp only [imp_false] at *
  omega

def pick64 {α : Type} (a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 d : α) (n : Nat) : α := match n with
  | 0 => a0 | 1 => a1 | 2 => a2 | 3 => a3 | 4 => a4 | 5 => a5 | 6 => a6 | 7 => a7
  | 8 => a8 | 9 => a9 | 10 => a10 | 11 => a11 | 12 => a12 | 13 => a13 | 14 => a14 | 15 => a15
  | 16 => a16 | 17 => a17 | 18 => a18 | 19 => a19 | 20 => a20 | 21 => a21 | 22 => a22 | 23 => a23
  | 24 => a24 | 25 => a25 | 26 => a26 | 27 => a27 | 28 => a28 | 29 => a29 | 30 => a30 | 31 => a31
  | 32 => a32 | 33 => a33 | 34 => a34 | 35 => a35 | 36 => a36 | 37 => a37 | 38 => a38 | 39 => a39
  | 40 => a40 | 41 => a41 | 42 => a42 | 43 => a43 | 44 => a44 | 45 => a45 | 46 => a46 | 47 => a47
  | 48 => a48 | 49 => a49 | 50 => a50 | 51 => a51 | 52 => a52 | 53 => a53 | 54 => a54 | 55 => a55
  | 56 => a56 | 57 => a57 | 58 => a58 | 59 => a59 | 60 => a60 | 61 => a61 | 62 => a62 | 63 => a63
  | _ => d
theorem pick64_eq {α : Type} (a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 d : α) (n : Nat) : pick64 a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 d n = nth d [a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63] n := by
  unfold pick64
  split <;> first | rfl | skip
  rename_i hs
  refine (nth_ge d _ _ ?_).symm
  simp only [List.length_cons, List.length_nil]
  simp only [imp_false] at *
  omega

def pick80 {α : Type} (a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 d : α) (n : Nat) : α := match n with
  | 0 => a0 | 1 => a1 | 2 => a2 | 3 => a3 | 4 => a4 | 5 => a5 | 6 => a6 | 7 => a7
  | 8 => a8 | 9 => a9 | 10 => a10 | 11 => a11 | 12 => a12 | 13 => a13 | 14 => a14 | 15 => a15
  | 16 => a16 | 17 => a17 | 18 => a18 | 19 => a19 | 20 => a20 | 21 => a21 | 22 => a22 | 23 => a23
  | 24 => a24 | 25 => a25 | 26 => a26 | 27 => a27 | 28 => a28 | 29 => a29 | 30 => a30 | 31 => a31
  | 32 => a32 | 33 => a33 | 34 => a34 | 35 => a35 | 36 => a36 | 37 => a37 | 38 => a38 | 39 => a39
  | 40 => a40 | 41 => a41 | 42 => a42 | 43 => a43 | 44 => a44 | 45 => a45 | 46 => a46 | 47 => a47
  | 48 => a48 | 49 => a49 | 50 => a50 | 51 => a51 | 52 => a52 | 53 => a53 | 54 => a54 | 55 => a55
  | 56 => a56 | 57 => a57 | 58 => a58 | 59 => a59 | 60 => a60 | 61 => a61 | 62 => a62 | 63 => a63
  | 64 => a64 | 65 => a65 | 66 => a66 | 67 => a67 | 68 => a68 | 69 => a69 | 70 => a70 | 71 => a71
  | 72 => a72 | 73 => a73 | 74 => a74 | 75 => a75 | 76 => a76 | 77 => a77 | 78 => a78 | 79 => a79
  | _ => d
theorem pick80_eq {α : Type} (a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 d : α) (n : Nat) : pick80 a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 d n = nth d [a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67, a68, a69, a70, a71, a72, a73, a74, a75, a76, a77, a78, a79] n := by
  unfold pick80
  split <;> first | rfl | skip
  rename_i hs
  refine (nth_ge d _ _ ?_).symm
  simp only [List.length_cons, List.length_nil]
  simp only [imp_false] at *
  omega

def pick128 {α : Type} (a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d : α) (n : Nat) : α := match n with
  | 0 => a0 | 1 => a1 | 2 => a2 | 3 => a3 | 4 => a4 | 5 => a5 | 6 => a6 | 7 => a7
  | 8 => a8 | 9 => a9 | 10 => a10 | 11 => a11 | 12 => a12 | 13 => a13 | 14 => a14 | 15 => a15
  | 16 => a16 | 17 => a17 | 18 => a18 | 19 => a19 | 20 => a20 | 21 => a21 | 22 => a22 | 23 => a23
  | 24 => a24 | 25 => a25 | 26 => a26 | 27 => a27 | 28 => a28 | 29 => a29 | 30 => a30 | 31 => a31
  | 32 => a32 | 33 => a33 | 34 => a34 | 35 => a35 | 36 => a36 | 37 => a37 | 38 => a38 | 39 => a39
  | 40 => a40 | 41 => a41 | 42 => a42 | 43 => a43 | 44 => a44 | 45 => a45 | 46 => a46 | 47 => a47
  | 48 => a48 | 49 => a49 | 50 => a50 | 51 => a51 | 52 => a52 | 53 => a53 | 54 => a54 | 55 => a55
  | 56 => a56 | 57 => a57 | 58 => a58 | 59 => a59 | 60 => a60 | 61 => a61 | 62 => a62 | 63 => a63
  | 64 => a64 | 65 => a65 | 66 => a66 | 67 => a67 | 68 => a68 | 69 => a69 | 70 => a70 | 71 => a71
  | 72 => a72 | 73 => a73 | 74 => a74 | 75 => a75 | 76 => a76 | 77 => a77 | 78 => a78 | 79 => a79
  | 80 => a80 | 81 => a81 | 82 => a82 | 83 => a83 | 84 => a84 | 85 => a85 | 86 => a86 | 87 => a87
  | 88 => a88 | 89 => a89 | 90 => a90 | 91 => a91 | 92 => a92 | 93 => a93 | 94 => a94 | 95 => a95
  | 96 => a96 | 97 => a97 | 98 => a98 | 99 => a99 | 100 => a100 | 101 => a101 | 102 => a102 | 103 => a103
  | 104 => a104 | 105 => a105 | 106 => a106 | 107 => a107 | 108 => a108 | 109 => a109 | 110 => a110 | 111 => a111
  | 112 => a112 | 113 => a113 | 114 => a114 | 115 => a115 | 116 => a116 | 117 => a117 | 118 => a118 | 119 => a119
  | 120 => a120 | 121 => a121 | 122 => a122 | 123 => a123 | 124 => a124 | 125 => a125 | 126 => a126 | 127 => a127
  | _ => d
theorem pick128_eq {α : Type} (a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d : α) (n : Nat) : pick128 a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d n = nth d [a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67, a68, a69, a70, a71, a72, a73, a74, a75, a76, a77, a78, a79, a80, a81, a82, a83, a84, a85, a86, a87, a88, a89, a90, a91, a92, a93, a94, a95, a96, a97, a98, a99, a100, a101, a102, a103, a104, a105, a106, a107, a108, a109, a110, a111, a112, a113, a114, a115, a116, a117, a118, a119, a120, a121, a122, a123, a124, a125, a126, a127] n := by
  unfold pick128
  split <;> first | rfl | skip
  rename_i hs
  refine (nth_ge d _ _ ?_).symm
  simp only [List.length_cons, List.length_nil]
  simp only [imp_false] at *
  omega

def leaf80 (a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 : Word) : Leaf (fun i => pick80 a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 0#32 (i % 128)) :=
  ⟨[a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67, a68, a69, a70, a71, a72, a73, a74, a75, a76, a77, a78, a79], fun _ => pick80_eq ..⟩

def leaf128 (a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : Word) : Leaf (fun i => pick128 a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 0#32 (i % 128)) :=
  ⟨[a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67, a68, a69, a70, a71, a72, a73, a74, a75, a76, a77, a78, a79, a80, a81, a82, a83, a84, a85, a86, a87, a88, a89, a90, a91, a92, a93, a94, a95, a96, a97, a98, a99, a100, a101, a102, a103, a104, a105, a106, a107, a108, a109, a110, a111, a112, a113, a114, a115, a116, a117, a118, a119, a120, a121, a122, a123, a124, a125, a126, a127], fun _ => pick128_eq ..⟩

/-- The rows of a table of leaves, read by the digit `q`. -/
def Node (q : Nat → Nat) (f : Nat → Word) : Type := {t : List (List Word) // ∀ i, f i = nth 0#32 (nth [] t (q i)) (i % 128)}

theorem rows_nil (i : Nat) (n : Nat) : nth 0#32 ([] : List Word) n = nth 0#32 (nth [] ([] : List (List Word)) n) (i % 128) := rfl

theorem rows_cons {f : Nat → Word} (A : Leaf f) {vs : List Word} {l : List (List Word)} {i : Nat}
    (h : ∀ n, nth 0#32 vs n = nth 0#32 (nth [] l n) (i % 128)) :
    ∀ n, nth 0#32 (f i :: vs) n = nth 0#32 (nth [] (A.1 :: l) n) (i % 128)
  | 0 => A.2 i
  | n + 1 => h n

def node7 (q : Nat → Nat) {f0 f1 f2 f3 f4 f5 f6 : Nat → Word} (A0 : Leaf f0) (A1 : Leaf f1) (A2 : Leaf f2) (A3 : Leaf f3) (A4 : Leaf f4) (A5 : Leaf f5) (A6 : Leaf f6) :
    Node q (fun i => pick7 (f0 i) (f1 i) (f2 i) (f3 i) (f4 i) (f5 i) (f6 i) 0#32 (q i)) :=
  ⟨[A0.1, A1.1, A2.1, A3.1, A4.1, A5.1, A6.1], fun i => (pick7_eq ..).trans ((rows_cons A0 (rows_cons A1 (rows_cons A2 (rows_cons A3 (rows_cons A4 (rows_cons A5 (rows_cons A6 (rows_nil i)))))))) (q i))⟩

def node64 (q : Nat → Nat) {f0 f1 f2 f3 f4 f5 f6 f7 f8 f9 f10 f11 f12 f13 f14 f15 f16 f17 f18 f19 f20 f21 f22 f23 f24 f25 f26 f27 f28 f29 f30 f31 f32 f33 f34 f35 f36 f37 f38 f39 f40 f41 f42 f43 f44 f45 f46 f47 f48 f49 f50 f51 f52 f53 f54 f55 f56 f57 f58 f59 f60 f61 f62 f63 : Nat → Word} (A0 : Leaf f0) (A1 : Leaf f1) (A2 : Leaf f2) (A3 : Leaf f3) (A4 : Leaf f4) (A5 : Leaf f5) (A6 : Leaf f6) (A7 : Leaf f7) (A8 : Leaf f8) (A9 : Leaf f9) (A10 : Leaf f10) (A11 : Leaf f11) (A12 : Leaf f12) (A13 : Leaf f13) (A14 : Leaf f14) (A15 : Leaf f15) (A16 : Leaf f16) (A17 : Leaf f17) (A18 : Leaf f18) (A19 : Leaf f19) (A20 : Leaf f20) (A21 : Leaf f21) (A22 : Leaf f22) (A23 : Leaf f23) (A24 : Leaf f24) (A25 : Leaf f25) (A26 : Leaf f26) (A27 : Leaf f27) (A28 : Leaf f28) (A29 : Leaf f29) (A30 : Leaf f30) (A31 : Leaf f31) (A32 : Leaf f32) (A33 : Leaf f33) (A34 : Leaf f34) (A35 : Leaf f35) (A36 : Leaf f36) (A37 : Leaf f37) (A38 : Leaf f38) (A39 : Leaf f39) (A40 : Leaf f40) (A41 : Leaf f41) (A42 : Leaf f42) (A43 : Leaf f43) (A44 : Leaf f44) (A45 : Leaf f45) (A46 : Leaf f46) (A47 : Leaf f47) (A48 : Leaf f48) (A49 : Leaf f49) (A50 : Leaf f50) (A51 : Leaf f51) (A52 : Leaf f52) (A53 : Leaf f53) (A54 : Leaf f54) (A55 : Leaf f55) (A56 : Leaf f56) (A57 : Leaf f57) (A58 : Leaf f58) (A59 : Leaf f59) (A60 : Leaf f60) (A61 : Leaf f61) (A62 : Leaf f62) (A63 : Leaf f63) :
    Node q (fun i => pick64 (f0 i) (f1 i) (f2 i) (f3 i) (f4 i) (f5 i) (f6 i) (f7 i) (f8 i) (f9 i) (f10 i) (f11 i) (f12 i) (f13 i) (f14 i) (f15 i) (f16 i) (f17 i) (f18 i) (f19 i) (f20 i) (f21 i) (f22 i) (f23 i) (f24 i) (f25 i) (f26 i) (f27 i) (f28 i) (f29 i) (f30 i) (f31 i) (f32 i) (f33 i) (f34 i) (f35 i) (f36 i) (f37 i) (f38 i) (f39 i) (f40 i) (f41 i) (f42 i) (f43 i) (f44 i) (f45 i) (f46 i) (f47 i) (f48 i) (f49 i) (f50 i) (f51 i) (f52 i) (f53 i) (f54 i) (f55 i) (f56 i) (f57 i) (f58 i) (f59 i) (f60 i) (f61 i) (f62 i) (f63 i) 0#32 (q i)) :=
  ⟨[A0.1, A1.1, A2.1, A3.1, A4.1, A5.1, A6.1, A7.1, A8.1, A9.1, A10.1, A11.1, A12.1, A13.1, A14.1, A15.1, A16.1, A17.1, A18.1, A19.1, A20.1, A21.1, A22.1, A23.1, A24.1, A25.1, A26.1, A27.1, A28.1, A29.1, A30.1, A31.1, A32.1, A33.1, A34.1, A35.1, A36.1, A37.1, A38.1, A39.1, A40.1, A41.1, A42.1, A43.1, A44.1, A45.1, A46.1, A47.1, A48.1, A49.1, A50.1, A51.1, A52.1, A53.1, A54.1, A55.1, A56.1, A57.1, A58.1, A59.1, A60.1, A61.1, A62.1, A63.1], fun i => (pick64_eq ..).trans ((rows_cons A0 (rows_cons A1 (rows_cons A2 (rows_cons A3 (rows_cons A4 (rows_cons A5 (rows_cons A6 (rows_cons A7 (rows_cons A8 (rows_cons A9 (rows_cons A10 (rows_cons A11 (rows_cons A12 (rows_cons A13 (rows_cons A14 (rows_cons A15 (rows_cons A16 (rows_cons A17 (rows_cons A18 (rows_cons A19 (rows_cons A20 (rows_cons A21 (rows_cons A22 (rows_cons A23 (rows_cons A24 (rows_cons A25 (rows_cons A26 (rows_cons A27 (rows_cons A28 (rows_cons A29 (rows_cons A30 (rows_cons A31 (rows_cons A32 (rows_cons A33 (rows_cons A34 (rows_cons A35 (rows_cons A36 (rows_cons A37 (rows_cons A38 (rows_cons A39 (rows_cons A40 (rows_cons A41 (rows_cons A42 (rows_cons A43 (rows_cons A44 (rows_cons A45 (rows_cons A46 (rows_cons A47 (rows_cons A48 (rows_cons A49 (rows_cons A50 (rows_cons A51 (rows_cons A52 (rows_cons A53 (rows_cons A54 (rows_cons A55 (rows_cons A56 (rows_cons A57 (rows_cons A58 (rows_cons A59 (rows_cons A60 (rows_cons A61 (rows_cons A62 (rows_cons A63 (rows_nil i))))))))))))))))))))))))))))))))))))))))))))))))))))))))))))))))) (q i))⟩

def node128 (q : Nat → Nat) {f0 f1 f2 f3 f4 f5 f6 f7 f8 f9 f10 f11 f12 f13 f14 f15 f16 f17 f18 f19 f20 f21 f22 f23 f24 f25 f26 f27 f28 f29 f30 f31 f32 f33 f34 f35 f36 f37 f38 f39 f40 f41 f42 f43 f44 f45 f46 f47 f48 f49 f50 f51 f52 f53 f54 f55 f56 f57 f58 f59 f60 f61 f62 f63 f64 f65 f66 f67 f68 f69 f70 f71 f72 f73 f74 f75 f76 f77 f78 f79 f80 f81 f82 f83 f84 f85 f86 f87 f88 f89 f90 f91 f92 f93 f94 f95 f96 f97 f98 f99 f100 f101 f102 f103 f104 f105 f106 f107 f108 f109 f110 f111 f112 f113 f114 f115 f116 f117 f118 f119 f120 f121 f122 f123 f124 f125 f126 f127 : Nat → Word} (A0 : Leaf f0) (A1 : Leaf f1) (A2 : Leaf f2) (A3 : Leaf f3) (A4 : Leaf f4) (A5 : Leaf f5) (A6 : Leaf f6) (A7 : Leaf f7) (A8 : Leaf f8) (A9 : Leaf f9) (A10 : Leaf f10) (A11 : Leaf f11) (A12 : Leaf f12) (A13 : Leaf f13) (A14 : Leaf f14) (A15 : Leaf f15) (A16 : Leaf f16) (A17 : Leaf f17) (A18 : Leaf f18) (A19 : Leaf f19) (A20 : Leaf f20) (A21 : Leaf f21) (A22 : Leaf f22) (A23 : Leaf f23) (A24 : Leaf f24) (A25 : Leaf f25) (A26 : Leaf f26) (A27 : Leaf f27) (A28 : Leaf f28) (A29 : Leaf f29) (A30 : Leaf f30) (A31 : Leaf f31) (A32 : Leaf f32) (A33 : Leaf f33) (A34 : Leaf f34) (A35 : Leaf f35) (A36 : Leaf f36) (A37 : Leaf f37) (A38 : Leaf f38) (A39 : Leaf f39) (A40 : Leaf f40) (A41 : Leaf f41) (A42 : Leaf f42) (A43 : Leaf f43) (A44 : Leaf f44) (A45 : Leaf f45) (A46 : Leaf f46) (A47 : Leaf f47) (A48 : Leaf f48) (A49 : Leaf f49) (A50 : Leaf f50) (A51 : Leaf f51) (A52 : Leaf f52) (A53 : Leaf f53) (A54 : Leaf f54) (A55 : Leaf f55) (A56 : Leaf f56) (A57 : Leaf f57) (A58 : Leaf f58) (A59 : Leaf f59) (A60 : Leaf f60) (A61 : Leaf f61) (A62 : Leaf f62) (A63 : Leaf f63) (A64 : Leaf f64) (A65 : Leaf f65) (A66 : Leaf f66) (A67 : Leaf f67) (A68 : Leaf f68) (A69 : Leaf f69) (A70 : Leaf f70) (A71 : Leaf f71) (A72 : Leaf f72) (A73 : Leaf f73) (A74 : Leaf f74) (A75 : Leaf f75) (A76 : Leaf f76) (A77 : Leaf f77) (A78 : Leaf f78) (A79 : Leaf f79) (A80 : Leaf f80) (A81 : Leaf f81) (A82 : Leaf f82) (A83 : Leaf f83) (A84 : Leaf f84) (A85 : Leaf f85) (A86 : Leaf f86) (A87 : Leaf f87) (A88 : Leaf f88) (A89 : Leaf f89) (A90 : Leaf f90) (A91 : Leaf f91) (A92 : Leaf f92) (A93 : Leaf f93) (A94 : Leaf f94) (A95 : Leaf f95) (A96 : Leaf f96) (A97 : Leaf f97) (A98 : Leaf f98) (A99 : Leaf f99) (A100 : Leaf f100) (A101 : Leaf f101) (A102 : Leaf f102) (A103 : Leaf f103) (A104 : Leaf f104) (A105 : Leaf f105) (A106 : Leaf f106) (A107 : Leaf f107) (A108 : Leaf f108) (A109 : Leaf f109) (A110 : Leaf f110) (A111 : Leaf f111) (A112 : Leaf f112) (A113 : Leaf f113) (A114 : Leaf f114) (A115 : Leaf f115) (A116 : Leaf f116) (A117 : Leaf f117) (A118 : Leaf f118) (A119 : Leaf f119) (A120 : Leaf f120) (A121 : Leaf f121) (A122 : Leaf f122) (A123 : Leaf f123) (A124 : Leaf f124) (A125 : Leaf f125) (A126 : Leaf f126) (A127 : Leaf f127) :
    Node q (fun i => pick128 (f0 i) (f1 i) (f2 i) (f3 i) (f4 i) (f5 i) (f6 i) (f7 i) (f8 i) (f9 i) (f10 i) (f11 i) (f12 i) (f13 i) (f14 i) (f15 i) (f16 i) (f17 i) (f18 i) (f19 i) (f20 i) (f21 i) (f22 i) (f23 i) (f24 i) (f25 i) (f26 i) (f27 i) (f28 i) (f29 i) (f30 i) (f31 i) (f32 i) (f33 i) (f34 i) (f35 i) (f36 i) (f37 i) (f38 i) (f39 i) (f40 i) (f41 i) (f42 i) (f43 i) (f44 i) (f45 i) (f46 i) (f47 i) (f48 i) (f49 i) (f50 i) (f51 i) (f52 i) (f53 i) (f54 i) (f55 i) (f56 i) (f57 i) (f58 i) (f59 i) (f60 i) (f61 i) (f62 i) (f63 i) (f64 i) (f65 i) (f66 i) (f67 i) (f68 i) (f69 i) (f70 i) (f71 i) (f72 i) (f73 i) (f74 i) (f75 i) (f76 i) (f77 i) (f78 i) (f79 i) (f80 i) (f81 i) (f82 i) (f83 i) (f84 i) (f85 i) (f86 i) (f87 i) (f88 i) (f89 i) (f90 i) (f91 i) (f92 i) (f93 i) (f94 i) (f95 i) (f96 i) (f97 i) (f98 i) (f99 i) (f100 i) (f101 i) (f102 i) (f103 i) (f104 i) (f105 i) (f106 i) (f107 i) (f108 i) (f109 i) (f110 i) (f111 i) (f112 i) (f113 i) (f114 i) (f115 i) (f116 i) (f117 i) (f118 i) (f119 i) (f120 i) (f121 i) (f122 i) (f123 i) (f124 i) (f125 i) (f126 i) (f127 i) 0#32 (q i)) :=
  ⟨[A0.1, A1.1, A2.1, A3.1, A4.1, A5.1, A6.1, A7.1, A8.1, A9.1, A10.1, A11.1, A12.1, A13.1, A14.1, A15.1, A16.1, A17.1, A18.1, A19.1, A20.1, A21.1, A22.1, A23.1, A24.1, A25.1, A26.1, A27.1, A28.1, A29.1, A30.1, A31.1, A32.1, A33.1, A34.1, A35.1, A36.1, A37.1, A38.1, A39.1, A40.1, A41.1, A42.1, A43.1, A44.1, A45.1, A46.1, A47.1, A48.1, A49.1, A50.1, A51.1, A52.1, A53.1, A54.1, A55.1, A56.1, A57.1, A58.1, A59.1, A60.1, A61.1, A62.1, A63.1, A64.1, A65.1, A66.1, A67.1, A68.1, A69.1, A70.1, A71.1, A72.1, A73.1, A74.1, A75.1, A76.1, A77.1, A78.1, A79.1, A80.1, A81.1, A82.1, A83.1, A84.1, A85.1, A86.1, A87.1, A88.1, A89.1, A90.1, A91.1, A92.1, A93.1, A94.1, A95.1, A96.1, A97.1, A98.1, A99.1, A100.1, A101.1, A102.1, A103.1, A104.1, A105.1, A106.1, A107.1, A108.1, A109.1, A110.1, A111.1, A112.1, A113.1, A114.1, A115.1, A116.1, A117.1, A118.1, A119.1, A120.1, A121.1, A122.1, A123.1, A124.1, A125.1, A126.1, A127.1], fun i => (pick128_eq ..).trans ((rows_cons A0 (rows_cons A1 (rows_cons A2 (rows_cons A3 (rows_cons A4 (rows_cons A5 (rows_cons A6 (rows_cons A7 (rows_cons A8 (rows_cons A9 (rows_cons A10 (rows_cons A11 (rows_cons A12 (rows_cons A13 (rows_cons A14 (rows_cons A15 (rows_cons A16 (rows_cons A17 (rows_cons A18 (rows_cons A19 (rows_cons A20 (rows_cons A21 (rows_cons A22 (rows_cons A23 (rows_cons A24 (rows_cons A25 (rows_cons A26 (rows_cons A27 (rows_cons A28 (rows_cons A29 (rows_cons A30 (rows_cons A31 (rows_cons A32 (rows_cons A33 (rows_cons A34 (rows_cons A35 (rows_cons A36 (rows_cons A37 (rows_cons A38 (rows_cons A39 (rows_cons A40 (rows_cons A41 (rows_cons A42 (rows_cons A43 (rows_cons A44 (rows_cons A45 (rows_cons A46 (rows_cons A47 (rows_cons A48 (rows_cons A49 (rows_cons A50 (rows_cons A51 (rows_cons A52 (rows_cons A53 (rows_cons A54 (rows_cons A55 (rows_cons A56 (rows_cons A57 (rows_cons A58 (rows_cons A59 (rows_cons A60 (rows_cons A61 (rows_cons A62 (rows_cons A63 (rows_cons A64 (rows_cons A65 (rows_cons A66 (rows_cons A67 (rows_cons A68 (rows_cons A69 (rows_cons A70 (rows_cons A71 (rows_cons A72 (rows_cons A73 (rows_cons A74 (rows_cons A75 (rows_cons A76 (rows_cons A77 (rows_cons A78 (rows_cons A79 (rows_cons A80 (rows_cons A81 (rows_cons A82 (rows_cons A83 (rows_cons A84 (rows_cons A85 (rows_cons A86 (rows_cons A87 (rows_cons A88 (rows_cons A89 (rows_cons A90 (rows_cons A91 (rows_cons A92 (rows_cons A93 (rows_cons A94 (rows_cons A95 (rows_cons A96 (rows_cons A97 (rows_cons A98 (rows_cons A99 (rows_cons A100 (rows_cons A101 (rows_cons A102 (rows_cons A103 (rows_cons A104 (rows_cons A105 (rows_cons A106 (rows_cons A107 (rows_cons A108 (rows_cons A109 (rows_cons A110 (rows_cons A111 (rows_cons A112 (rows_cons A113 (rows_cons A114 (rows_cons A115 (rows_cons A116 (rows_cons A117 (rows_cons A118 (rows_cons A119 (rows_cons A120 (rows_cons A121 (rows_cons A122 (rows_cons A123 (rows_cons A124 (rows_cons A125 (rows_cons A126 (rows_cons A127 (rows_nil i))))))))))))))))))))))))))))))))))))))))))))))))))))))))))))))))))))))))))))))))))))))))))))))))))))))))))))))))))))))))))))))))) (q i))⟩

end Cert.Proof.Rows

end
-- ==== Proof.Leaves.lean ====
/-
  The kernel's two tables as lists: the slot table's 391 rows of 128 words (`rows0`), the prefix table's 64 (`rows1`).
-/
module

public import proofs.«01_k».proof.KernelIdeal
public import proofs.«01_k».proof.Proof.Rows

@[expose] public section

set_option maxRecDepth 100000
set_option maxHeartbeats 4000000

noncomputable section

namespace Cert.Proof.Leaves

open Cert.KernelIdeal Cert.Proof.Rows

def a0 : Leaf lit0t0_0 := leaf128 ..
def a1 : Leaf lit0t0_1 := leaf128 ..
def a2 : Leaf lit0t0_2 := leaf128 ..
def a3 : Leaf lit0t0_3 := leaf128 ..
def a4 : Leaf lit0t0_4 := leaf128 ..
def a5 : Leaf lit0t0_5 := leaf128 ..
def a6 : Leaf lit0t0_6 := leaf128 ..
def a7 : Leaf lit0t0_7 := leaf128 ..
def a8 : Leaf lit0t0_8 := leaf128 ..
def a9 : Leaf lit0t0_9 := leaf128 ..
def a10 : Leaf lit0t0_10 := leaf128 ..
def a11 : Leaf lit0t0_11 := leaf128 ..
def a12 : Leaf lit0t0_12 := leaf128 ..
def a13 : Leaf lit0t0_13 := leaf128 ..
def a14 : Leaf lit0t0_14 := leaf128 ..
def a15 : Leaf lit0t0_15 := leaf128 ..
def a16 : Leaf lit0t0_16 := leaf128 ..
def a17 : Leaf lit0t0_17 := leaf128 ..
def a18 : Leaf lit0t0_18 := leaf128 ..
def a19 : Leaf lit0t0_19 := leaf128 ..
def a20 : Leaf lit0t0_20 := leaf128 ..
def a21 : Leaf lit0t0_21 := leaf128 ..
def a22 : Leaf lit0t0_22 := leaf128 ..
def a23 : Leaf lit0t0_23 := leaf128 ..
def a24 : Leaf lit0t0_24 := leaf128 ..
def a25 : Leaf lit0t0_25 := leaf128 ..
def a26 : Leaf lit0t0_26 := leaf128 ..
def a27 : Leaf lit0t0_27 := leaf128 ..
def a28 : Leaf lit0t0_28 := leaf128 ..
def a29 : Leaf lit0t0_29 := leaf128 ..
def a30 : Leaf lit0t0_30 := leaf128 ..
def a31 : Leaf lit0t0_31 := leaf128 ..
def a32 : Leaf lit0t0_32 := leaf128 ..
def a33 : Leaf lit0t0_33 := leaf128 ..
def a34 : Leaf lit0t0_34 := leaf128 ..
def a35 : Leaf lit0t0_35 := leaf128 ..
def a36 : Leaf lit0t0_36 := leaf128 ..
def a37 : Leaf lit0t0_37 := leaf128 ..
def a38 : Leaf lit0t0_38 := leaf128 ..
def a39 : Leaf lit0t0_39 := leaf128 ..
def a40 : Leaf lit0t0_40 := leaf128 ..
def a41 : Leaf lit0t0_41 := leaf128 ..
def a42 : Leaf lit0t0_42 := leaf128 ..
def a43 : Leaf lit0t0_43 := leaf128 ..
def a44 : Leaf lit0t0_44 := leaf128 ..
def a45 : Leaf lit0t0_45 := leaf128 ..
def a46 : Leaf lit0t0_46 := leaf128 ..
def a47 : Leaf lit0t0_47 := leaf128 ..
def a48 : Leaf lit0t0_48 := leaf128 ..
def a49 : Leaf lit0t0_49 := leaf128 ..
def a50 : Leaf lit0t0_50 := leaf128 ..
def a51 : Leaf lit0t0_51 := leaf128 ..
def a52 : Leaf lit0t0_52 := leaf128 ..
def a53 : Leaf lit0t0_53 := leaf128 ..
def a54 : Leaf lit0t0_54 := leaf128 ..
def a55 : Leaf lit0t0_55 := leaf128 ..
def a56 : Leaf lit0t0_56 := leaf128 ..
def a57 : Leaf lit0t0_57 := leaf128 ..
def a58 : Leaf lit0t0_58 := leaf128 ..
def a59 : Leaf lit0t0_59 := leaf128 ..
def a60 : Leaf lit0t0_60 := leaf128 ..
def a61 : Leaf lit0t0_61 := leaf128 ..
def a62 : Leaf lit0t0_62 := leaf128 ..
def a63 : Leaf lit0t0_63 := leaf128 ..
def a64 : Leaf lit0t0_64 := leaf128 ..
def a65 : Leaf lit0t0_65 := leaf128 ..
def a66 : Leaf lit0t0_66 := leaf128 ..
def a67 : Leaf lit0t0_67 := leaf128 ..
def a68 : Leaf lit0t0_68 := leaf128 ..
def a69 : Leaf lit0t0_69 := leaf128 ..
def a70 : Leaf lit0t0_70 := leaf128 ..
def a71 : Leaf lit0t0_71 := leaf128 ..
def a72 : Leaf lit0t0_72 := leaf128 ..
def a73 : Leaf lit0t0_73 := leaf128 ..
def a74 : Leaf lit0t0_74 := leaf128 ..
def a75 : Leaf lit0t0_75 := leaf128 ..
def a76 : Leaf lit0t0_76 := leaf128 ..
def a77 : Leaf lit0t0_77 := leaf128 ..
def a78 : Leaf lit0t0_78 := leaf128 ..
def a79 : Leaf lit0t0_79 := leaf128 ..
def a80 : Leaf lit0t0_80 := leaf128 ..
def a81 : Leaf lit0t0_81 := leaf128 ..
def a82 : Leaf lit0t0_82 := leaf128 ..
def a83 : Leaf lit0t0_83 := leaf128 ..
def a84 : Leaf lit0t0_84 := leaf128 ..
def a85 : Leaf lit0t0_85 := leaf128 ..
def a86 : Leaf lit0t0_86 := leaf128 ..
def a87 : Leaf lit0t0_87 := leaf128 ..
def a88 : Leaf lit0t0_88 := leaf128 ..
def a89 : Leaf lit0t0_89 := leaf128 ..
def a90 : Leaf lit0t0_90 := leaf128 ..
def a91 : Leaf lit0t0_91 := leaf128 ..
def a92 : Leaf lit0t0_92 := leaf128 ..
def a93 : Leaf lit0t0_93 := leaf128 ..
def a94 : Leaf lit0t0_94 := leaf128 ..
def a95 : Leaf lit0t0_95 := leaf128 ..
def a96 : Leaf lit0t0_96 := leaf128 ..
def a97 : Leaf lit0t0_97 := leaf128 ..
def a98 : Leaf lit0t0_98 := leaf128 ..
def a99 : Leaf lit0t0_99 := leaf128 ..
def a100 : Leaf lit0t0_100 := leaf128 ..
def a101 : Leaf lit0t0_101 := leaf128 ..
def a102 : Leaf lit0t0_102 := leaf128 ..
def a103 : Leaf lit0t0_103 := leaf128 ..
def a104 : Leaf lit0t0_104 := leaf128 ..
def a105 : Leaf lit0t0_105 := leaf128 ..
def a106 : Leaf lit0t0_106 := leaf128 ..
def a107 : Leaf lit0t0_107 := leaf128 ..
def a108 : Leaf lit0t0_108 := leaf128 ..
def a109 : Leaf lit0t0_109 := leaf128 ..
def a110 : Leaf lit0t0_110 := leaf128 ..
def a111 : Leaf lit0t0_111 := leaf128 ..
def a112 : Leaf lit0t0_112 := leaf128 ..
def a113 : Leaf lit0t0_113 := leaf128 ..
def a114 : Leaf lit0t0_114 := leaf128 ..
def a115 : Leaf lit0t0_115 := leaf128 ..
def a116 : Leaf lit0t0_116 := leaf128 ..
def a117 : Leaf lit0t0_117 := leaf128 ..
def a118 : Leaf lit0t0_118 := leaf128 ..
def a119 : Leaf lit0t0_119 := leaf128 ..
def a120 : Leaf lit0t0_120 := leaf128 ..
def a121 : Leaf lit0t0_121 := leaf128 ..
def a122 : Leaf lit0t0_122 := leaf128 ..
def a123 : Leaf lit0t0_123 := leaf128 ..
def a124 : Leaf lit0t0_124 := leaf128 ..
def a125 : Leaf lit0t0_125 := leaf128 ..
def a126 : Leaf lit0t0_126 := leaf128 ..
def a127 : Leaf lit0t0_127 := leaf128 ..
def a128 : Leaf lit0t0_128 := leaf128 ..
def a129 : Leaf lit0t0_129 := leaf128 ..
def a130 : Leaf lit0t0_130 := leaf128 ..
def a131 : Leaf lit0t0_131 := leaf128 ..
def a132 : Leaf lit0t0_132 := leaf128 ..
def a133 : Leaf lit0t0_133 := leaf128 ..
def a134 : Leaf lit0t0_134 := leaf128 ..
def a135 : Leaf lit0t0_135 := leaf128 ..
def a136 : Leaf lit0t0_136 := leaf128 ..
def a137 : Leaf lit0t0_137 := leaf128 ..
def a138 : Leaf lit0t0_138 := leaf128 ..
def a139 : Leaf lit0t0_139 := leaf128 ..
def a140 : Leaf lit0t0_140 := leaf128 ..
def a141 : Leaf lit0t0_141 := leaf128 ..
def a142 : Leaf lit0t0_142 := leaf128 ..
def a143 : Leaf lit0t0_143 := leaf128 ..
def a144 : Leaf lit0t0_144 := leaf128 ..
def a145 : Leaf lit0t0_145 := leaf128 ..
def a146 : Leaf lit0t0_146 := leaf128 ..
def a147 : Leaf lit0t0_147 := leaf128 ..
def a148 : Leaf lit0t0_148 := leaf128 ..
def a149 : Leaf lit0t0_149 := leaf128 ..
def a150 : Leaf lit0t0_150 := leaf128 ..
def a151 : Leaf lit0t0_151 := leaf128 ..
def a152 : Leaf lit0t0_152 := leaf128 ..
def a153 : Leaf lit0t0_153 := leaf128 ..
def a154 : Leaf lit0t0_154 := leaf128 ..
def a155 : Leaf lit0t0_155 := leaf128 ..
def a156 : Leaf lit0t0_156 := leaf128 ..
def a157 : Leaf lit0t0_157 := leaf128 ..
def a158 : Leaf lit0t0_158 := leaf128 ..
def a159 : Leaf lit0t0_159 := leaf128 ..
def a160 : Leaf lit0t0_160 := leaf128 ..
def a161 : Leaf lit0t0_161 := leaf128 ..
def a162 : Leaf lit0t0_162 := leaf128 ..
def a163 : Leaf lit0t0_163 := leaf128 ..
def a164 : Leaf lit0t0_164 := leaf128 ..
def a165 : Leaf lit0t0_165 := leaf128 ..
def a166 : Leaf lit0t0_166 := leaf128 ..
def a167 : Leaf lit0t0_167 := leaf128 ..
def a168 : Leaf lit0t0_168 := leaf128 ..
def a169 : Leaf lit0t0_169 := leaf128 ..
def a170 : Leaf lit0t0_170 := leaf128 ..
def a171 : Leaf lit0t0_171 := leaf128 ..
def a172 : Leaf lit0t0_172 := leaf128 ..
def a173 : Leaf lit0t0_173 := leaf128 ..
def a174 : Leaf lit0t0_174 := leaf128 ..
def a175 : Leaf lit0t0_175 := leaf128 ..
def a176 : Leaf lit0t0_176 := leaf128 ..
def a177 : Leaf lit0t0_177 := leaf128 ..
def a178 : Leaf lit0t0_178 := leaf128 ..
def a179 : Leaf lit0t0_179 := leaf128 ..
def a180 : Leaf lit0t0_180 := leaf128 ..
def a181 : Leaf lit0t0_181 := leaf128 ..
def a182 : Leaf lit0t0_182 := leaf128 ..
def a183 : Leaf lit0t0_183 := leaf128 ..
def a184 : Leaf lit0t0_184 := leaf128 ..
def a185 : Leaf lit0t0_185 := leaf128 ..
def a186 : Leaf lit0t0_186 := leaf128 ..
def a187 : Leaf lit0t0_187 := leaf128 ..
def a188 : Leaf lit0t0_188 := leaf128 ..
def a189 : Leaf lit0t0_189 := leaf128 ..
def a190 : Leaf lit0t0_190 := leaf128 ..
def a191 : Leaf lit0t0_191 := leaf128 ..
def a192 : Leaf lit0t0_192 := leaf128 ..
def a193 : Leaf lit0t0_193 := leaf128 ..
def a194 : Leaf lit0t0_194 := leaf128 ..
def a195 : Leaf lit0t0_195 := leaf128 ..
def a196 : Leaf lit0t0_196 := leaf128 ..
def a197 : Leaf lit0t0_197 := leaf128 ..
def a198 : Leaf lit0t0_198 := leaf128 ..
def a199 : Leaf lit0t0_199 := leaf128 ..
def a200 : Leaf lit0t0_200 := leaf128 ..
def a201 : Leaf lit0t0_201 := leaf128 ..
def a202 : Leaf lit0t0_202 := leaf128 ..
def a203 : Leaf lit0t0_203 := leaf128 ..
def a204 : Leaf lit0t0_204 := leaf128 ..
def a205 : Leaf lit0t0_205 := leaf128 ..
def a206 : Leaf lit0t0_206 := leaf128 ..
def a207 : Leaf lit0t0_207 := leaf128 ..
def a208 : Leaf lit0t0_208 := leaf128 ..
def a209 : Leaf lit0t0_209 := leaf128 ..
def a210 : Leaf lit0t0_210 := leaf128 ..
def a211 : Leaf lit0t0_211 := leaf128 ..
def a212 : Leaf lit0t0_212 := leaf128 ..
def a213 : Leaf lit0t0_213 := leaf128 ..
def a214 : Leaf lit0t0_214 := leaf128 ..
def a215 : Leaf lit0t0_215 := leaf128 ..
def a216 : Leaf lit0t0_216 := leaf128 ..
def a217 : Leaf lit0t0_217 := leaf128 ..
def a218 : Leaf lit0t0_218 := leaf128 ..
def a219 : Leaf lit0t0_219 := leaf128 ..
def a220 : Leaf lit0t0_220 := leaf128 ..
def a221 : Leaf lit0t0_221 := leaf128 ..
def a222 : Leaf lit0t0_222 := leaf128 ..
def a223 : Leaf lit0t0_223 := leaf128 ..
def a224 : Leaf lit0t0_224 := leaf128 ..
def a225 : Leaf lit0t0_225 := leaf128 ..
def a226 : Leaf lit0t0_226 := leaf128 ..
def a227 : Leaf lit0t0_227 := leaf128 ..
def a228 : Leaf lit0t0_228 := leaf128 ..
def a229 : Leaf lit0t0_229 := leaf128 ..
def a230 : Leaf lit0t0_230 := leaf128 ..
def a231 : Leaf lit0t0_231 := leaf128 ..
def a232 : Leaf lit0t0_232 := leaf128 ..
def a233 : Leaf lit0t0_233 := leaf128 ..
def a234 : Leaf lit0t0_234 := leaf128 ..
def a235 : Leaf lit0t0_235 := leaf128 ..
def a236 : Leaf lit0t0_236 := leaf128 ..
def a237 : Leaf lit0t0_237 := leaf128 ..
def a238 : Leaf lit0t0_238 := leaf128 ..
def a239 : Leaf lit0t0_239 := leaf128 ..
def a240 : Leaf lit0t0_240 := leaf128 ..
def a241 : Leaf lit0t0_241 := leaf128 ..
def a242 : Leaf lit0t0_242 := leaf128 ..
def a243 : Leaf lit0t0_243 := leaf128 ..
def a244 : Leaf lit0t0_244 := leaf128 ..
def a245 : Leaf lit0t0_245 := leaf128 ..
def a246 : Leaf lit0t0_246 := leaf128 ..
def a247 : Leaf lit0t0_247 := leaf128 ..
def a248 : Leaf lit0t0_248 := leaf128 ..
def a249 : Leaf lit0t0_249 := leaf128 ..
def a250 : Leaf lit0t0_250 := leaf128 ..
def a251 : Leaf lit0t0_251 := leaf128 ..
def a252 : Leaf lit0t0_252 := leaf128 ..
def a253 : Leaf lit0t0_253 := leaf128 ..
def a254 : Leaf lit0t0_254 := leaf128 ..
def a255 : Leaf lit0t0_255 := leaf128 ..
def a256 : Leaf lit0t0_256 := leaf128 ..
def a257 : Leaf lit0t0_257 := leaf128 ..
def a258 : Leaf lit0t0_258 := leaf128 ..
def a259 : Leaf lit0t0_259 := leaf128 ..
def a260 : Leaf lit0t0_260 := leaf128 ..
def a261 : Leaf lit0t0_261 := leaf128 ..
def a262 : Leaf lit0t0_262 := leaf128 ..
def a263 : Leaf lit0t0_263 := leaf128 ..
def a264 : Leaf lit0t0_264 := leaf128 ..
def a265 : Leaf lit0t0_265 := leaf128 ..
def a266 : Leaf lit0t0_266 := leaf128 ..
def a267 : Leaf lit0t0_267 := leaf128 ..
def a268 : Leaf lit0t0_268 := leaf128 ..
def a269 : Leaf lit0t0_269 := leaf128 ..
def a270 : Leaf lit0t0_270 := leaf128 ..
def a271 : Leaf lit0t0_271 := leaf128 ..
def a272 : Leaf lit0t0_272 := leaf128 ..
def a273 : Leaf lit0t0_273 := leaf128 ..
def a274 : Leaf lit0t0_274 := leaf128 ..
def a275 : Leaf lit0t0_275 := leaf128 ..
def a276 : Leaf lit0t0_276 := leaf128 ..
def a277 : Leaf lit0t0_277 := leaf128 ..
def a278 : Leaf lit0t0_278 := leaf128 ..
def a279 : Leaf lit0t0_279 := leaf128 ..
def a280 : Leaf lit0t0_280 := leaf128 ..
def a281 : Leaf lit0t0_281 := leaf128 ..
def a282 : Leaf lit0t0_282 := leaf128 ..
def a283 : Leaf lit0t0_283 := leaf128 ..
def a284 : Leaf lit0t0_284 := leaf128 ..
def a285 : Leaf lit0t0_285 := leaf128 ..
def a286 : Leaf lit0t0_286 := leaf128 ..
def a287 : Leaf lit0t0_287 := leaf128 ..
def a288 : Leaf lit0t0_288 := leaf128 ..
def a289 : Leaf lit0t0_289 := leaf128 ..
def a290 : Leaf lit0t0_290 := leaf128 ..
def a291 : Leaf lit0t0_291 := leaf128 ..
def a292 : Leaf lit0t0_292 := leaf128 ..
def a293 : Leaf lit0t0_293 := leaf128 ..
def a294 : Leaf lit0t0_294 := leaf128 ..
def a295 : Leaf lit0t0_295 := leaf128 ..
def a296 : Leaf lit0t0_296 := leaf128 ..
def a297 : Leaf lit0t0_297 := leaf128 ..
def a298 : Leaf lit0t0_298 := leaf128 ..
def a299 : Leaf lit0t0_299 := leaf128 ..
def a300 : Leaf lit0t0_300 := leaf128 ..
def a301 : Leaf lit0t0_301 := leaf128 ..
def a302 : Leaf lit0t0_302 := leaf128 ..
def a303 : Leaf lit0t0_303 := leaf128 ..
def a304 : Leaf lit0t0_304 := leaf128 ..
def a305 : Leaf lit0t0_305 := leaf128 ..
def a306 : Leaf lit0t0_306 := leaf128 ..
def a307 : Leaf lit0t0_307 := leaf128 ..
def a308 : Leaf lit0t0_308 := leaf128 ..
def a309 : Leaf lit0t0_309 := leaf128 ..
def a310 : Leaf lit0t0_310 := leaf128 ..
def a311 : Leaf lit0t0_311 := leaf128 ..
def a312 : Leaf lit0t0_312 := leaf128 ..
def a313 : Leaf lit0t0_313 := leaf128 ..
def a314 : Leaf lit0t0_314 := leaf128 ..
def a315 : Leaf lit0t0_315 := leaf128 ..
def a316 : Leaf lit0t0_316 := leaf128 ..
def a317 : Leaf lit0t0_317 := leaf128 ..
def a318 : Leaf lit0t0_318 := leaf128 ..
def a319 : Leaf lit0t0_319 := leaf128 ..
def a320 : Leaf lit0t0_320 := leaf128 ..
def a321 : Leaf lit0t0_321 := leaf128 ..
def a322 : Leaf lit0t0_322 := leaf128 ..
def a323 : Leaf lit0t0_323 := leaf128 ..
def a324 : Leaf lit0t0_324 := leaf128 ..
def a325 : Leaf lit0t0_325 := leaf128 ..
def a326 : Leaf lit0t0_326 := leaf128 ..
def a327 : Leaf lit0t0_327 := leaf128 ..
def a328 : Leaf lit0t0_328 := leaf128 ..
def a329 : Leaf lit0t0_329 := leaf128 ..
def a330 : Leaf lit0t0_330 := leaf128 ..
def a331 : Leaf lit0t0_331 := leaf128 ..
def a332 : Leaf lit0t0_332 := leaf128 ..
def a333 : Leaf lit0t0_333 := leaf128 ..
def a334 : Leaf lit0t0_334 := leaf128 ..
def a335 : Leaf lit0t0_335 := leaf128 ..
def a336 : Leaf lit0t0_336 := leaf128 ..
def a337 : Leaf lit0t0_337 := leaf128 ..
def a338 : Leaf lit0t0_338 := leaf128 ..
def a339 : Leaf lit0t0_339 := leaf128 ..
def a340 : Leaf lit0t0_340 := leaf128 ..
def a341 : Leaf lit0t0_341 := leaf128 ..
def a342 : Leaf lit0t0_342 := leaf128 ..
def a343 : Leaf lit0t0_343 := leaf128 ..
def a344 : Leaf lit0t0_344 := leaf128 ..
def a345 : Leaf lit0t0_345 := leaf128 ..
def a346 : Leaf lit0t0_346 := leaf128 ..
def a347 : Leaf lit0t0_347 := leaf128 ..
def a348 : Leaf lit0t0_348 := leaf128 ..
def a349 : Leaf lit0t0_349 := leaf128 ..
def a350 : Leaf lit0t0_350 := leaf128 ..
def a351 : Leaf lit0t0_351 := leaf128 ..
def a352 : Leaf lit0t0_352 := leaf128 ..
def a353 : Leaf lit0t0_353 := leaf128 ..
def a354 : Leaf lit0t0_354 := leaf128 ..
def a355 : Leaf lit0t0_355 := leaf128 ..
def a356 : Leaf lit0t0_356 := leaf128 ..
def a357 : Leaf lit0t0_357 := leaf128 ..
def a358 : Leaf lit0t0_358 := leaf128 ..
def a359 : Leaf lit0t0_359 := leaf128 ..
def a360 : Leaf lit0t0_360 := leaf128 ..
def a361 : Leaf lit0t0_361 := leaf128 ..
def a362 : Leaf lit0t0_362 := leaf128 ..
def a363 : Leaf lit0t0_363 := leaf128 ..
def a364 : Leaf lit0t0_364 := leaf128 ..
def a365 : Leaf lit0t0_365 := leaf128 ..
def a366 : Leaf lit0t0_366 := leaf128 ..
def a367 : Leaf lit0t0_367 := leaf128 ..
def a368 : Leaf lit0t0_368 := leaf128 ..
def a369 : Leaf lit0t0_369 := leaf128 ..
def a370 : Leaf lit0t0_370 := leaf128 ..
def a371 : Leaf lit0t0_371 := leaf128 ..
def a372 : Leaf lit0t0_372 := leaf128 ..
def a373 : Leaf lit0t0_373 := leaf128 ..
def a374 : Leaf lit0t0_374 := leaf128 ..
def a375 : Leaf lit0t0_375 := leaf128 ..
def a376 : Leaf lit0t0_376 := leaf128 ..
def a377 : Leaf lit0t0_377 := leaf128 ..
def a378 : Leaf lit0t0_378 := leaf128 ..
def a379 : Leaf lit0t0_379 := leaf128 ..
def a380 : Leaf lit0t0_380 := leaf128 ..
def a381 : Leaf lit0t0_381 := leaf128 ..
def a382 : Leaf lit0t0_382 := leaf128 ..
def a383 : Leaf lit0t0_383 := leaf128 ..
def a384 : Leaf lit0t0_384 := leaf128 ..
def a385 : Leaf lit0t0_385 := leaf128 ..
def a386 : Leaf lit0t0_386 := leaf128 ..
def a387 : Leaf lit0t0_387 := leaf128 ..
def a388 : Leaf lit0t0_388 := leaf128 ..
def a389 : Leaf lit0t0_389 := leaf128 ..
def a390 : Leaf lit0t0_390 := leaf80 ..
def b0 : Leaf lit1t0_0 := leaf128 ..
def b1 : Leaf lit1t0_1 := leaf128 ..
def b2 : Leaf lit1t0_2 := leaf128 ..
def b3 : Leaf lit1t0_3 := leaf128 ..
def b4 : Leaf lit1t0_4 := leaf128 ..
def b5 : Leaf lit1t0_5 := leaf128 ..
def b6 : Leaf lit1t0_6 := leaf128 ..
def b7 : Leaf lit1t0_7 := leaf128 ..
def b8 : Leaf lit1t0_8 := leaf128 ..
def b9 : Leaf lit1t0_9 := leaf128 ..
def b10 : Leaf lit1t0_10 := leaf128 ..
def b11 : Leaf lit1t0_11 := leaf128 ..
def b12 : Leaf lit1t0_12 := leaf128 ..
def b13 : Leaf lit1t0_13 := leaf128 ..
def b14 : Leaf lit1t0_14 := leaf128 ..
def b15 : Leaf lit1t0_15 := leaf128 ..
def b16 : Leaf lit1t0_16 := leaf128 ..
def b17 : Leaf lit1t0_17 := leaf128 ..
def b18 : Leaf lit1t0_18 := leaf128 ..
def b19 : Leaf lit1t0_19 := leaf128 ..
def b20 : Leaf lit1t0_20 := leaf128 ..
def b21 : Leaf lit1t0_21 := leaf128 ..
def b22 : Leaf lit1t0_22 := leaf128 ..
def b23 : Leaf lit1t0_23 := leaf128 ..
def b24 : Leaf lit1t0_24 := leaf128 ..
def b25 : Leaf lit1t0_25 := leaf128 ..
def b26 : Leaf lit1t0_26 := leaf128 ..
def b27 : Leaf lit1t0_27 := leaf128 ..
def b28 : Leaf lit1t0_28 := leaf128 ..
def b29 : Leaf lit1t0_29 := leaf128 ..
def b30 : Leaf lit1t0_30 := leaf128 ..
def b31 : Leaf lit1t0_31 := leaf128 ..
def b32 : Leaf lit1t0_32 := leaf128 ..
def b33 : Leaf lit1t0_33 := leaf128 ..
def b34 : Leaf lit1t0_34 := leaf128 ..
def b35 : Leaf lit1t0_35 := leaf128 ..
def b36 : Leaf lit1t0_36 := leaf128 ..
def b37 : Leaf lit1t0_37 := leaf128 ..
def b38 : Leaf lit1t0_38 := leaf128 ..
def b39 : Leaf lit1t0_39 := leaf128 ..
def b40 : Leaf lit1t0_40 := leaf128 ..
def b41 : Leaf lit1t0_41 := leaf128 ..
def b42 : Leaf lit1t0_42 := leaf128 ..
def b43 : Leaf lit1t0_43 := leaf128 ..
def b44 : Leaf lit1t0_44 := leaf128 ..
def b45 : Leaf lit1t0_45 := leaf128 ..
def b46 : Leaf lit1t0_46 := leaf128 ..
def b47 : Leaf lit1t0_47 := leaf128 ..
def b48 : Leaf lit1t0_48 := leaf128 ..
def b49 : Leaf lit1t0_49 := leaf128 ..
def b50 : Leaf lit1t0_50 := leaf128 ..
def b51 : Leaf lit1t0_51 := leaf128 ..
def b52 : Leaf lit1t0_52 := leaf128 ..
def b53 : Leaf lit1t0_53 := leaf128 ..
def b54 : Leaf lit1t0_54 := leaf128 ..
def b55 : Leaf lit1t0_55 := leaf128 ..
def b56 : Leaf lit1t0_56 := leaf128 ..
def b57 : Leaf lit1t0_57 := leaf128 ..
def b58 : Leaf lit1t0_58 := leaf128 ..
def b59 : Leaf lit1t0_59 := leaf128 ..
def b60 : Leaf lit1t0_60 := leaf128 ..
def b61 : Leaf lit1t0_61 := leaf128 ..
def b62 : Leaf lit1t0_62 := leaf128 ..
def b63 : Leaf lit1t0_63 := leaf128 ..
def n0 : Node (fun i => i / 128 % 128) lit0t1_0 := node128 _ a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127
def n1 : Node (fun i => i / 128 % 128) lit0t1_1 := node128 _ a128 a129 a130 a131 a132 a133 a134 a135 a136 a137 a138 a139 a140 a141 a142 a143 a144 a145 a146 a147 a148 a149 a150 a151 a152 a153 a154 a155 a156 a157 a158 a159 a160 a161 a162 a163 a164 a165 a166 a167 a168 a169 a170 a171 a172 a173 a174 a175 a176 a177 a178 a179 a180 a181 a182 a183 a184 a185 a186 a187 a188 a189 a190 a191 a192 a193 a194 a195 a196 a197 a198 a199 a200 a201 a202 a203 a204 a205 a206 a207 a208 a209 a210 a211 a212 a213 a214 a215 a216 a217 a218 a219 a220 a221 a222 a223 a224 a225 a226 a227 a228 a229 a230 a231 a232 a233 a234 a235 a236 a237 a238 a239 a240 a241 a242 a243 a244 a245 a246 a247 a248 a249 a250 a251 a252 a253 a254 a255
def n2 : Node (fun i => i / 128 % 128) lit0t1_2 := node128 _ a256 a257 a258 a259 a260 a261 a262 a263 a264 a265 a266 a267 a268 a269 a270 a271 a272 a273 a274 a275 a276 a277 a278 a279 a280 a281 a282 a283 a284 a285 a286 a287 a288 a289 a290 a291 a292 a293 a294 a295 a296 a297 a298 a299 a300 a301 a302 a303 a304 a305 a306 a307 a308 a309 a310 a311 a312 a313 a314 a315 a316 a317 a318 a319 a320 a321 a322 a323 a324 a325 a326 a327 a328 a329 a330 a331 a332 a333 a334 a335 a336 a337 a338 a339 a340 a341 a342 a343 a344 a345 a346 a347 a348 a349 a350 a351 a352 a353 a354 a355 a356 a357 a358 a359 a360 a361 a362 a363 a364 a365 a366 a367 a368 a369 a370 a371 a372 a373 a374 a375 a376 a377 a378 a379 a380 a381 a382 a383
def n3 : Node (fun i => i / 128 % 128) lit0t1_3 := node7 _ a384 a385 a386 a387 a388 a389 a390
def m0 : Node (fun i => i / 128) lit1t := node64 _ b0 b1 b2 b3 b4 b5 b6 b7 b8 b9 b10 b11 b12 b13 b14 b15 b16 b17 b18 b19 b20 b21 b22 b23 b24 b25 b26 b27 b28 b29 b30 b31 b32 b33 b34 b35 b36 b37 b38 b39 b40 b41 b42 b43 b44 b45 b46 b47 b48 b49 b50 b51 b52 b53 b54 b55 b56 b57 b58 b59 b60 b61 b62 b63

/-- The slot table's entry `w`, by its thirds. -/
theorem lit0t_eq (w : Nat) : lit0t w = nth 0#32 (nth [] (nth [] [n0.1, n1.1, n2.1, n3.1] (w / 16384)) (w / 128 % 128)) (w % 128) := by
  unfold lit0t
  split
  · rw [‹w / 16384 = 0›]; exact n0.2 w
  · rw [‹w / 16384 = 1›]; exact n1.2 w
  · rw [‹w / 16384 = 2›]; exact n2.2 w
  · rw [‹w / 16384 = 3›]; exact n3.2 w
  · simp only [imp_false] at *
    rw [nth_ge [] [n0.1, n1.1, n2.1, n3.1] (w / 16384) (by simp only [List.length_cons, List.length_nil]; omega)]; rfl

/-- The prefix table's entry `s`. -/
theorem lit1t_eq (s : Nat) : lit1t s = nth 0#32 (nth [] m0.1 (s / 128)) (s % 128) := m0.2 s

end Cert.Proof.Leaves

end
-- ==== Proof.Key.lean ====
/-
  The scores as numbers. The reference draws one uniform score per item: the item's number enters twenty rounds of the
  threefry generator under a fixed key, and the upper 23 bits of what comes out are the score's mantissa. Here that
  mantissa is a function of natural numbers (`mantN`), written so that it evaluates quickly; an item's `keyN` orders
  items the way the reference's selection does, larger mantissa first and among equals the smaller item first. `all2`
  tests a range of numbers by halving.
-/
module

public import Idealize.ShloMosaic.PureOps

@[expose] public section

namespace Cert.Proof.Key

/-- Addition modulo 2^32. -/
def addN (x y : Nat) : Nat := Nat.land (Nat.add x y) 4294967295
/-- Rotation of a 32-bit word to the left. -/
def rotN (x r : Nat) : Nat := Nat.land (Nat.lor (Nat.shiftLeft x r) (Nat.shiftRight x (Nat.sub 32 r))) 4294967295
/-- One round on the pair `(a, b)`. -/
def rndN (r a b : Nat) (k : Nat → Nat → Nat) : Nat :=
  k (addN a b) (Nat.xor (rotN b r) (addN a b))
def oddN (a b : Nat) (k : Nat → Nat → Nat) : Nat :=
  rndN 13 a b fun a b => rndN 15 a b fun a b => rndN 26 a b fun a b => rndN 6 a b k
def evenN (a b : Nat) (k : Nat → Nat → Nat) : Nat :=
  rndN 17 a b fun a b => rndN 29 a b fun a b => rndN 16 a b fun a b => rndN 24 a b k
/-- The generator's two words for item `x`, xored. -/
def bitsN (x : Nat) : Nat :=
  oddN 0 (Nat.add x 42) fun a b =>
  evenN (addN a 42) (addN b 466689009) fun a b =>
  oddN (addN a 466689008) (addN b 2) fun a b =>
  evenN (addN a 0) (addN b 45) fun a b =>
  oddN (addN a 42) (addN b 466689012) fun a b =>
  Nat.xor (addN a 466689008) (addN b 5)
/-- The score's mantissa. -/
def mantN (x : Nat) : Nat := Nat.shiftRight (bitsN x) 9
/-- Items in the order of selection: the larger key comes first. -/
def keyN (x : Nat) : Nat := Nat.add (Nat.mul (mantN x) 131072) (Nat.sub 131071 x)

/-- `p` at the `2^k` numbers from `b` on. -/
def all2 (p : Nat → Bool) : Nat → Nat → Bool
  | 0, b => p b
  | k + 1, b => all2 p k b && all2 p k (b + 2 ^ k)

theorem all2_sound (p : Nat → Bool) : ∀ (k b : Nat), all2 p k b = true → ∀ x, b ≤ x → x < b + 2 ^ k → p x = true
  | 0, b, h, x, h1, h2 => by
    have : x = b := by omega
    exact this ▸ h
  | k + 1, b, h, x, h1, h2 => by
    rw [all2, Bool.and_eq_true] at h
    by_cases hx : x < b + 2 ^ k
    · exact all2_sound p k b h.1 x h1 hx
    · exact all2_sound p k (b + 2 ^ k) h.2 x (by omega) (by rw [pow_succ] at h2; omega)

end Cert.Proof.Key

end
-- ==== Proof.Tab.lean ====
/-
  The two tables the kernel holds. `tabN s` is the item in slot `s` of the prefix table; the prefix's rank `j` lies in
  slot `16 (j mod 512) + j / 512` (`prefN`). `slotN x` is the slot of item `x`, 8192 for an item beyond the prefix.
  The tests of the prefix table are decided here, those of the slot table in Words0 to Words3.
-/
module

public import proofs.«01_k».proof.Proof.Leaves
public import proofs.«01_k».proof.Proof.Key

@[expose] public section

noncomputable section

namespace Cert.Proof.Tab

open Cert.KernelIdeal Cert.Proof.Key Cert.Proof.Rows Cert.Proof.Leaves

/-- Word `w` of the slot table: the slots of items `2 w` (low half) and `2 w + 1`. -/
def wordN (w : Nat) : Nat :=
  (nth 0#32 (nth [] (nth [] [n0.1, n1.1, n2.1, n3.1] (Nat.div w 16384)) (Nat.mod (Nat.div w 128) 128)) (Nat.mod w 128)).toNat
/-- Item in slot `s` of the prefix table. -/
def tabN (s : Nat) : Nat := (nth 0#32 (nth [] m0.1 (Nat.div s 128)) (Nat.mod s 128)).toNat
/-- The slot of rank `j`. -/
def posN (j : Nat) : Nat := Nat.add (Nat.mul 16 (Nat.mod j 512)) (Nat.div j 512)
/-- The prefix's item of rank `j`. -/
def prefN (j : Nat) : Nat := tabN (posN j)
/-- The slot of item `x`. -/
def slotN (x : Nat) : Nat := Nat.mod (Nat.shiftRight (wordN (Nat.div x 2)) (Nat.mul 16 (Nat.mod x 2))) 65536

theorem wordN_eq (w : Nat) : (lit0t w).toNat = wordN w := congrArg BitVec.toNat (lit0t_eq w)
theorem tabN_eq (s : Nat) : (lit1t s).toNat = tabN s := congrArg BitVec.toNat (lit1t_eq s)

/-- The last key of the prefix. -/
def lastKey : Nat := 1008196348977

/-- Item `x` in slot `s`: beyond the prefix and below its last key, or the prefix's own entry. -/
def okItem (x s : Nat) : Bool :=
  bif Nat.beq s 8192 then Nat.blt (keyN x) lastKey else Nat.blt s 8192 && Nat.beq (tabN s) x
def okWord (w : Nat) : Bool :=
  Nat.ble 50000 w || (okItem (Nat.mul 2 w) (slotN (Nat.mul 2 w)) && okItem (Nat.add (Nat.mul 2 w) 1) (slotN (Nat.add (Nat.mul 2 w) 1)))
def okSlot (s : Nat) : Bool :=
  Nat.blt (tabN s) 100000 && Nat.beq (slotN (tabN s)) s
def okRank (j : Nat) : Bool :=
  Nat.beq j 8191 || Nat.blt (keyN (prefN (Nat.add j 1))) (keyN (prefN j))

theorem slots : all2 okSlot 13 0 = true := by decide +kernel
theorem ranks : all2 okRank 13 0 = true := by decide +kernel
theorem last : keyN (prefN 8191) = lastKey := by decide +kernel

end Cert.Proof.Tab

end
-- ==== Proof.Words0.lean ====
/-
  Words 0 to 16383 of the slot table, tested: each names the two items' places among the prefix, or neither.
-/
module

public import proofs.«01_k».proof.Proof.Tab

@[expose] public section

namespace Cert.Proof.Tab

open Cert.Proof.Key

theorem words0 : all2 okWord 12 0 = true := by decide +kernel
theorem words1 : all2 okWord 12 4096 = true := by decide +kernel
theorem words2 : all2 okWord 12 8192 = true := by decide +kernel
theorem words3 : all2 okWord 12 12288 = true := by decide +kernel

end Cert.Proof.Tab

end
-- ==== Proof.Words1.lean ====
/-
  Words 16384 to 28671 of the slot table, tested: each names the two items' places among the prefix, or neither.
-/
module

public import proofs.«01_k».proof.Proof.Tab

@[expose] public section

namespace Cert.Proof.Tab

open Cert.Proof.Key

theorem words4 : all2 okWord 12 16384 = true := by decide +kernel
theorem words5 : all2 okWord 12 20480 = true := by decide +kernel
theorem words6 : all2 okWord 12 24576 = true := by decide +kernel

end Cert.Proof.Tab

end
-- ==== Proof.Words2.lean ====
/-
  Words 28672 to 40959 of the slot table, tested: each names the two items' places among the prefix, or neither.
-/
module

public import proofs.«01_k».proof.Proof.Tab

@[expose] public section

namespace Cert.Proof.Tab

open Cert.Proof.Key

theorem words7 : all2 okWord 12 28672 = true := by decide +kernel
theorem words8 : all2 okWord 12 32768 = true := by decide +kernel
theorem words9 : all2 okWord 12 36864 = true := by decide +kernel

end Cert.Proof.Tab

end
-- ==== Proof.Words3.lean ====
/-
  Words 40960 to 53247 of the slot table, tested: each names the two items' places among the prefix, or neither.
-/
module

public import proofs.«01_k».proof.Proof.Tab

@[expose] public section

namespace Cert.Proof.Tab

open Cert.Proof.Key

theorem words10 : all2 okWord 12 40960 = true := by decide +kernel
theorem words11 : all2 okWord 12 45056 = true := by decide +kernel
theorem words12 : all2 okWord 12 49152 = true := by decide +kernel

end Cert.Proof.Tab

end
-- ==== Proof.Facts.lean ====
/-
  What the tests of the two tables say: every item's slot is the prefix table's, or the item's key lies below the
  prefix's last; the prefix's keys fall with the rank.
-/
module

public import proofs.«01_k».proof.Proof.Words0
public import proofs.«01_k».proof.Proof.Words1
public import proofs.«01_k».proof.Proof.Words2
public import proofs.«01_k».proof.Proof.Words3

@[expose] public section

namespace Cert.Proof.Tab

open Cert.Proof.Key

theorem words (w : Nat) : okWord w = true := by
  by_cases h : 50000 ≤ w
  · rw [okWord, Nat.ble_eq_true_of_le h, Bool.true_or]
  by_cases h0 : w < 4096
  · exact all2_sound okWord 12 0 words0 w (by omega) (by omega)
  by_cases h1 : w < 8192
  · exact all2_sound okWord 12 4096 words1 w (by omega) (by omega)
  by_cases h2 : w < 12288
  · exact all2_sound okWord 12 8192 words2 w (by omega) (by omega)
  by_cases h3 : w < 16384
  · exact all2_sound okWord 12 12288 words3 w (by omega) (by omega)
  by_cases h4 : w < 20480
  · exact all2_sound okWord 12 16384 words4 w (by omega) (by omega)
  by_cases h5 : w < 24576
  · exact all2_sound okWord 12 20480 words5 w (by omega) (by omega)
  by_cases h6 : w < 28672
  · exact all2_sound okWord 12 24576 words6 w (by omega) (by omega)
  by_cases h7 : w < 32768
  · exact all2_sound okWord 12 28672 words7 w (by omega) (by omega)
  by_cases h8 : w < 36864
  · exact all2_sound okWord 12 32768 words8 w (by omega) (by omega)
  by_cases h9 : w < 40960
  · exact all2_sound okWord 12 36864 words9 w (by omega) (by omega)
  by_cases h10 : w < 45056
  · exact all2_sound okWord 12 40960 words10 w (by omega) (by omega)
  by_cases h11 : w < 49152
  · exact all2_sound okWord 12 45056 words11 w (by omega) (by omega)
  by_cases h12 : w < 53248
  · exact all2_sound okWord 12 49152 words12 w (by omega) (by omega)
  omega

theorem lt_of_blt {a b : Nat} (h : Nat.blt a b = true) : a < b := Nat.le_of_ble_eq_true h

theorem okItem_sound (x s : Nat) (h : okItem x s = true) : (s = 8192 ∧ keyN x < lastKey) ∨ (s < 8192 ∧ tabN s = x) := by
  unfold okItem at h
  generalize keyN x = k at h ⊢
  generalize lastKey = l at h ⊢
  generalize tabN s = t at h ⊢
  cases hb : Nat.beq s 8192 with
  | true => rw [hb, cond_true] at h; exact .inl ⟨Nat.eq_of_beq_eq_true hb, lt_of_blt h⟩
  | false => rw [hb, cond_false, Bool.and_eq_true] at h; exact .inr ⟨lt_of_blt h.1, Nat.eq_of_beq_eq_true h.2⟩

theorem item_ok (x : Nat) (hx : x < 100000) : okItem x (slotN x) = true := by
  have h := words (x / 2)
  unfold okWord at h
  rw [Bool.or_eq_true, Bool.and_eq_true] at h
  rcases h with h | ⟨h0, h1⟩
  · have := Nat.le_of_ble_eq_true h; omega
  · rcases Nat.mod_two_eq_zero_or_one x with e | e
    · have : Nat.mul 2 (x / 2) = x := by show 2 * (x / 2) = x; omega
      rwa [this] at h0
    · have : Nat.add (Nat.mul 2 (x / 2)) 1 = x := by show 2 * (x / 2) + 1 = x; omega
      rwa [this] at h1

/-- An item's slot holds the item, or the item comes after the whole prefix. -/
theorem item_slot (x : Nat) (hx : x < 100000) :
    (slotN x = 8192 ∧ keyN x < keyN (prefN 8191)) ∨ (slotN x < 8192 ∧ tabN (slotN x) = x) := by
  rw [last]
  exact okItem_sound x (slotN x) (item_ok x hx)

theorem slot_item (s : Nat) (hs : s < 8192) : tabN s < 100000 ∧ slotN (tabN s) = s := by
  have h := all2_sound okSlot 13 0 slots s (by omega) (by omega)
  unfold okSlot at h
  rw [Bool.and_eq_true] at h
  exact ⟨lt_of_blt h.1, Nat.eq_of_beq_eq_true h.2⟩

theorem rank_succ (j : Nat) (hj : j < 8191) : keyN (prefN (j + 1)) < keyN (prefN j) := by
  have h := all2_sound okRank 13 0 ranks j (by omega) (by omega)
  unfold okRank at h
  rw [Bool.or_eq_true] at h
  rcases h with h | h
  · have := Nat.eq_of_beq_eq_true h; omega
  · exact lt_of_blt h

/-- The prefix's keys fall with the rank. -/
theorem rank_lt (i j : Nat) (hij : i < j) (hj : j < 8192) : keyN (prefN j) < keyN (prefN i) := by
  induction j with
  | zero => omega
  | succ j ih =>
    have h1 := rank_succ j (by omega)
    by_cases e : i = j
    · rw [e]; exact h1
    · exact h1.trans (ih (by omega) (by omega))

end Cert.Proof.Tab

end
-- ==== Proof.Steps.lean ====
/-
  The kernel's vector steps as facts about numbers. The mask buffer records which slots the items name (`marked`); `U`
  counts, rank by rank, the slots left unmarked. Lane `l` of a vector holds the prefix's ranks from `512 l` on, so the
  per-lane counts, their running sums and the positions that the compaction writes are all values of `U`.
-/
module

public import proofs.«01_k».proof.Proof.Facts
public import proofs.«01_k».proof.Proof.Gen.KernelIdeal.Skeleton

@[expose] public section

noncomputable section

namespace Cert.Proof.Steps

open Idealize.ShloMosaic
open Cert.KernelIdeal Cert.KernelIdeal.Gen Cert.Proof.Tab

variable {F : FTy → Type} [FloatOps F]

/-! ## Indices of one axis -/

theorem idx1 {d : Fin 1 → Nat} {x y : (⟨1, d⟩ : Shape).Idx} (h : (x 0).val = (y 0).val) : x = y := by
  funext a
  have : a = 0 := Subsingleton.elim _ _
  subst this; exact Fin.ext h

theorem ofLane_val {d : Fin 1 → Nat} (k : Fin (d 0)) : ((Shape.ofLane k : (⟨1, d⟩ : Shape).Idx) 0).val = k.val := rfl

/-- Lane `l` of a vector of sixteen. -/
abbrev lane (l : Fin 16) : S16.Idx := Shape.ofLane (d := ![16]) l

theorem lane_surj (x : S16.Idx) : ∃ l : Fin 16, x = lane l := ⟨x 0, idx1 rfl⟩

/-! ## The indexed store -/

theorem foldl_store {n : Nat} {e : EltTy} (i : Fin 16 → (⟨1, ![n]⟩ : Shape).Idx) (w : Vec F S16 e) (c : Elt F e) (y : (⟨1, ![n]⟩ : Shape).Idx)
    (hc : ∀ k, (i k 0).val = (y 0).val → w (lane k) = c) : ∀ (L : List (Fin 16)) (g : Vec F ⟨1, ![n]⟩ e),
    (L.foldl (fun (g : Vec F ⟨1, ![n]⟩ e) k => fun j => if (∀ a, (j a).val = (i k a).val) then w (lane k) else g j) g) y
      = if ∃ k ∈ L, (i k 0).val = (y 0).val then c else g y
  | [], g => by simp
  | k :: L, g => by
    have hiff : (∀ a, (y a).val = (i k a).val) ↔ (i k 0).val = (y 0).val :=
      ⟨fun h => (h 0).symm, fun h a => by have : a = 0 := Subsingleton.elim _ _; subst this; exact h.symm⟩
    rw [List.foldl_cons, foldl_store i w c y hc L]
    by_cases hL : ∃ k' ∈ L, (i k' 0).val = (y 0).val
    · obtain ⟨k', h1, h2⟩ := hL
      rw [if_pos ⟨k', h1, h2⟩, if_pos ⟨k', List.mem_cons_of_mem _ h1, h2⟩]
    · rw [if_neg hL]
      by_cases hk : (i k 0).val = (y 0).val
      · rw [if_pos (hiff.mpr hk), if_pos ⟨k, List.mem_cons_self, hk⟩, hc k hk]
      · rw [if_neg (fun h => hk (hiff.mp h)), if_neg]
        rintro ⟨k', h1, h2⟩
        rcases List.mem_cons.mp h1 with h | h
        · exact hk (h ▸ h2)
        · exact hL ⟨k', h, h2⟩

/-- Sixteen lanes stored at the places they name: a place that lanes name, all with the value `c`, holds `c`; another
    keeps its value. -/
theorem storeIdx_at {n : Nat} {e : EltTy} (f : Vec F ⟨1, ![n]⟩ e) (v : IVec S16 32) (w : Vec F S16 e)
    (h : ∀ a x, ((![v] : Fin 1 → IVec S16 32) a x).toNat < (⟨1, ![n]⟩ : Shape).size a) (c : Elt F e) (y : (⟨1, ![n]⟩ : Shape).Idx)
    (hc : ∀ k, (v (lane k)).toNat = (y 0).val → w (lane k) = c) :
    storeIdx (s := ⟨1, ![n]⟩) (d := ![16]) f ![v] w (fun _ => 1#1) false h y = if ∃ k, (v (lane k)).toNat = (y 0).val then c else f y := by
  have := foldl_store (F := F) (fun k => idxAt (s := ⟨1, ![n]⟩) ![v] h (lane k)) w c y hc (List.finRange 16) f
  simp only [List.mem_finRange, true_and] at this
  refine Eq.trans ?_ this
  unfold storeIdx
  simp only [if_true, Bool.false_eq_true, if_false]
  rfl

/-! ## Which slots are marked, and the counts -/

/-- Slot `s` is that of one of the first `n` items. -/
def marked (it : S4096.Idx → BitVec 32) (n s : Nat) : Prop := ∃ j : S4096.Idx, (j 0).val < n ∧ slotN (it j).toNat = s

open Classical in
/-- The number of unmarked slots among the ranks below `j`. -/
def U (it : S4096.Idx → BitVec 32) : Nat → Nat
  | 0 => 0
  | j + 1 => U it j + if marked it 4096 (posN j) then 0 else 1

theorem U_succ_marked {it : S4096.Idx → BitVec 32} {j : Nat} (h : marked it 4096 (posN j)) : U it (j + 1) = U it j := by rw [U, if_pos h, Nat.add_zero]
theorem U_succ_unmarked {it : S4096.Idx → BitVec 32} {j : Nat} (h : ¬ marked it 4096 (posN j)) : U it (j + 1) = U it j + 1 := by rw [U, if_neg h]

theorem U_le_succ (it : S4096.Idx → BitVec 32) (j : Nat) : U it j ≤ U it (j + 1) := by
  rw [U]; omega
theorem U_mono (it : S4096.Idx → BitVec 32) {i j : Nat} (h : i ≤ j) : U it i ≤ U it j := by
  induction h with
  | refl => exact Nat.le_refl _
  | step _ ih => exact ih.trans (U_le_succ it _)
theorem U_le (it : S4096.Idx → BitVec 32) (j : Nat) : U it j ≤ j := by
  induction j with
  | zero => exact Nat.le_refl _
  | succ j ih => rw [U]; split <;> omega

theorem U_lt {it : S4096.Idx → BitVec 32} {i j : Nat} (hi : ¬ marked it 4096 (posN i)) (h : i < j) : U it i < U it j := by
  have := U_mono it (show i + 1 ≤ j from h)
  rw [U_succ_unmarked hi] at this; omega

/-- Unmarked ranks have distinct counts. -/
theorem U_inj {it : S4096.Idx → BitVec 32} {i j : Nat} (hi : ¬ marked it 4096 (posN i)) (hj : ¬ marked it 4096 (posN j)) (h : U it i = U it j) : i = j := by
  rcases Nat.lt_trichotomy i j with h' | h' | h'
  · have := U_lt hi h'; omega
  · exact h'
  · have := U_lt hj h'; omega

/-- The slot of the rank that lane `l` holds at step `k`. -/
theorem posN_lane (l k : Nat) (hk : k < 512) : posN (512 * l + k) = 16 * k + l := by
  show 16 * ((512 * l + k) % 512) + (512 * l + k) / 512 = _
  omega

/-! ## The payloads, lane by lane -/

theorem pay4_at (v : Vec F S16 .i32) (x : S16.Idx) (h : (v x).toNat < 100000) : (k0_pay4 (F := F) v x).toNat = (v x).toNat / 2 := by
  have e : k0_pay4 (F := F) v x = IntOp.shrsi .vector (v x) 1#32 := rfl
  have key : ∀ a : BitVec 32, a.toNat < 100000 → (IntOp.shrsi .vector a 1#32).toNat = a.toNat / 2 := by
    intro a ha
    have hm : a.msb = false := by rw [BitVec.msb_eq_false_iff_two_mul_lt]; omega
    rw [IntOp.shrsi, if_pos (by decide), BitVec.sshiftRight_eq', BitVec.toNat_sshiftRight_of_msb_false hm]
    show a.toNat >>> 1 = _
    rw [Nat.shiftRight_eq_div_pow]
  rw [e]; exact key _ h

theorem pay5_at (v w : Vec F S16 .i32) (x : S16.Idx) :
    (k0_pay5 (F := F) v w x).toNat = ((w x).toNat >>> (16 * ((v x).toNat % 2))) % 65536 := by
  have e : k0_pay5 (F := F) v w x = IntOp.andi (IntOp.shrsi .vector (w x) (IntOp.shli .vector (IntOp.andi (v x) 1#32) 4#32)) 65535#32 := rfl
  have key : ∀ a b : BitVec 32, (IntOp.andi (IntOp.shrsi .vector b (IntOp.shli .vector (IntOp.andi a 1#32) 4#32)) 65535#32).toNat
      = (b.toNat >>> (16 * (a.toNat % 2))) % 65536 := by
    intro a b
    have h1 : (IntOp.andi a 1#32) = BitVec.ofNat 32 (a.toNat % 2) := by
      apply BitVec.eq_of_toNat_eq
      show (a &&& 1#32).toNat = _
      rw [BitVec.toNat_and, BitVec.toNat_ofNat]
      show a.toNat &&& 1 = _
      rw [Nat.and_one_is_mod, BitVec.toNat_ofNat]; omega
    rw [h1]
    rcases Nat.mod_two_eq_zero_or_one a.toNat with h | h <;> rw [h]
    · have : IntOp.shli .vector (BitVec.ofNat 32 0) 4#32 = 0#32 := by decide
      rw [this]
      have : IntOp.shrsi .vector b 0#32 = b := by
        rw [IntOp.shrsi, if_pos (by decide), BitVec.sshiftRight_eq']
        exact BitVec.sshiftRight_zero
      rw [this]
      show (b &&& 65535#32).toNat = _
      rw [BitVec.toNat_and]
      show b.toNat &&& (2 ^ 16 - 1) = _
      rw [Nat.and_two_pow_sub_one_eq_mod]; rfl
    · have : IntOp.shli .vector (BitVec.ofNat 32 1) 4#32 = 16#32 := by decide
      rw [this, IntOp.shrsi, if_pos (by decide), BitVec.sshiftRight_eq']
      apply Nat.eq_of_testBit_eq
      intro i
      show (b.sshiftRight 16 &&& 65535#32).toNat.testBit i = _
      rw [show (65536 : Nat) = 2 ^ 16 from rfl, Nat.testBit_mod_two_pow, Nat.testBit_shiftRight, BitVec.testBit_toNat, BitVec.getLsbD_and, BitVec.getLsbD_sshiftRight,
        show (65535#32).getLsbD i = decide (i < 16) from by
          rw [← BitVec.testBit_toNat]; show (2 ^ 16 - 1 : Nat).testBit i = _; rw [Nat.testBit_two_pow_sub_one]]
      by_cases hi : i < 16
      · have : ¬ 32 ≤ i := by omega
        have h3 : 16 + i < 32 := by omega
        simp only [hi, this, h3, decide_true, decide_false, Bool.not_false, Bool.true_and, Bool.and_true, if_true]
        rw [BitVec.testBit_toNat]
      · simp only [hi, decide_false, Bool.and_false, Bool.false_and]
  rw [e]; exact key _ _

theorem pay7_at (acc : IVec S16 32) (v : Vec F S16 .i32) (x : S16.Idx) :
    k0_pay7 (F := F) acc v x = if v x = 0#32 then acc x + 1#32 else acc x := by
  have e : k0_pay7 (F := F) acc v x = IntOp.addi (acc x) (bif (v x == 0#32) then 1#32 else 0#32) := by
    show IntOp.addi (acc x) (if IntOp.cmpi .eq (v x) 0#32 = 1 then 1#32 else 0#32) = _
    unfold IntOp.cmpi; dsimp only
    cases ((v x : BitVec 32) == 0#32) <;> rfl
  rw [e]
  by_cases h : v x = 0#32
  · rw [if_pos h, beq_iff_eq.mpr h]; rfl
  · rw [if_neg h, beq_eq_false_iff_ne.mpr h]; exact BitVec.add_zero _

theorem pay10_at (acc : IVec S16 32) (v : Vec F S16 .i32) (x : S16.Idx) :
    k0_pay10 (F := F) acc v x = if v x = 0#32 then acc x + 1#32 else acc x := pay7_at acc v x

theorem pay9_at (acc : IVec S16 32) (v : Vec F S16 .i32) (x : S16.Idx) (h : (acc x).toNat < 8193) :
    k0_pay9 (F := F) acc v x = if v x = 0#32 ∧ (acc x).toNat < 4096 then acc x else 4096#32 := by
  have hs : (acc x).slt 4096#32 = decide ((acc x).toNat < 4096) := by
    rw [BitVec.slt_eq_decide, BitVec.toInt_eq_toNat_cond, if_pos (by omega)]
    show decide (((acc x).toNat : Int) < 4096) = _
    congr 1; apply propext; omega
  have e : k0_pay9 (F := F) acc v x = bif ((v x == 0#32) && (acc x).slt 4096#32) then acc x else 4096#32 := by
    show (if IntOp.andi (IntOp.cmpi .eq (v x) 0#32) (IntOp.cmpi .slt (acc x) 4096#32) = 1 then acc x else 4096#32) = _
    unfold IntOp.cmpi; dsimp only
    have hb : ∀ (p q : Bool) (A B : BitVec 32), (if IntOp.andi (BitVec.ofBool p) (BitVec.ofBool q) = 1 then A else B) = bif p && q then A else B := by
      intro p q A B
      cases p <;> cases q
      · exact if_neg (by decide)
      · exact if_neg (by decide)
      · exact if_neg (by decide)
      · exact if_pos (by decide)
    exact hb _ _ _ _
  rw [e, hs]
  by_cases h0 : v x = 0#32
  · rw [beq_iff_eq.mpr h0, Bool.true_and]
    by_cases h1 : (acc x).toNat < 4096
    · rw [decide_eq_true h1, if_pos ⟨h0, h1⟩, cond_true]
    · rw [decide_eq_false h1, if_neg (fun h => h1 h.2), cond_false]
  · rw [beq_eq_false_iff_ne.mpr h0, if_neg (fun h => h0 h.1), Bool.false_and, cond_false]

/-- Running sums of differences. -/
theorem scan_at (v : IVec S16 32) (a : Nat → Nat) (h0 : v (lane 0) = BitVec.ofNat 32 (a 1))
    (h : ∀ k : Fin 16, 0 < k.val → BitVec.ofNat 32 (a k.val) + v (lane k) = BitVec.ofNat 32 (a (k.val + 1))) (l : Fin 16) :
    scan .sum v (lane l) = BitVec.ofNat 32 (a (l.val + 1)) := by
  have e : scan .sum v (lane l) = ((List.finRange 16).filter fun k => decide (0 < k.val ∧ k.val ≤ l.val)).foldl
      (fun r k => r + v (lane k)) (v (lane 0)) := rfl
  rw [e, h0]
  have h1 : BitVec.ofNat 32 (a 1) + v (lane 1) = BitVec.ofNat 32 (a 2) := h 1 (by decide)
  have h2 : BitVec.ofNat 32 (a 2) + v (lane 2) = BitVec.ofNat 32 (a 3) := h 2 (by decide)
  have h3 : BitVec.ofNat 32 (a 3) + v (lane 3) = BitVec.ofNat 32 (a 4) := h 3 (by decide)
  have h4 : BitVec.ofNat 32 (a 4) + v (lane 4) = BitVec.ofNat 32 (a 5) := h 4 (by decide)
  have h5 : BitVec.ofNat 32 (a 5) + v (lane 5) = BitVec.ofNat 32 (a 6) := h 5 (by decide)
  have h6 : BitVec.ofNat 32 (a 6) + v (lane 6) = BitVec.ofNat 32 (a 7) := h 6 (by decide)
  have h7 : BitVec.ofNat 32 (a 7) + v (lane 7) = BitVec.ofNat 32 (a 8) := h 7 (by decide)
  have h8 : BitVec.ofNat 32 (a 8) + v (lane 8) = BitVec.ofNat 32 (a 9) := h 8 (by decide)
  have h9 : BitVec.ofNat 32 (a 9) + v (lane 9) = BitVec.ofNat 32 (a 10) := h 9 (by decide)
  have h10 : BitVec.ofNat 32 (a 10) + v (lane 10) = BitVec.ofNat 32 (a 11) := h 10 (by decide)
  have h11 : BitVec.ofNat 32 (a 11) + v (lane 11) = BitVec.ofNat 32 (a 12) := h 11 (by decide)
  have h12 : BitVec.ofNat 32 (a 12) + v (lane 12) = BitVec.ofNat 32 (a 13) := h 12 (by decide)
  have h13 : BitVec.ofNat 32 (a 13) + v (lane 13) = BitVec.ofNat 32 (a 14) := h 13 (by decide)
  have h14 : BitVec.ofNat 32 (a 14) + v (lane 14) = BitVec.ofNat 32 (a 15) := h 14 (by decide)
  have h15 : BitVec.ofNat 32 (a 15) + v (lane 15) = BitVec.ofNat 32 (a 16) := h 15 (by decide)
  have big : ∀ n : Nat, n ≤ 15 → ((List.finRange 16).filter fun k => decide (0 < k.val ∧ k.val ≤ n)).foldl
      (fun r k => r + v (lane k)) (BitVec.ofNat 32 (a 1)) = BitVec.ofNat 32 (a (n + 1)) := by
    intro n hn
    have : n = 0 ∨ n = 1 ∨ n = 2 ∨ n = 3 ∨ n = 4 ∨ n = 5 ∨ n = 6 ∨ n = 7 ∨ n = 8 ∨ n = 9 ∨ n = 10 ∨ n = 11 ∨ n = 12 ∨ n = 13 ∨ n = 14 ∨ n = 15 := by omega
    rcases this with r | r | r | r | r | r | r | r | r | r | r | r | r | r | r | r <;> subst r
    · rfl
    · show BitVec.ofNat 32 (a 1) + v (lane 1) = _; rw [h1]
    · show BitVec.ofNat 32 (a 1) + v (lane 1) + v (lane 2) = _; rw [h1, h2]
    · show BitVec.ofNat 32 (a 1) + v (lane 1) + v (lane 2) + v (lane 3) = _; rw [h1, h2, h3]
    · show BitVec.ofNat 32 (a 1) + v (lane 1) + v (lane 2) + v (lane 3) + v (lane 4) = _; rw [h1, h2, h3, h4]
    · show BitVec.ofNat 32 (a 1) + v (lane 1) + v (lane 2) + v (lane 3) + v (lane 4) + v (lane 5) = _; rw [h1, h2, h3, h4, h5]
    · show BitVec.ofNat 32 (a 1) + v (lane 1) + v (lane 2) + v (lane 3) + v (lane 4) + v (lane 5) + v (lane 6) = _; rw [h1, h2, h3, h4, h5, h6]
    · show BitVec.ofNat 32 (a 1) + v (lane 1) + v (lane 2) + v (lane 3) + v (lane 4) + v (lane 5) + v (lane 6) + v (lane 7) = _; rw [h1, h2, h3, h4, h5, h6, h7]
    · show BitVec.ofNat 32 (a 1) + v (lane 1) + v (lane 2) + v (lane 3) + v (lane 4) + v (lane 5) + v (lane 6) + v (lane 7) + v (lane 8) = _; rw [h1, h2, h3, h4, h5, h6, h7, h8]
    · show BitVec.ofNat 32 (a 1) + v (lane 1) + v (lane 2) + v (lane 3) + v (lane 4) + v (lane 5) + v (lane 6) + v (lane 7) + v (lane 8) + v (lane 9) = _
      rw [h1, h2, h3, h4, h5, h6, h7, h8, h9]
    · show BitVec.ofNat 32 (a 1) + v (lane 1) + v (lane 2) + v (lane 3) + v (lane 4) + v (lane 5) + v (lane 6) + v (lane 7) + v (lane 8) + v (lane 9) + v (lane 10) = _
      rw [h1, h2, h3, h4, h5, h6, h7, h8, h9, h10]
    · show BitVec.ofNat 32 (a 1) + v (lane 1) + v (lane 2) + v (lane 3) + v (lane 4) + v (lane 5) + v (lane 6) + v (lane 7) + v (lane 8) + v (lane 9) + v (lane 10) + v (lane 11) = _
      rw [h1, h2, h3, h4, h5, h6, h7, h8, h9, h10, h11]
    · show BitVec.ofNat 32 (a 1) + v (lane 1) + v (lane 2) + v (lane 3) + v (lane 4) + v (lane 5) + v (lane 6) + v (lane 7) + v (lane 8) + v (lane 9) + v (lane 10) + v (lane 11) + v (lane 12) = _
      rw [h1, h2, h3, h4, h5, h6, h7, h8, h9, h10, h11, h12]
    · show BitVec.ofNat 32 (a 1) + v (lane 1) + v (lane 2) + v (lane 3) + v (lane 4) + v (lane 5) + v (lane 6) + v (lane 7) + v (lane 8) + v (lane 9) + v (lane 10) + v (lane 11) + v (lane 12) + v (lane 13) = _
      rw [h1, h2, h3, h4, h5, h6, h7, h8, h9, h10, h11, h12, h13]
    · show BitVec.ofNat 32 (a 1) + v (lane 1) + v (lane 2) + v (lane 3) + v (lane 4) + v (lane 5) + v (lane 6) + v (lane 7) + v (lane 8) + v (lane 9) + v (lane 10) + v (lane 11) + v (lane 12) + v (lane 13) + v (lane 14) = _
      rw [h1, h2, h3, h4, h5, h6, h7, h8, h9, h10, h11, h12, h13, h14]
    · show BitVec.ofNat 32 (a 1) + v (lane 1) + v (lane 2) + v (lane 3) + v (lane 4) + v (lane 5) + v (lane 6) + v (lane 7) + v (lane 8) + v (lane 9) + v (lane 10) + v (lane 11) + v (lane 12) + v (lane 13) + v (lane 14) + v (lane 15) = _
      rw [h1, h2, h3, h4, h5, h6, h7, h8, h9, h10, h11, h12, h13, h14, h15]
  exact big l.val (by have := l.isLt; omega)

/-- The lanes' counts give the lanes' first positions. -/
theorem pay8_at (v : IVec S16 32) (a : Nat → Nat) (ha0 : a 0 = 0) (ha : ∀ k, a k ≤ a (k + 1))
    (h : ∀ k : Fin 16, v (lane k) = BitVec.ofNat 32 (a (k.val + 1) - a k.val)) (l : Fin 16) :
    k0_pay8 v (lane l) = BitVec.ofNat 32 (a l.val) := by
  have e : k0_pay8 v (lane l) = scan .sum v (lane l) - v (lane l) := rfl
  have step : ∀ k : Fin 16, BitVec.ofNat 32 (a k.val) + v (lane k) = BitVec.ofNat 32 (a (k.val + 1)) := by
    intro k
    rw [h k, ← BitVec.ofNat_add]
    congr 1; have := ha k.val; omega
  rw [e, scan_at v a (by rw [h 0]; simp [ha0]) (fun k _ => step k), ← step l, BitVec.add_sub_cancel]

/-- The first lane alone, the others zero. -/
def firstLane (v : Vec F S16 .i32) : IVec S16 32 :=
  select (cmpi .eq (iota .scVector S16 32 [0] iota_S16_d0_w32_scVector) (broadcast S16 0#32)) v (broadcast S16 0#32)

theorem lastLane (w : S16.Idx → BitVec 32) (h : ∀ a, (![15] : Fin S16.rank → Nat) a < S16.size a) (x : S16.Idx) :
    broadcast S16 (extractAt ![15] w h) x = w (lane 15) := congrArg w (idx1 rfl)

theorem pay11_at (v : Vec F S16 .i32) (x : S16.Idx) : k0_pay11 (F := F) v x = v (lane 0) := by
  have e : k0_pay11 (F := F) v x = scan .sum (firstLane v) (lane 15) := by
    have h1 : k0_pay11 (F := F) v = broadcast S16 (extractAt ![15] (scan .sum (firstLane v)) inpos_S16_p15) := rfl
    exact (congrFun h1 x).trans (lastLane _ _ x)
  have hb : ∀ (k : Fin 16), cmpi .eq (iota .scVector S16 32 [0] iota_S16_d0_w32_scVector) (broadcast S16 0#32) (lane k) = if k = 0 then 1#1 else 0#1 := by decide
  have c0 : firstLane v (lane 0) = v (lane 0) := by
    unfold firstLane select
    rw [hb 0, if_pos rfl]; rfl
  have ck : ∀ k : Fin 16, 0 < k.val → firstLane v (lane k) = 0#32 := by
    intro k hk
    unfold firstLane select
    rw [hb k, if_neg (fun h => by subst h; exact absurd hk (by decide))]; rfl
  obtain ⟨b, hb0⟩ : ∃ b : BitVec 32, b = v (lane 0) := ⟨_, rfl⟩
  rw [← hb0] at c0 ⊢
  have nat : BitVec.ofNat 32 b.toNat = b := by rw [BitVec.ofNat_toNat, BitVec.setWidth_eq]
  have h0 : firstLane v (lane 0) = BitVec.ofNat 32 b.toNat := c0.trans nat.symm
  have hk : ∀ k : Fin 16, 0 < k.val → BitVec.ofNat 32 b.toNat + firstLane v (lane k) = BitVec.ofNat 32 b.toNat := by
    intro k hk
    rw [ck k hk, BitVec.add_zero]
  exact e.trans ((scan_at _ (fun _ => b.toNat) h0 hk 15).trans nat)

end Cert.Proof.Steps

end
-- ==== Proof.Setup.lean ====
/-
  The kernel's program as the launch theorem sees it, the buffers by name, and how a window of sixteen elements of a
  buffer is read and written.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.ValueKit.Geometry
public import proofs.«01_k».proof.Proof.Gen.KernelIdeal
public import proofs.«01_k».proof.Proof.Gen.KernelIdeal.Skeleton
public import proofs.«01_k».proof.Proof.Steps

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev uA : Memref sig .scVector .hbm S4096 .i32 := Memref.whole main_arg0_scv
abbrev iA : Memref sig .scVector .hbm S4096 .i32 := Memref.whole main_arg1_scv
abbrev tA : Memref sig .scVector .hbm S4096 .f32 := Memref.whole main_arg2_scv
abbrev cA : Memref sig .scVector .hbm S50000 .i32 := Memref.whole main_c_scv
abbrev pA : Memref sig .scVector .hbm S8192 .i32 := Memref.whole main_c_0_scv
abbrev uR : Memref sig .scVector .hbm S8192 .i32 := Memref.whole main_v0_0_scv
abbrev iR : Memref sig .scVector .hbm S8192 .i32 := Memref.whole main_v0_1_scv
abbrev tR : Memref sig .scVector .hbm S8192 .f32 := Memref.whole main_v0_2_scv
abbrev itM : Memref sig .scVector .vmem S4096 .i32 := Memref.whole cc0_scratch0
abbrev tblM : Memref sig .scVector .vmem S50000 .i32 := Memref.whole cc0_scratch1
abbrev pM : Memref sig .scVector .vmem S8192 .i32 := Memref.whole cc0_scratch2
abbrev mkM : Memref sig .scVector .vmem S8448 .i32 := Memref.whole cc0_scratch3
abbrev outM : Memref sig .scVector .vmem S4112 .i32 := Memref.whole cc0_scratch4
abbrev uM : Memref sig .scVector .vmem S16 .i32 := Memref.whole cc0_scratch5
abbrev ufM : Memref sig .scVector .vmem S8192 .i32 := Memref.whole cc0_scratch6
abbrev tgM : Memref sig .scVector .vmem S8192 .f32 := Memref.whole cc0_scratch7

abbrev cV (L : grid0.Coords) : Fin τ.nSC := (L 0).castLE hcore0
abbrev jV (L : grid0.Coords) : Fin τ.nSub := (L 1).castLE hsub0
/-- The vector subcore at coordinates `L` of device `d`. -/
abbrev thr (d : Dev nD) (L : grid0.Coords) : Thread nD τ := V d (cV L) (jV L)

/-! ## Windows -/

theorem read_win {κ : Kind} (b : Ref sig κ) (off size : Fin b.ty.shape.rank → Nat) (inb) (f : b.ty.Contents (Elt F))
    (x : (Rect.unit off size inb).shape.Idx) (y : b.ty.shape.Idx) (h : ∀ a, (y a).val = off a + (x a).val) :
    ((View.whole b).slice (Rect.unit off size inb)).read (Elt F) f x = f y :=
  ((View.read_apply _ _).trans (cast_eq _ _)).trans (congrArg f (funext fun a =>
    Fin.ext ((ValueKit.view_emb_slice_whole_unit_val b off size inb x a).trans (h a).symm)))

theorem write_win_hit {κ : Kind} (b : Ref sig κ) (off size : Fin b.ty.shape.rank → Nat) (inb) (f : b.ty.Contents (Elt F))
    (w : (Rect.unit off size inb).shape.Idx → Elt F b.ty.elt)
    (x : (Rect.unit off size inb).shape.Idx) (y : b.ty.shape.Idx) (h : ∀ a, (y a).val = off a + (x a).val) :
    ((View.whole b).slice (Rect.unit off size inb)).write (Elt F) f w Finset.univ y = w x := by
  have e : y = ((View.whole b).slice (Rect.unit off size inb)).emb x := funext fun a =>
    Fin.ext ((h a).trans (ValueKit.view_emb_slice_whole_unit_val b off size inb x a).symm)
  rw [e, View.write_emb_of_mem _ _ (Finset.mem_univ x)]; exact cast_eq _ _

theorem write_win_miss {κ : Kind} (b : Ref sig κ) (off size : Fin b.ty.shape.rank → Nat) (inb) (f : b.ty.Contents (Elt F))
    (w : (Rect.unit off size inb).shape.Idx → Elt F b.ty.elt) (y : b.ty.shape.Idx)
    (h : ¬ ∀ a, off a ≤ (y a).val ∧ (y a).val < off a + size a) :
    ((View.whole b).slice (Rect.unit off size inb)).write (Elt F) f w Finset.univ y = f y := by
  refine View.write_of_not_mem _ _ _ ?_
  show y ∉ ((View.whole b).slice (Rect.unit off size inb)).set
  rw [View.set_slice_whole, Rect.mem_set_unit]
  exact h

end Cert.Proof.Run

end
-- ==== Proof.Values.lean ====
/-
  What the loops' steps do to the buffers' values: the mask filled slot by slot, the per-lane counts, the compaction's
  positions. Each lemma takes a loop's invariant one step on.
-/
module

public import proofs.«01_k».proof.Proof.Steps

@[expose] public section

noncomputable section

namespace Cert.Proof.Values

open Idealize.ShloMosaic
open Cert.KernelIdeal Cert.KernelIdeal.Gen Cert.Proof.Tab Cert.Proof.Steps

variable {F : FTy → Type} [FloatOps F]

/-- The items' numbers are in range. -/
def InRange (it : S4096.Idx → BitVec 32) : Prop := ∀ j, (it j).toNat < 100000

theorem slotN_le {x : Nat} (h : x < 100000) : slotN x ≤ 8192 := by
  rcases item_slot x h with ⟨h, -⟩ | ⟨h, -⟩ <;> omega

theorem chk1_ok (i : grid0.Coords) (v : Vec F S16 .i32) (h : ∀ l, (v (lane l)).toNat < 100000) : k0_chk1 i (k0_pay4 (F := F) v) := by
  intro _ a x
  obtain ⟨l, rfl⟩ := lane_surj x
  have : a = 0 := Subsingleton.elim _ _
  subst this
  show (k0_pay4 (F := F) v (lane l)).toNat < 50000
  rw [pay4_at v _ (h l)]
  have := h l; omega

/-- The slot that the packed table gives for an item. -/
theorem slot_at (tb : S50000.Idx → BitVec 32) (htb : ∀ w, (tb w).toNat = wordN (w 0).val) (v : Vec F S16 .i32) (h) (l : Fin 16)
    (hl : (v (lane l)).toNat < 100000) :
    (k0_pay5 (F := F) v (loadIdx (F := F) (e := .i32) (s := S50000) (t := S16) tb ![k0_pay4 (F := F) v] h) (lane l)).toNat = slotN (v (lane l)).toNat := by
  rw [pay5_at]
  have e : ∀ y : S50000.Idx, (y 0).val = (k0_pay4 (F := F) v (lane l)).toNat → (tb y).toNat = wordN ((v (lane l)).toNat / 2) := by
    intro y hy
    rw [htb y, hy, pay4_at v _ hl]
  have e' := e (idxAt (s := S50000) (t := S16) ![k0_pay4 (F := F) v] h (lane l)) rfl
  exact (congrArg (fun w : Nat => Nat.mod (Nat.shiftRight w (16 * ((v (lane l)).toNat % 2))) 65536) e')

theorem chk2_ok (i : grid0.Coords) (v : IVec S16 32) (x : Fin 16 → Nat) (hx : ∀ l, x l < 100000) (h : ∀ l, (v (lane l)).toNat = slotN (x l)) :
    k0_chk2 i v := by
  intro _ a y
  obtain ⟨l, rfl⟩ := lane_surj y
  have : a = 0 := Subsingleton.elim _ _
  subst this
  show (v (lane l)).toNat < 8448
  rw [h l]
  have := slotN_le (hx l); omega

open Classical in
/-- The mask after the first `16 n` items. -/
def Masked (it : S4096.Idx → BitVec 32) (n : Nat) (f : S8448.Idx → BitVec 32) : Prop :=
  ∀ y, f y = if marked it (16 * n) (y 0).val then 1#32 else 0#32

theorem masked_zero (it : S4096.Idx → BitVec 32) (f : S8448.Idx → BitVec 32) (h : ∀ y, f y = 0#32) : Masked it 0 f := by
  intro y
  rw [h y, if_neg]
  rintro ⟨j, hj, -⟩; omega

theorem masked_step {it : S4096.Idx → BitVec 32} {n : Nat} (hn : n < 256) {f : S8448.Idx → BitVec 32} {v : IVec S16 32} (h)
    (hM : Masked it n f) (hv : ∀ (l : Fin 16) (j : S4096.Idx), (j 0).val = 16 * n + l.val → (v (lane l)).toNat = slotN (it j).toNat) :
    Masked it (n + 1) (storeIdx (F := F) (e := .i32) (s := S8448) (d := ![16]) f ![v] k0_pay2 (fun _ => 1#1) false h) := by
  intro y
  refine (storeIdx_at (F := F) (e := .i32) f v k0_pay2 h 1#32 y (fun _ _ => rfl)).trans ?_
  rw [hM y]
  by_cases hk : ∃ k, (v (lane k)).toNat = (y 0).val
  · rw [if_pos hk, if_pos]
    obtain ⟨k, hk⟩ := hk
    have hb : 16 * n + k.val < 4096 := by have := k.isLt; omega
    exact ⟨Shape.ofLane (d := ![4096]) ⟨16 * n + k.val, hb⟩, show 16 * n + k.val < _ by have := k.isLt; omega, (hv k _ rfl).symm.trans hk⟩
  · rw [if_neg hk]
    have hiff : marked it (16 * n) (y 0).val ↔ marked it (16 * (n + 1)) (y 0).val := by
      constructor
      · rintro ⟨j, hj, hs⟩; exact ⟨j, by omega, hs⟩
      · rintro ⟨j, hj, hs⟩
        refine ⟨j, ?_, hs⟩
        by_contra hlt
        exact hk ⟨⟨(j 0).val - 16 * n, by omega⟩, (hv _ j (by show _ = 16 * n + ((j 0).val - 16 * n); omega)).trans hs⟩
    by_cases h1 : marked it (16 * n) (y 0).val
    · rw [if_pos h1, if_pos (hiff.mp h1)]
    · rw [if_neg h1, if_neg (fun h2 => h1 (hiff.mpr h2))]

theorem masked_eq_zero {it : S4096.Idx → BitVec 32} {f : S8448.Idx → BitVec 32} (hM : Masked it 256 f) (y : S8448.Idx) :
    f y = 0#32 ↔ ¬ marked it 4096 (y 0).val := by
  rw [hM y]
  by_cases h : marked it (16 * 256) (y 0).val
  · rw [if_pos h]; exact ⟨fun e => absurd e (by decide), fun e => absurd h e⟩
  · rw [if_neg h]; exact ⟨fun _ => h, fun _ => rfl⟩

/-! ## The counts -/

/-- The lanes' counts after `n` steps. -/
def Counted (it : S4096.Idx → BitVec 32) (n : Nat) (acc : IVec S16 32) : Prop :=
  ∀ l : Fin 16, acc (lane l) = BitVec.ofNat 32 (U it (512 * l.val + n) - U it (512 * l.val))

theorem count_zero (it : S4096.Idx → BitVec 32) : Counted it 0 k0_pay6 := by
  intro l
  rw [Nat.add_zero, Nat.sub_self]; rfl

/-- The mask's row `n`, read as a vector. -/
def Row {α : Type} {N : Nat} (f : (⟨1, ![N]⟩ : Shape).Idx → α) (n : Nat) (v : S16.Idx → α) : Prop :=
  ∀ (l : Fin 16) (y : (⟨1, ![N]⟩ : Shape).Idx), (y 0).val = 16 * n + l.val → v (lane l) = f y

theorem row_zero {it : S4096.Idx → BitVec 32} {f : S8448.Idx → BitVec 32} (hM : Masked it 256 f) {n : Nat} (hn : n < 512) {v : S16.Idx → BitVec 32}
    (hv : Row f n v) (l : Fin 16) : v (lane l) = 0#32 ↔ ¬ marked it 4096 (posN (512 * l.val + n)) := by
  rw [posN_lane _ _ hn]
  have hb : 16 * n + l.val < 8448 := by have := l.isLt; omega
  rw [hv l (Shape.ofLane (d := ![8448]) ⟨16 * n + l.val, hb⟩) rfl]
  exact masked_eq_zero hM _

theorem count_step {it : S4096.Idx → BitVec 32} {f : S8448.Idx → BitVec 32} (hM : Masked it 256 f) {n : Nat} (hn : n < 512) {v : Vec F S16 .i32}
    (hv : Row f n v) {acc : IVec S16 32} (ha : Counted it n acc) : Counted it (n + 1) (k0_pay7 (F := F) acc v) := by
  intro l
  rw [pay7_at, ha l]
  have h := row_zero hM hn hv l
  have hm := U_mono it (show 512 * l.val ≤ 512 * l.val + n by omega)
  by_cases hk : marked it 4096 (posN (512 * l.val + n))
  · rw [if_neg (fun e => h.mp e hk), show 512 * l.val + (n + 1) = 512 * l.val + n + 1 from rfl, U_succ_marked hk]
  · rw [if_pos (h.mpr hk), show 512 * l.val + (n + 1) = 512 * l.val + n + 1 from rfl, U_succ_unmarked hk,
      show (1#32 : BitVec 32) = BitVec.ofNat 32 1 from rfl, ← BitVec.ofNat_add]
    congr 1; omega

/-! ## The compaction -/

/-- After `n` steps: the lanes' running positions, and every unmarked entry met so far at its position. -/
def Packed (it : S4096.Idx → BitVec 32) (p : S8192.Idx → BitVec 32) (n : Nat) (acc : IVec S16 32) (g : S4112.Idx → BitVec 32) : Prop :=
  (∀ l : Fin 16, acc (lane l) = BitVec.ofNat 32 (U it (512 * l.val + n)))
    ∧ ∀ (l : Fin 16) (r : Nat), r < n → ¬ marked it 4096 (posN (512 * l.val + r)) → U it (512 * l.val + r) < 4096 →
      ∀ (y : S4112.Idx) (z : S8192.Idx), (y 0).val = U it (512 * l.val + r) → (z 0).val = 16 * r + l.val → g y = p z

theorem packed_zero (it : S4096.Idx → BitVec 32) (p : S8192.Idx → BitVec 32) {v : IVec S16 32} (hv : Counted it 512 v) (g : S4112.Idx → BitVec 32) :
    Packed it p 0 (k0_pay8 v) g := by
  refine ⟨fun l => ?_, fun l r hr => absurd hr (Nat.not_lt_zero _)⟩
  refine pay8_at v (fun k => U it (512 * k)) rfl (fun k => U_mono it (by omega)) (fun k => ?_) l
  rw [hv k]; rfl

/-- Where each lane's entry goes. -/
theorem dst_at {it : S4096.Idx → BitVec 32} {f : S8448.Idx → BitVec 32} (hM : Masked it 256 f) {n : Nat} (hn : n < 512) {v : Vec F S16 .i32}
    (hv : Row f n v) {acc : IVec S16 32} (l : Fin 16) (ha : acc (lane l) = BitVec.ofNat 32 (U it (512 * l.val + n))) :
    (¬ marked it 4096 (posN (512 * l.val + n)) ∧ U it (512 * l.val + n) < 4096 ∧ (k0_pay9 (F := F) acc v (lane l)).toNat = U it (512 * l.val + n))
      ∨ ((marked it 4096 (posN (512 * l.val + n)) ∨ 4096 ≤ U it (512 * l.val + n)) ∧ (k0_pay9 (F := F) acc v (lane l)).toNat = 4096) := by
  have hU : U it (512 * l.val + n) < 8193 := by have := U_le it (512 * l.val + n); have := l.isLt; omega
  have hn' : (acc (lane l)).toNat = U it (512 * l.val + n) := by rw [ha, BitVec.toNat_ofNat]; omega
  rw [pay9_at acc v _ (by omega), hn']
  have h := row_zero hM hn hv l
  by_cases hk : marked it 4096 (posN (512 * l.val + n))
  · rw [if_neg (fun e => h.mp e.1 hk)]; exact .inr ⟨.inl hk, rfl⟩
  · by_cases hlt : U it (512 * l.val + n) < 4096
    · rw [if_pos ⟨h.mpr hk, hlt⟩]; exact .inl ⟨hk, hlt, hn'⟩
    · rw [if_neg (fun e => hlt e.2)]; exact .inr ⟨.inr (by omega), rfl⟩

theorem chk3_ok {it : S4096.Idx → BitVec 32} {f : S8448.Idx → BitVec 32} (hM : Masked it 256 f) {n : Nat} (hn : n < 512) {v : Vec F S16 .i32}
    (hv : Row f n v) {acc : IVec S16 32} (ha : ∀ l : Fin 16, acc (lane l) = BitVec.ofNat 32 (U it (512 * l.val + n))) (i : grid0.Coords) :
    k0_chk3 i (k0_pay9 (F := F) acc v) := by
  intro _ a y
  obtain ⟨l, rfl⟩ := lane_surj y
  have : a = 0 := Subsingleton.elim _ _
  subst this
  show (k0_pay9 (F := F) acc v (lane l)).toNat < 4112
  rcases dst_at hM hn hv l (ha l) with ⟨_, h1, h2⟩ | ⟨_, h2⟩ <;> omega

theorem packed_step {it : S4096.Idx → BitVec 32} {p : S8192.Idx → BitVec 32} {f : S8448.Idx → BitVec 32} (hM : Masked it 256 f) {n : Nat} (hn : n < 512)
    {v w : Vec F S16 .i32} (hv : Row f n v) (hw : Row p n w) {acc : IVec S16 32} {g : S4112.Idx → BitVec 32} (hP : Packed it p n acc g) (h) :
    Packed it p (n + 1) (k0_pay10 (F := F) acc v)
      (storeIdx (F := F) (e := .i32) (s := S4112) (d := ![16]) g ![k0_pay9 (F := F) acc v] w (fun _ => 1#1) false h) := by
  obtain ⟨ha, hg⟩ := hP
  constructor
  · intro l
    have hz := row_zero hM hn hv l
    rw [pay10_at, ha l]
    by_cases hk : marked it 4096 (posN (512 * l.val + n))
    · rw [if_neg (fun e => hz.mp e hk), show 512 * l.val + (n + 1) = 512 * l.val + n + 1 from rfl, U_succ_marked hk]
    · rw [if_pos (hz.mpr hk), show 512 * l.val + (n + 1) = 512 * l.val + n + 1 from rfl, U_succ_unmarked hk, BitVec.ofNat_add]
  · intro l r hr hk hlt y z hy hz
    -- a lane that writes this position holds the same rank
    have same : ∀ k : Fin 16, (k0_pay9 (F := F) acc v (lane k)).toNat = (y 0).val → 512 * k.val + n = 512 * l.val + r := by
      intro k e
      rcases dst_at hM hn hv k (ha k) with ⟨h1, _, h2⟩ | ⟨_, h2⟩
      · exact U_inj h1 hk (by omega)
      · omega
    refine (storeIdx_at (F := F) (e := .i32) g _ w h (p z) y (fun k e => ?_)).trans ?_
    · have := same k e
      exact hw k z (by have := k.isLt; have := l.isLt; omega)
    · by_cases hrn : r = n
      · subst hrn
        rw [if_pos]
        refine ⟨l, ?_⟩
        rcases dst_at hM hn hv l (ha l) with ⟨_, _, h2⟩ | ⟨h1, _⟩
        · omega
        · rcases h1 with h1 | h1
          · exact absurd h1 hk
          · omega
      · rw [if_neg]
        · exact hg l r (by omega) hk hlt y z hy hz
        · rintro ⟨k, e⟩
          have := same k e
          have := k.isLt; have := l.isLt; omega

end Cert.Proof.Values

end
-- ==== Proof.Trips.lean ====
/-
  The loops of the kernel's task, one trip each: from the loop's invariant before the trip to the invariant after it.
-/
module

public import proofs.«01_k».proof.Proof.Setup
public import proofs.«01_k».proof.Proof.Values

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.Tab Cert.Proof.Steps Cert.Proof.Values

variable {F : FTy → Type}

local notation "𝕄" => MT nD τ sig (HIx 1) (Elt F) ℕ UU ℕ

variable [FloatOps F] (d : Dev nD) (L : grid0.Coords) (k0_h1 : k0_cond1 L = 1#1)

/-- The targets' window that a copy fills while the loop below writes the rest. -/
abbrev tgW : Memref sig .scVector .vmem S4096 .f32 := (tgM).slice (Rect.unit (s := S8192) ![0] S4096.size inb_S8192_S4096_0) (fun _ => rfl)
/-- The elements of the targets' buffer outside that window. -/
abbrev tgRest : Finset S8192.Idx := Finset.univ \ (tgW).view.set

theorem mem_tgRest (y : S8192.Idx) : y ∈ tgRest ↔ 4096 ≤ (y 0).val := by
  have e : y ∈ (tgW).view.set ↔ ∀ a, (![0] : Fin 1 → Nat) a ≤ (y a).val ∧ (y a).val < (![0] : Fin 1 → Nat) a + S4096.size a := by
    show y ∈ ((View.whole cc0_scratch7).slice (Rect.unit (s := S8192) ![0] S4096.size inb_S8192_S4096_0)).set ↔ _
    rw [View.set_slice_whole, Rect.mem_set_unit]; exact Iff.rfl
  rw [Finset.mem_sdiff, e]
  constructor
  · rintro ⟨-, h⟩
    by_contra hlt
    exact h fun a => by
      have : a = 0 := Subsingleton.elim _ _
      subst this
      exact ⟨Nat.zero_le _, show (y 0).val < 0 + 4096 by omega⟩
  · intro h
    refine ⟨Finset.mem_univ _, fun h' => ?_⟩
    have : (y 0).val < 0 + 4096 := (h' 0).2
    omega

/-- The float zero that the kernel stores. -/
def zeroF : Elt F .f32 := k0_pay3 (F := F) (lane 0)

def inv1 (n : Nat) (_ : PUnit) : sProp 𝕄 :=
  iprop(∃ f : S8192.Idx → Elt F .f32, ⌜∀ y : S8192.Idx, 4096 ≤ (y 0).val → (y 0).val < 4096 + 16 * n → f y = zeroF (F := F)⌝
    ∗ ((tgM).view.loc (thr d L) ↦[tgRest]{fullShare} f))

def inv2 (n : Nat) (_ : PUnit) : sProp 𝕄 :=
  iprop(∃ f : S8448.Idx → BitVec 32, ⌜∀ y : S8448.Idx, (y 0).val < 16 * n → f y = 0#32⌝ ∗ ((mkM).view.loc (thr d L) ↦{fullShare} f))

def inv3 (it : S4096.Idx → BitVec 32) (tb : S50000.Idx → BitVec 32) (n : Nat) (_ : PUnit) : sProp 𝕄 :=
  iprop(((itM).view.loc (thr d L) ↦{fullShare} it) ∗ ((tblM).view.loc (thr d L) ↦{fullShare} tb)
    ∗ ∃ f : S8448.Idx → BitVec 32, ⌜Masked it n f⌝ ∗ ((mkM).view.loc (thr d L) ↦{fullShare} f))

def inv4 (it : S4096.Idx → BitVec 32) (f : S8448.Idx → BitVec 32) (n : Nat) (acc : IVec S16 32) : sProp 𝕄 :=
  iprop(⌜Counted it n acc⌝ ∗ ((mkM).view.loc (thr d L) ↦{fullShare} f))

def inv5 (it : S4096.Idx → BitVec 32) (f : S8448.Idx → BitVec 32) (p : S8192.Idx → BitVec 32) (n : Nat) (acc : IVec S16 32) : sProp 𝕄 :=
  iprop(((mkM).view.loc (thr d L) ↦{fullShare} f) ∗ ((pM).view.loc (thr d L) ↦{fullShare} p)
    ∗ ∃ g : S4112.Idx → BitVec 32, ⌜Packed it p n acc g⌝ ∗ ((outM).view.loc (thr d L) ↦{fullShare} g))

def inv6 (c : BitVec 32) (n : Nat) (_ : PUnit) : sProp 𝕄 :=
  iprop(∃ f : S8192.Idx → BitVec 32, ⌜∀ y : S8192.Idx, (y 0).val < 16 * n → f y = c⌝ ∗ ((ufM).view.loc (thr d L) ↦{fullShare} f))

/-! ## Windows of the buffers -/

theorem row_items (f : S4096.Idx → BitVec 32) (off : Fin 1 → Nat) (n : Nat) (ho : off = ![16 * n]) (inb) :
    Row f n (((View.whole cc0_scratch0).slice (Rect.unit (s := S4096) off S16.size inb)).read (Elt F) f) := by
  subst ho
  intro l y hy
  exact read_win cc0_scratch0 _ _ inb f (lane l) y (fun a => by
    have : a = (0 : Fin 1) := Subsingleton.elim (α := Fin 1) _ _
    subst this
    exact hy)

theorem row_prefix (f : S8192.Idx → BitVec 32) (off : Fin 1 → Nat) (n : Nat) (ho : off = ![16 * n]) (inb) :
    Row f n (((View.whole cc0_scratch2).slice (Rect.unit (s := S8192) off S16.size inb)).read (Elt F) f) := by
  subst ho
  intro l y hy
  exact read_win cc0_scratch2 _ _ inb f (lane l) y (fun a => by
    have : a = (0 : Fin 1) := Subsingleton.elim (α := Fin 1) _ _
    subst this
    exact hy)

theorem row_mask (f : S8448.Idx → BitVec 32) (off : Fin 1 → Nat) (n : Nat) (ho : off = ![16 * n]) (inb) :
    Row f n (((View.whole cc0_scratch3).slice (Rect.unit (s := S8448) off S16.size inb)).read (Elt F) f) := by
  subst ho
  intro l y hy
  exact read_win cc0_scratch3 _ _ inb f (lane l) y (fun a => by
    have : a = (0 : Fin 1) := Subsingleton.elim (α := Fin 1) _ _
    subst this
    exact hy)

theorem pts_mk (f : S8448.Idx → BitVec 32) :
    (((mkM).access (.whole S8448)).loc (thr d L) ↦[((mkM).access (.whole S8448)).set]{fullShare} f : sProp 𝕄) = (mkM).view.loc (thr d L) ↦{fullShare} f := by
  rw [show ((mkM).access (.whole S8448)).set = Finset.univ from Memref.set_access_whole cc0_scratch3]
theorem pts_out (f : S4112.Idx → BitVec 32) :
    (((outM).access (.whole S4112)).loc (thr d L) ↦[((outM).access (.whole S4112)).set]{fullShare} f : sProp 𝕄) = (outM).view.loc (thr d L) ↦{fullShare} f := by
  rw [show ((outM).access (.whole S4112)).set = Finset.univ from Memref.set_access_whole cc0_scratch4]

theorem store_mk (f : S8448.Idx → BitVec 32) (s : IVec S16 32) (w : Vec F S16 .i32) (h : ∀ a x, ((![s] : Fin 1 → IVec S16 32) a x).toNat < S8448.size a) :
    ((mkM).access (.whole S8448)).write (Elt F) f
        (storeIdx (F := F) (e := .i32) (s := S8448) (d := ![16]) (((mkM).access (.whole S8448)).read (Elt F) f) ![s] w (fun _ => 1#1) false h) Finset.univ
      = storeIdx (F := F) (e := .i32) (s := S8448) (d := ![16]) f ![s] w (fun _ => 1#1) false h := by
  have e1 : ((mkM).access (.whole S8448)).read (Elt F) f = f := Memref.read_access_whole (Elt F) cc0_scratch3 f
  rw [e1]
  generalize storeIdx (F := F) (e := .i32) (s := S8448) (d := ![16]) f ![s] w (fun _ => 1#1) false h = g
  exact Memref.write_access_whole_univ (Elt F) cc0_scratch3 f g
theorem store_out (f : S4112.Idx → BitVec 32) (s : IVec S16 32) (w : Vec F S16 .i32) (h : ∀ a x, ((![s] : Fin 1 → IVec S16 32) a x).toNat < S4112.size a) :
    ((outM).access (.whole S4112)).write (Elt F) f
        (storeIdx (F := F) (e := .i32) (s := S4112) (d := ![16]) (((outM).access (.whole S4112)).read (Elt F) f) ![s] w (fun _ => 1#1) false h) Finset.univ
      = storeIdx (F := F) (e := .i32) (s := S4112) (d := ![16]) f ![s] w (fun _ => 1#1) false h := by
  have e1 : ((outM).access (.whole S4112)).read (Elt F) f = f := Memref.read_access_whole (Elt F) cc0_scratch4 f
  rw [e1]
  generalize storeIdx (F := F) (e := .i32) (s := S4112) (d := ![16]) f ![s] w (fun _ => 1#1) false h = g
  exact Memref.write_access_whole_univ (Elt F) cc0_scratch4 f g

/-! ## The trips -/

theorem trip1 (n : Fin k0_t1_loop.trips) (acc : PUnit) :
    inv1 (F := F) d L n acc ⊢ wp frame (wpE (defs₀ (F := F)) 𝒱₀ (thr d L) none) Set.univ
      (k0_t1_body (F := F) L uA (Memref.isWhole_whole _) iA (Memref.isWhole_whole _) tA (Memref.isWhole_whole _) cA (Memref.isWhole_whole _) pA (Memref.isWhole_whole _) uR (Memref.isWhole_whole _) iR (Memref.isWhole_whole _) tR (Memref.isWhole_whole _) itM (Memref.isWhole_whole _) tblM (Memref.isWhole_whole _) pM (Memref.isWhole_whole _) mkM (Memref.isWhole_whole _) outM (Memref.isWhole_whole _) uM (Memref.isWhole_whole _) ufM (Memref.isWhole_whole _) tgM (Memref.isWhole_whole _) cc0_scratch8 cc0_scratch9 cc0_scratch10 cc0_scratch11 cc0_scratch12 cc0_scratch13 cc0_scratch14 cc0_scratch15 cc0_scratch16 k0_h1 n acc) (inv1 (F := F) d L (n.val + 1)) := by
  unfold inv1 k0_t1_body
  simp only [Prog.bind_lift]
  iintro ⟨%f, %hf, H⟩
  have hn : n.val < 256 := Nat.lt_of_lt_of_le n.isLt k0_t1_abs.2.1
  have hsub : ((tgM).access (Rect.unit (s := S8192) (k0_off1 n) S16.size (k0_off1_inb L n k0_h1))).set ⊆ tgRest := by
    intro y hy
    rw [mem_tgRest]
    have hy' : y ∈ ((View.whole cc0_scratch7).slice (Rect.unit (s := S8192) (k0_off1 n) S16.size (k0_off1_inb L n k0_h1))).set := hy
    rw [View.set_slice_whole, Rect.mem_set_unit] at hy'
    have := (hy' 0).1
    rw [k0_off1_eq] at this
    have h2 : 16 * n.val + 4096 ≤ (y 0).val := this
    omega
  iapply (wp_load_rect 𝒱₀ (thr d L) none Set.univ (m := tgM) (r := Rect.unit (s := S8192) (k0_off1 n) S16.size (k0_off1_inb L n k0_h1)) (S := tgRest) hsub) $$ H
  iintro H
  iapply (wp_store 𝒱₀ (thr d L) none Set.univ (m := tgM) (r := Rect.unit (s := S8192) (k0_off1 n) S16.size (k0_off1_inb L n k0_h1)) (Mk := Finset.univ) (S := tgRest) hsub) $$ H
  iintro H
  sl_step
  iexists _
  isplitr
  swap; · iexact H
  ipureintro
  intro y h1 h2
  by_cases hw : (y 0).val < 16 * n.val + 4096
  · refine (write_win_miss cc0_scratch7 _ _ _ f _ y ?_).trans (hf y h1 (by omega))
    intro h
    have := (h 0).1
    rw [k0_off1_eq] at this
    have h3 : 16 * n.val + 4096 ≤ (y 0).val := this
    omega
  · obtain ⟨k, hk⟩ : ∃ k : Fin 16, (y 0).val = (16 * n.val + 4096) + k.val := ⟨⟨(y 0).val - ((16 * n.val + 4096)), by omega⟩, by show _ = (16 * n.val + 4096) + ((y 0).val - ((16 * n.val + 4096))); omega⟩
    exact write_win_hit cc0_scratch7 _ _ _ f _ (lane k) y (fun a => by
      have : a = (0 : Fin 1) := Subsingleton.elim (α := Fin 1) _ _
      subst this
      have ho : k0_off1 n 0 = (16 * n.val + 4096) := congrFun (k0_off1_eq n) 0
      show (y 0).val = k0_off1 n 0 + k.val; omega)

theorem trip2 (n : Fin k0_t2_loop.trips) (acc : PUnit) :
    inv2 (F := F) d L n acc ⊢ wp frame (wpE (defs₀ (F := F)) 𝒱₀ (thr d L) none) Set.univ
      (k0_t2_body (F := F) L uA (Memref.isWhole_whole _) iA (Memref.isWhole_whole _) tA (Memref.isWhole_whole _) cA (Memref.isWhole_whole _) pA (Memref.isWhole_whole _) uR (Memref.isWhole_whole _) iR (Memref.isWhole_whole _) tR (Memref.isWhole_whole _) itM (Memref.isWhole_whole _) tblM (Memref.isWhole_whole _) pM (Memref.isWhole_whole _) mkM (Memref.isWhole_whole _) outM (Memref.isWhole_whole _) uM (Memref.isWhole_whole _) ufM (Memref.isWhole_whole _) tgM (Memref.isWhole_whole _) cc0_scratch8 cc0_scratch9 cc0_scratch10 cc0_scratch11 cc0_scratch12 cc0_scratch13 cc0_scratch14 cc0_scratch15 cc0_scratch16 k0_h1 n acc) (inv2 (F := F) d L (n.val + 1)) := by
  unfold inv2 k0_t2_body
  simp only [Prog.bind_lift]
  iintro ⟨%f, %hf, H⟩
  iapply (wp_load_rect 𝒱₀ (thr d L) none Set.univ (m := mkM) (r := Rect.unit (s := S8448) (k0_off2 n) S16.size (k0_off2_inb L n k0_h1)) (S := Finset.univ) (Finset.subset_univ _)) $$ H
  iintro H
  iapply (wp_store 𝒱₀ (thr d L) none Set.univ (m := mkM) (r := Rect.unit (s := S8448) (k0_off2 n) S16.size (k0_off2_inb L n k0_h1)) (Mk := Finset.univ) (S := Finset.univ) (Finset.subset_univ _)) $$ H
  iintro H
  sl_step
  iexists _
  isplitr
  swap; · iexact H
  ipureintro
  intro y h2
  by_cases hw : (y 0).val < 16 * n.val
  · refine (write_win_miss cc0_scratch3 _ _ _ f _ y ?_).trans (hf y hw)
    intro h
    have := (h 0).1
    rw [k0_off2_eq] at this
    have h3 : 16 * n.val ≤ (y 0).val := this
    omega
  · obtain ⟨k, hk⟩ : ∃ k : Fin 16, (y 0).val = 16 * n.val + k.val := ⟨⟨(y 0).val - (16 * n.val), by omega⟩, by show _ = 16 * n.val + ((y 0).val - (16 * n.val)); omega⟩
    exact write_win_hit cc0_scratch3 _ _ _ f _ (lane k) y (fun a => by
      have : a = (0 : Fin 1) := Subsingleton.elim (α := Fin 1) _ _
      subst this
      have ho : k0_off2 n 0 = 16 * n.val := congrFun (k0_off2_eq n) 0
      show (y 0).val = k0_off2 n 0 + k.val; omega)

theorem trip6 (v32 : Vec F S16 .i32) (n : Fin k0_t6_loop.trips) (acc : PUnit) :
    inv6 (F := F) d L (v32 (lane 0)) n acc ⊢ wp frame (wpE (defs₀ (F := F)) 𝒱₀ (thr d L) none) Set.univ
      (k0_t6_body (F := F) L uA (Memref.isWhole_whole _) iA (Memref.isWhole_whole _) tA (Memref.isWhole_whole _) cA (Memref.isWhole_whole _) pA (Memref.isWhole_whole _) uR (Memref.isWhole_whole _) iR (Memref.isWhole_whole _) tR (Memref.isWhole_whole _) itM (Memref.isWhole_whole _) tblM (Memref.isWhole_whole _) pM (Memref.isWhole_whole _) mkM (Memref.isWhole_whole _) outM (Memref.isWhole_whole _) uM (Memref.isWhole_whole _) ufM (Memref.isWhole_whole _) tgM (Memref.isWhole_whole _) cc0_scratch8 cc0_scratch9 cc0_scratch10 cc0_scratch11 cc0_scratch12 cc0_scratch13 cc0_scratch14 cc0_scratch15 cc0_scratch16 k0_h1 v32 n acc) (inv6 (F := F) d L (v32 (lane 0)) (n.val + 1)) := by
  unfold inv6 k0_t6_body
  simp only [Prog.bind_lift]
  iintro ⟨%f, %hf, H⟩
  iapply (wp_load_rect 𝒱₀ (thr d L) none Set.univ (m := ufM) (r := Rect.unit (s := S8192) (k0_off7 n) S16.size (k0_off7_inb L n k0_h1)) (S := Finset.univ) (Finset.subset_univ _)) $$ H
  iintro H
  iapply (wp_store 𝒱₀ (thr d L) none Set.univ (m := ufM) (r := Rect.unit (s := S8192) (k0_off7 n) S16.size (k0_off7_inb L n k0_h1)) (Mk := Finset.univ) (S := Finset.univ) (Finset.subset_univ _)) $$ H
  iintro H
  sl_step
  iexists _
  isplitr
  swap; · iexact H
  ipureintro
  intro y h2
  by_cases hw : (y 0).val < 16 * n.val
  · refine (write_win_miss cc0_scratch6 _ _ _ f _ y ?_).trans (hf y hw)
    intro h
    have := (h 0).1
    rw [k0_off7_eq] at this
    have h3 : 16 * n.val ≤ (y 0).val := this
    omega
  · obtain ⟨k, hk⟩ : ∃ k : Fin 16, (y 0).val = 16 * n.val + k.val := ⟨⟨(y 0).val - (16 * n.val), by omega⟩, by show _ = 16 * n.val + ((y 0).val - (16 * n.val)); omega⟩
    exact (write_win_hit cc0_scratch6 _ _ _ f _ (lane k) y (fun a => by
      have : a = (0 : Fin 1) := Subsingleton.elim (α := Fin 1) _ _
      subst this
      have ho : k0_off7 n 0 = 16 * n.val := congrFun (k0_off7_eq n) 0
      show (y 0).val = k0_off7 n 0 + k.val; omega)).trans (pay11_at v32 _)

theorem trip3 (it : S4096.Idx → BitVec 32) (hit : InRange it) (tb : S50000.Idx → BitVec 32) (htb : ∀ w, (tb w).toNat = wordN (w 0).val)
    (n : Fin k0_t3_loop.trips) (acc : PUnit) :
    inv3 (F := F) d L it tb n acc ⊢ wp frame (wpE (defs₀ (F := F)) 𝒱₀ (thr d L) none) Set.univ
      (k0_t3_body (F := F) L uA (Memref.isWhole_whole _) iA (Memref.isWhole_whole _) tA (Memref.isWhole_whole _) cA (Memref.isWhole_whole _) pA (Memref.isWhole_whole _) uR (Memref.isWhole_whole _) iR (Memref.isWhole_whole _) tR (Memref.isWhole_whole _) itM (Memref.isWhole_whole _) tblM (Memref.isWhole_whole _) pM (Memref.isWhole_whole _) mkM (Memref.isWhole_whole _) outM (Memref.isWhole_whole _) uM (Memref.isWhole_whole _) ufM (Memref.isWhole_whole _) tgM (Memref.isWhole_whole _) cc0_scratch8 cc0_scratch9 cc0_scratch10 cc0_scratch11 cc0_scratch12 cc0_scratch13 cc0_scratch14 cc0_scratch15 cc0_scratch16 k0_h1 n acc) (inv3 (F := F) d L it tb (n.val + 1)) := by
  have hn : n.val < 256 := Nat.lt_of_lt_of_le n.isLt k0_t3_abs.2.1
  unfold inv3 k0_t3_body
  simp only [Prog.bind_lift]
  iintro ⟨Hi, Ht, %f, %hf, H⟩
  iapply (wp_load_rect 𝒱₀ (thr d L) none Set.univ (m := itM) (r := Rect.unit (s := S4096) (k0_off3 n) S16.size (k0_off3_inb L n k0_h1)) (S := Finset.univ) (Finset.subset_univ _)) $$ Hi
  iintro Hi
  have hrow := row_items (F := F) it (k0_off3 n) n.val (k0_off3_eq n) (k0_off3_inb L n k0_h1)
  generalize ((itM).access (Rect.unit (s := S4096) (k0_off3 n) S16.size (k0_off3_inb L n k0_h1))).read (Elt F) it = v at hrow ⊢
  have hv : ∀ l, (v (lane l)).toNat < 100000 := fun l => by
    have hb : 16 * n.val + l.val < 4096 := by have := l.isLt; omega
    rw [hrow l (Shape.ofLane (d := ![4096]) ⟨16 * n.val + l.val, hb⟩) rfl]; exact hit _
  rw [wp_assume_of _ _ _ _ (chk1_ok L v hv)]
  iapply (SparseCore.wp_vectorLoadIdx 𝒱₀ (thr d L) none Set.univ (base := tblM) (S := Finset.univ) (q := fullShare) (Finset.subset_univ _)) $$ Ht
  iintro Ht
  have htab : ((tblM).access (.whole S50000)).read (Elt F) tb = tb := Memref.read_access_whole (Elt F) cc0_scratch1 tb
  rw [htab]
  have hs := fun l => slot_at (F := F) tb htb v (k0_idx1_inb L _ (chk1_ok L v hv) k0_h1) l (hv l)
  generalize hsv : k0_pay5 (F := F) v _ = s at hs ⊢
  rw [wp_assume_of _ _ _ _ (chk2_ok L s (fun l => (v (lane l)).toNat) hv hs)]
  ihave H' := (Entails.of_eq (pts_mk (F := F) d L f).symm) $$ H
  iapply (SparseCore.wp_vectorStoreIdx 𝒱₀ (thr d L) none Set.univ (base := mkM)) $$ H'
  iintro H
  sl_step
  isplitl [Hi]; · iexact Hi
  isplitl [Ht]; · iexact Ht
  iexists _
  isplitr
  swap
  · iapply (Entails.of_eq (pts_mk (F := F) d L _)); iexact H
  ipureintro
  exact (congrArg (Masked it (n.val + 1)) (store_mk (F := F) f s k0_pay2 _)).mpr
    (masked_step hn (k0_idx2_inb L s (chk2_ok L s (fun l => (v (lane l)).toNat) hv hs) k0_h1) hf (fun l j hj => by rw [hs l, hrow l j hj]))

theorem trip4 (it : S4096.Idx → BitVec 32) (f : S8448.Idx → BitVec 32) (hf : Masked it 256 f) (n : Fin k0_t4_loop.trips) (acc : IVec S16 32) :
    inv4 (F := F) d L it f n acc ⊢ wp frame (wpE (defs₀ (F := F)) 𝒱₀ (thr d L) none) Set.univ
      (k0_t4_body (F := F) L uA (Memref.isWhole_whole _) iA (Memref.isWhole_whole _) tA (Memref.isWhole_whole _) cA (Memref.isWhole_whole _) pA (Memref.isWhole_whole _) uR (Memref.isWhole_whole _) iR (Memref.isWhole_whole _) tR (Memref.isWhole_whole _) itM (Memref.isWhole_whole _) tblM (Memref.isWhole_whole _) pM (Memref.isWhole_whole _) mkM (Memref.isWhole_whole _) outM (Memref.isWhole_whole _) uM (Memref.isWhole_whole _) ufM (Memref.isWhole_whole _) tgM (Memref.isWhole_whole _) cc0_scratch8 cc0_scratch9 cc0_scratch10 cc0_scratch11 cc0_scratch12 cc0_scratch13 cc0_scratch14 cc0_scratch15 cc0_scratch16 k0_h1 n acc) (inv4 (F := F) d L it f (n.val + 1)) := by
  have hn : n.val < 512 := Nat.lt_of_lt_of_le n.isLt k0_t4_abs.2.1
  unfold inv4 k0_t4_body
  simp only [Prog.bind_lift]
  iintro ⟨%ha, H⟩
  iapply (wp_load_rect 𝒱₀ (thr d L) none Set.univ (m := mkM) (r := Rect.unit (s := S8448) (k0_off4 n) S16.size (k0_off4_inb L n k0_h1)) (S := Finset.univ) (Finset.subset_univ _)) $$ H
  iintro H
  have hrow := row_mask (F := F) f (k0_off4 n) n.val (k0_off4_eq n) (k0_off4_inb L n k0_h1)
  sl_step
  isplitr
  · ipureintro; exact count_step (F := F) hf hn hrow ha
  · iexact H

theorem trip5 (it : S4096.Idx → BitVec 32) (f : S8448.Idx → BitVec 32) (hf : Masked it 256 f) (p : S8192.Idx → BitVec 32) (n : Fin k0_t5_loop.trips) (acc : IVec S16 32) :
    inv5 (F := F) d L it f p n acc ⊢ wp frame (wpE (defs₀ (F := F)) 𝒱₀ (thr d L) none) Set.univ
      (k0_t5_body (F := F) L uA (Memref.isWhole_whole _) iA (Memref.isWhole_whole _) tA (Memref.isWhole_whole _) cA (Memref.isWhole_whole _) pA (Memref.isWhole_whole _) uR (Memref.isWhole_whole _) iR (Memref.isWhole_whole _) tR (Memref.isWhole_whole _) itM (Memref.isWhole_whole _) tblM (Memref.isWhole_whole _) pM (Memref.isWhole_whole _) mkM (Memref.isWhole_whole _) outM (Memref.isWhole_whole _) uM (Memref.isWhole_whole _) ufM (Memref.isWhole_whole _) tgM (Memref.isWhole_whole _) cc0_scratch8 cc0_scratch9 cc0_scratch10 cc0_scratch11 cc0_scratch12 cc0_scratch13 cc0_scratch14 cc0_scratch15 cc0_scratch16 k0_h1 n acc) (inv5 (F := F) d L it f p (n.val + 1)) := by
  have hn : n.val < 512 := Nat.lt_of_lt_of_le n.isLt k0_t5_abs.2.1
  unfold inv5 k0_t5_body
  simp only [Prog.bind_lift]
  iintro ⟨H, Hp, %g, %hg, Ho⟩
  iapply (wp_load_rect 𝒱₀ (thr d L) none Set.univ (m := mkM) (r := Rect.unit (s := S8448) (k0_off5 n) S16.size (k0_off5_inb L n k0_h1)) (S := Finset.univ) (Finset.subset_univ _)) $$ H
  iintro H
  have hrow := row_mask (F := F) f (k0_off5 n) n.val (k0_off5_eq n) (k0_off5_inb L n k0_h1)
  generalize ((mkM).access (Rect.unit (s := S8448) (k0_off5 n) S16.size (k0_off5_inb L n k0_h1))).read (Elt F) f = v at hrow ⊢
  iapply (wp_load_rect 𝒱₀ (thr d L) none Set.univ (m := pM) (r := Rect.unit (s := S8192) (k0_off6 n) S16.size (k0_off6_inb L n k0_h1)) (S := Finset.univ) (Finset.subset_univ _)) $$ Hp
  iintro Hp
  have hrow' := row_prefix (F := F) p (k0_off6 n) n.val (k0_off6_eq n) (k0_off6_inb L n k0_h1)
  generalize ((pM).access (Rect.unit (s := S8192) (k0_off6 n) S16.size (k0_off6_inb L n k0_h1))).read (Elt F) p = w at hrow' ⊢
  have hc := chk3_ok (F := F) hf hn hrow hg.1 L
  rw [wp_assume_of _ _ _ _ hc]
  ihave Ho' := (Entails.of_eq (pts_out (F := F) d L g).symm) $$ Ho
  iapply (SparseCore.wp_vectorStoreIdx 𝒱₀ (thr d L) none Set.univ (base := outM)) $$ Ho'
  iintro Ho
  sl_step
  isplitl [H]; · iexact H
  isplitl [Hp]; · iexact Hp
  iexists _
  isplitr
  swap
  · iapply (Entails.of_eq (pts_out (F := F) d L _)); iexact Ho
  ipureintro
  exact (congrArg (Packed it p (n.val + 1) (k0_pay10 (F := F) acc v)) (store_out (F := F) g (k0_pay9 (F := F) acc v) w _)).mpr
    (packed_step (F := F) hf hn hrow hrow' hg (k0_idx3_inb L _ hc k0_h1))

end Cert.Proof.Run

end
-- ==== Proof.Res.lean ====
/-
  The kernel's task on its one working subcore: what it takes, what it gives back, and its run.
-/
module

public import proofs.«01_k».proof.Proof.Trips

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.Tab Cert.Proof.Steps Cert.Proof.Values

variable {F : FTy → Type}

local notation "𝕄" => MT nD τ sig (HIx 1) (Elt F) ℕ UU ℕ

/-! ## The arrays -/

variable (m : (ℓ : Loc nD τ sig) → Buf (Elt F) ℓ)

abbrev uLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_arg2
abbrev cLoc (d : Dev nD) : Loc nD τ sig := (SparseCore.T d).loc main_c
abbrev pLoc (d : Dev nD) : Loc nD τ sig := (SparseCore.T d).loc main_c_0
abbrev aLoc (d : Dev nD) : Loc nD τ sig := (SparseCore.T d).loc main_v0_0
abbrev bLoc (d : Dev nD) : Loc nD τ sig := (SparseCore.T d).loc main_v0_1
abbrev rLoc (d : Dev nD) : Loc nD τ sig := (SparseCore.T d).loc main_v0_2

/-- The constant tables' contents. -/
def tabC : S50000.Idx → BitVec 32 := fun i => lit0 (S50000.rowMajor i)
def tabP : S8192.Idx → BitVec 32 := fun i => lit1 (S8192.rowMajor i)

/-- The items as the launch memory gives them. -/
abbrev items (d : Dev nD) : S4096.Idx → BitVec 32 := m (iLoc d)

/-- What the proof asks of the launch memory: every item's number is in range. -/
def PreOK : Prop := ∀ d : Dev nD, InRange (items m d)

variable [FloatOps F]

/-- The results' contents: the first user everywhere; the items, then the unmarked entries of the prefix in order; the
    targets, then zeros. -/
def OutSpec (d : Dev nD) (fa : S8192.Idx → BitVec 32) (fb : S8192.Idx → BitVec 32) (fr : S8192.Idx → Elt F .f32) : Prop :=
  (∀ (y : S8192.Idx) (z : S4096.Idx), (z 0).val = 0 → fa y = m (uLoc d) z)
    ∧ (∀ (y : S8192.Idx) (z : S4096.Idx), (y 0).val = (z 0).val → fb y = m (iLoc d) z)
    ∧ (∀ j, j < 8192 → ¬ marked (items m d) 4096 (posN j) → U (items m d) j < 4096 →
        ∀ y z : S8192.Idx, (y 0).val = 4096 + U (items m d) j → (z 0).val = posN j → fb y = tabP z)
    ∧ (∀ (y : S8192.Idx) (z : S4096.Idx), (y 0).val = (z 0).val → fr y = m (tLoc d) z)
    ∧ (∀ y : S8192.Idx, 4096 ≤ (y 0).val → fr y = zeroF (F := F))

/-- The arrays that the call takes. -/
def goRes (d : Dev nD) : sProp 𝕄 :=
  iprop((uLoc d ↦{fullShare} m (uLoc d)) ∗ (iLoc d ↦{fullShare} m (iLoc d)) ∗ (tLoc d ↦{fullShare} m (tLoc d))
    ∗ (cLoc d ↦{fullShare} tabC) ∗ (pLoc d ↦{fullShare} tabP)
    ∗ (∃ f, aLoc d ↦{fullShare} f) ∗ (∃ f, bLoc d ↦{fullShare} f) ∗ (∃ f, rLoc d ↦{fullShare} f))
/-- The arrays that it gives back. -/
def tdRes (d : Dev nD) : sProp 𝕄 :=
  iprop((uLoc d ↦{fullShare} m (uLoc d)) ∗ (iLoc d ↦{fullShare} m (iLoc d)) ∗ (tLoc d ↦{fullShare} m (tLoc d))
    ∗ (cLoc d ↦{fullShare} tabC) ∗ (pLoc d ↦{fullShare} tabP)
    ∗ ∃ (fa : S8192.Idx → BitVec 32) (fb : S8192.Idx → BitVec 32) (fr : S8192.Idx → Elt F .f32), ⌜OutSpec m d fa fb fr⌝
      ∗ (aLoc d ↦{fullShare} fa) ∗ (bLoc d ↦{fullShare} fb) ∗ (rLoc d ↦{fullShare} fr))

instance goRes_storable (d : Dev nD) : BI.Storable (upEmb : UEmb _ 𝕄) (goRes m d) := by unfold goRes; infer_instance
instance tdRes_storable (d : Dev nD) : BI.Storable (upEmb : UEmb _ 𝕄) (tdRes m d) := by unfold tdRes; infer_instance

/-! ## The subcore's own semaphores and buffers -/

variable (d : Dev nD) (L : grid0.Coords)

abbrev cell0 (d : Dev nD) (c : Fin τ.nSC) (i : Fin τ.nSub) : GSem nD τ sig := (V d c i, .dma cc0_scratch8.sem)
abbrev cell1 (d : Dev nD) (c : Fin τ.nSC) (i : Fin τ.nSub) : GSem nD τ sig := (V d c i, .dma cc0_scratch9.sem)
abbrev cell2 (d : Dev nD) (c : Fin τ.nSC) (i : Fin τ.nSub) : GSem nD τ sig := (V d c i, .dma cc0_scratch10.sem)
abbrev cell3 (d : Dev nD) (c : Fin τ.nSC) (i : Fin τ.nSub) : GSem nD τ sig := (V d c i, .dma cc0_scratch11.sem)
abbrev cell4 (d : Dev nD) (c : Fin τ.nSC) (i : Fin τ.nSub) : GSem nD τ sig := (V d c i, .dma cc0_scratch12.sem)
abbrev cell5 (d : Dev nD) (c : Fin τ.nSC) (i : Fin τ.nSub) : GSem nD τ sig := (V d c i, .dma cc0_scratch13.sem)
abbrev cell6 (d : Dev nD) (c : Fin τ.nSC) (i : Fin τ.nSub) : GSem nD τ sig := (V d c i, .dma cc0_scratch14.sem)
abbrev cell7 (d : Dev nD) (c : Fin τ.nSC) (i : Fin τ.nSub) : GSem nD τ sig := (V d c i, .dma cc0_scratch15.sem)
abbrev cell8 (d : Dev nD) (c : Fin τ.nSC) (i : Fin τ.nSub) : GSem nD τ sig := (V d c i, .dma cc0_scratch16.sem)

omit [FloatOps F] m in
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ semVal (cell6 d (cV L) (jV L)) 0 ∗ semVal (cell7 d (cV L) (jV L)) 0 ∗ semVal (cell8 d (cV L) (jV L)) 0
          ∗ bigSep ((((((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))).erase (cell6 d (cV L) (jV L))).erase (cell7 d (cV L) (jV L))).erase (cell8 d (cV L) (jV L))) fun g => semVal g 0) := by
  unfold SparseCore.Cfg.ownSems0
  rw [SparseCore.bigSep_erase' ((mem_ownCells (g := cell0 d (cV L) (jV L))).mpr ⟨rfl, by show (SemLoc.dma cc0_scratch8.sem : SemLoc sig).isScoped .scVector = true; decide⟩),
    SparseCore.bigSep_erase' (Finset.mem_erase.mpr ⟨by simp [cell0, cell1]; decide, ((mem_ownCells (g := cell1 d (cV L) (jV L))).mpr ⟨rfl, by show (SemLoc.dma cc0_scratch9.sem : SemLoc sig).isScoped .scVector = true; decide⟩)⟩),
    SparseCore.bigSep_erase' (Finset.mem_erase.mpr ⟨by simp [cell1, cell2]; decide, (Finset.mem_erase.mpr ⟨by simp [cell0, cell2]; decide, ((mem_ownCells (g := cell2 d (cV L) (jV L))).mpr ⟨rfl, by show (SemLoc.dma cc0_scratch10.sem : SemLoc sig).isScoped .scVector = true; decide⟩)⟩)⟩),
    SparseCore.bigSep_erase' (Finset.mem_erase.mpr ⟨by simp [cell2, cell3]; decide, (Finset.mem_erase.mpr ⟨by simp [cell1, cell3]; decide, (Finset.mem_erase.mpr ⟨by simp [cell0, cell3]; decide, ((mem_ownCells (g := cell3 d (cV L) (jV L))).mpr ⟨rfl, by show (SemLoc.dma cc0_scratch11.sem : SemLoc sig).isScoped .scVector = true; decide⟩)⟩)⟩)⟩),
    SparseCore.bigSep_erase' (Finset.mem_erase.mpr ⟨by simp [cell3, cell4]; decide, (Finset.mem_erase.mpr ⟨by simp [cell2, cell4]; decide, (Finset.mem_erase.mpr ⟨by simp [cell1, cell4]; decide, (Finset.mem_erase.mpr ⟨by simp [cell0, cell4]; decide, ((mem_ownCells (g := cell4 d (cV L) (jV L))).mpr ⟨rfl, by show (SemLoc.dma cc0_scratch12.sem : SemLoc sig).isScoped .scVector = true; decide⟩)⟩)⟩)⟩)⟩),
    SparseCore.bigSep_erase' (Finset.mem_erase.mpr ⟨by simp [cell4, cell5]; decide, (Finset.mem_erase.mpr ⟨by simp [cell3, cell5]; decide, (Finset.mem_erase.mpr ⟨by simp [cell2, cell5]; decide, (Finset.mem_erase.mpr ⟨by simp [cell1, cell5]; decide, (Finset.mem_erase.mpr ⟨by simp [cell0, cell5]; decide, ((mem_ownCells (g := cell5 d (cV L) (jV L))).mpr ⟨rfl, by show (SemLoc.dma cc0_scratch13.sem : SemLoc sig).isScoped .scVector = true; decide⟩)⟩)⟩)⟩)⟩)⟩),
    SparseCore.bigSep_erase' (Finset.mem_erase.mpr ⟨by simp [cell5, cell6]; decide, (Finset.mem_erase.mpr ⟨by simp [cell4, cell6]; decide, (Finset.mem_erase.mpr ⟨by simp [cell3, cell6]; decide, (Finset.mem_erase.mpr ⟨by simp [cell2, cell6]; decide, (Finset.mem_erase.mpr ⟨by simp [cell1, cell6]; decide, (Finset.mem_erase.mpr ⟨by simp [cell0, cell6]; decide, ((mem_ownCells (g := cell6 d (cV L) (jV L))).mpr ⟨rfl, by show (SemLoc.dma cc0_scratch14.sem : SemLoc sig).isScoped .scVector = true; decide⟩)⟩)⟩)⟩)⟩)⟩)⟩),
    SparseCore.bigSep_erase' (Finset.mem_erase.mpr ⟨by simp [cell6, cell7]; decide, (Finset.mem_erase.mpr ⟨by simp [cell5, cell7]; decide, (Finset.mem_erase.mpr ⟨by simp [cell4, cell7]; decide, (Finset.mem_erase.mpr ⟨by simp [cell3, cell7]; decide, (Finset.mem_erase.mpr ⟨by simp [cell2, cell7]; decide, (Finset.mem_erase.mpr ⟨by simp [cell1, cell7]; decide, (Finset.mem_erase.mpr ⟨by simp [cell0, cell7]; decide, ((mem_ownCells (g := cell7 d (cV L) (jV L))).mpr ⟨rfl, by show (SemLoc.dma cc0_scratch15.sem : SemLoc sig).isScoped .scVector = true; decide⟩)⟩)⟩)⟩)⟩)⟩)⟩)⟩),
    SparseCore.bigSep_erase' (Finset.mem_erase.mpr ⟨by simp [cell7, cell8]; decide, (Finset.mem_erase.mpr ⟨by simp [cell6, cell8]; decide, (Finset.mem_erase.mpr ⟨by simp [cell5, cell8]; decide, (Finset.mem_erase.mpr ⟨by simp [cell4, cell8]; decide, (Finset.mem_erase.mpr ⟨by simp [cell3, cell8]; decide, (Finset.mem_erase.mpr ⟨by simp [cell2, cell8]; decide, (Finset.mem_erase.mpr ⟨by simp [cell1, cell8]; decide, (Finset.mem_erase.mpr ⟨by simp [cell0, cell8]; decide, ((mem_ownCells (g := cell8 d (cV L) (jV L))).mpr ⟨rfl, by show (SemLoc.dma cc0_scratch16.sem : SemLoc sig).isScoped .scVector = true; decide⟩)⟩)⟩)⟩)⟩)⟩)⟩)⟩)⟩)]

omit [FloatOps F] m in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f)
          ∗ bigSep (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := ((Proc.scVector (cV L) (jV L)).devRef cc0_scratch2)) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := ((Proc.scVector (cV L) (jV L)).devRef cc0_scratch3)) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := Proc.scVector (cV L) (jV L)) (b := ((Proc.scVector (cV L) (jV L)).devRef cc0_scratch4)) rfl)⟩)⟩)⟩)⟩),
    SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (Finset.mem_erase.mpr ⟨fun e => absurd (Proc.devRef_injective _ e) (show (cc0_scratch5 : Ref sig .scVector) ≠ cc0_scratch1 by decide), (Finset.mem_erase.mpr ⟨fun e => absurd (Proc.devRef_injective _ e) (show (cc0_scratch5 : Ref sig .scVector) ≠ cc0_scratch0 by decide), (SparseCore.Cfg.mem_ownRefs_of_owner (p := Proc.scVector (cV L) (jV L)) (b := ((Proc.scVector (cV L) (jV L)).devRef cc0_scratch5)) rfl)⟩)⟩)⟩)⟩)⟩),
    SparseCore.bigSep_erase' (Finset.mem_erase.mpr ⟨fun e => absurd (Proc.devRef_injective _ e) (show (cc0_scratch6 : Ref sig .scVector) ≠ cc0_scratch5 by decide), (Finset.mem_erase.mpr ⟨fun e => absurd (Proc.devRef_injective _ e) (show (cc0_scratch6 : Ref sig .scVector) ≠ cc0_scratch4 by decide), (Finset.mem_erase.mpr ⟨fun e => absurd (Proc.devRef_injective _ e) (show (cc0_scratch6 : Ref sig .scVector) ≠ cc0_scratch3 by decide), (Finset.mem_erase.mpr ⟨fun e => absurd (Proc.devRef_injective _ e) (show (cc0_scratch6 : Ref sig .scVector) ≠ cc0_scratch2 by decide), (Finset.mem_erase.mpr ⟨fun e => absurd (Proc.devRef_injective _ e) (show (cc0_scratch6 : Ref sig .scVector) ≠ cc0_scratch1 by decide), (Finset.mem_erase.mpr ⟨fun e => absurd (Proc.devRef_injective _ e) (show (cc0_scratch6 : Ref sig .scVector) ≠ cc0_scratch0 by decide), (SparseCore.Cfg.mem_ownRefs_of_owner (p := Proc.scVector (cV L) (jV L)) (b := ((Proc.scVector (cV L) (jV L)).devRef cc0_scratch6)) rfl)⟩)⟩)⟩)⟩)⟩)⟩),
    SparseCore.bigSep_erase' (Finset.mem_erase.mpr ⟨fun e => absurd (Proc.devRef_injective _ e) (show (cc0_scratch7 : Ref sig .scVector) ≠ cc0_scratch6 by decide), (Finset.mem_erase.mpr ⟨fun e => absurd (Proc.devRef_injective _ e) (show (cc0_scratch7 : Ref sig .scVector) ≠ cc0_scratch5 by decide), (Finset.mem_erase.mpr ⟨fun e => absurd (Proc.devRef_injective _ e) (show (cc0_scratch7 : Ref sig .scVector) ≠ cc0_scratch4 by decide), (Finset.mem_erase.mpr ⟨fun e => absurd (Proc.devRef_injective _ e) (show (cc0_scratch7 : Ref sig .scVector) ≠ cc0_scratch3 by decide), (Finset.mem_erase.mpr ⟨fun e => absurd (Proc.devRef_injective _ e) (show (cc0_scratch7 : Ref sig .scVector) ≠ cc0_scratch2 by decide), (Finset.mem_erase.mpr ⟨fun e => absurd (Proc.devRef_injective _ e) (show (cc0_scratch7 : Ref sig .scVector) ≠ cc0_scratch1 by decide), (Finset.mem_erase.mpr ⟨fun e => absurd (Proc.devRef_injective _ e) (show (cc0_scratch7 : Ref sig .scVector) ≠ cc0_scratch0 by decide), (SparseCore.Cfg.mem_ownRefs_of_owner (p := Proc.scVector (cV L) (jV L)) (b := ((Proc.scVector (cV L) (jV L)).devRef cc0_scratch7)) rfl)⟩)⟩)⟩)⟩)⟩)⟩)⟩)]

end Cert.Proof.Run

end
-- ==== Proof.Tile.lean ====
/-
  The run of the kernel's task on its one working subcore.
-/
module

public import proofs.«01_k».proof.Proof.Res

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.Tab Cert.Proof.Steps Cert.Proof.Values

variable {F : FTy → Type}

local notation "𝕄" => MT nD τ sig (HIx 1) (Elt F) ℕ UU ℕ

variable (m : (ℓ : Loc nD τ sig) → Buf (Elt F) ℓ) [FloatOps F] (d : Dev nD) (L : grid0.Coords)

abbrev uW : Memref sig .scVector .hbm S16 .i32 := (uA).slice (Rect.unit (s := S4096) ![0] S16.size inb_S4096_S16_0) (fun _ => rfl)
abbrev iW0 : Memref sig .scVector .hbm S4096 .i32 := (iR).slice (Rect.unit (s := S8192) ![0] S4096.size inb_S8192_S4096_0) (fun _ => rfl)
abbrev iW1 : Memref sig .scVector .hbm S4096 .i32 := (iR).slice (Rect.unit (s := S8192) ![4096] S4096.size inb_S8192_S4096_4096) (fun _ => rfl)
abbrev oW : Memref sig .scVector .vmem S4096 .i32 := (outM).slice (Rect.unit (s := S4112) ![0] S4096.size inb_S4112_S4096_0) (fun _ => rfl)

theorem tabC_toNat (w : S50000.Idx) : (tabC w).toNat = wordN (w 0).val := by
  have e : (S50000.rowMajor w).val = (w 0).val := Shape.rowMajor_val_one w
  rw [← e]; exact wordN_eq _

theorem tabP_toNat (w : S8192.Idx) : (tabP w).toNat = tabN (w 0).val := by
  have e : (S8192.rowMajor w).val = (w 0).val := Shape.rowMajor_val_one w
  rw [← e]; exact tabN_eq _

/-- A slice that a transfer filled whole holds the transfer's value at each place. -/
theorem fill_at {κ : Kind} (b : Ref sig κ) (off size : Fin b.ty.shape.rank → Nat) (inb) (f : b.ty.Contents (Elt F))
    (w : (Rect.unit off size inb).shape.Idx → Elt F b.ty.elt)
    (x : (Rect.unit off size inb).shape.Idx) (y : b.ty.shape.Idx) (h : ∀ a, (y a).val = off a + (x a).val) :
    ((View.whole b).slice (Rect.unit off size inb)).writes (Elt F) f [⟨Rect.whole _, w⟩] y = w x :=
  (congrFun (View.write_univ_eq_writes_whole (Val := Elt F) ((View.whole b).slice (Rect.unit off size inb)) f [] w) y).symm.trans
    (write_win_hit b off size inb f w x y h)

theorem mem_iW0 (y : S8192.Idx) : y ∈ (iW0).view.set ↔ (y 0).val < 4096 := by
  have e : y ∈ (iW0).view.set ↔ ∀ a, (![0] : Fin 1 → Nat) a ≤ (y a).val ∧ (y a).val < (![0] : Fin 1 → Nat) a + S4096.size a := by
    show y ∈ ((View.whole main_v0_1_scv).slice (Rect.unit (s := S8192) ![0] S4096.size inb_S8192_S4096_0)).set ↔ _
    rw [View.set_slice_whole, Rect.mem_set_unit]; exact Iff.rfl
  rw [e]
  refine ⟨fun h => ?_, fun h a => ?_⟩
  · have h1 : (y 0).val < 0 + 4096 := (h 0).2
    omega
  · have : a = 0 := Subsingleton.elim _ _
    subst this
    show 0 ≤ (y 0).val ∧ (y 0).val < 0 + 4096
    omega

theorem mem_iW1 (y : S8192.Idx) : y ∈ (iW1).view.set ↔ 4096 ≤ (y 0).val := by
  have e : y ∈ (iW1).view.set ↔ ∀ a, (![4096] : Fin 1 → Nat) a ≤ (y a).val ∧ (y a).val < (![4096] : Fin 1 → Nat) a + S4096.size a := by
    show y ∈ ((View.whole main_v0_1_scv).slice (Rect.unit (s := S8192) ![4096] S4096.size inb_S8192_S4096_4096)).set ↔ _
    rw [View.set_slice_whole, Rect.mem_set_unit]; exact Iff.rfl
  rw [e]
  have hy : (y 0).val < 8192 := (y 0).isLt
  refine ⟨fun h => (h 0).1, fun h a => ?_⟩
  have : a = 0 := Subsingleton.elim _ _
  subst this
  show 4096 ≤ (y 0).val ∧ (y 0).val < 4096 + 4096
  omega

theorem iW1_sub : (iW1).view.set ⊆ Finset.univ \ (iW0).view.set := by
  intro y hy
  have h := (mem_iW1 y).mp hy
  exact Finset.mem_sdiff.mpr ⟨Finset.mem_univ _, fun h' => absurd ((mem_iW0 y).mp h') (by omega)⟩

/-! ## Two halves of an array -/

/-- The place `k` of a half. -/
def ix (k : Nat) (h : k < 4096) : S4096.Idx := Shape.ofLane (d := ![4096]) ⟨k, h⟩
theorem ix_val (k : Nat) (h : k < 4096) : (ix k h 0).val = k := rfl

theorem half_lt {n : Nat} (h8 : n < 8192) (h : ¬ n < 4096) : n - 4096 < 4096 := by omega

/-- The array whose first half is `a` and whose second is `b`. -/
def join2 {α : Type} (a b : S4096.Idx → α) (y : S8192.Idx) : α :=
  if h : (y 0).val < 4096 then a (ix (y 0).val h) else b (ix ((y 0).val - 4096) (half_lt (y 0).isLt h))

theorem join2_lo {α : Type} (a b : S4096.Idx → α) (y : S8192.Idx) (z : S4096.Idx) (h : (y 0).val = (z 0).val) : join2 a b y = a z := by
  have hz : (z 0).val < 4096 := (z 0).isLt
  unfold join2
  rw [dif_pos (h.trans_lt hz)]
  exact congrArg a (idx1 ((ix_val _ _).trans h))

theorem join2_hi {α : Type} (a b : S4096.Idx → α) (y : S8192.Idx) (z : S4096.Idx) (h : (y 0).val = 4096 + (z 0).val) : join2 a b y = b z := by
  have hn : ¬ (y 0).val < 4096 := by omega
  unfold join2
  rw [dif_neg hn]
  refine congrArg b (idx1 ((ix_val _ _).trans ?_))
  omega

theorem lo_exists (y : S8192.Idx) (h : (y 0).val < 4096) : ∃ z : S4096.Idx, (y 0).val = (z 0).val := ⟨ix _ h, (ix_val _ _).symm⟩
theorem hi_exists (y : S8192.Idx) (h : 4096 ≤ (y 0).val) : ∃ z : S4096.Idx, (y 0).val = 4096 + (z 0).val := by
  have h8 : (y 0).val < 8192 := (y 0).isLt
  obtain ⟨k, hk⟩ : ∃ k, (y 0).val = 4096 + k := ⟨(y 0).val - 4096, by omega⟩
  have hk' : k < 4096 := by omega
  exact ⟨ix k hk', hk.trans (congrArg (4096 + ·) (ix_val k hk').symm)⟩

theorem off_one {N M : Nat} (y : (⟨1, ![N]⟩ : Shape).Idx) (x : (⟨1, ![M]⟩ : Shape).Idx) (o : Nat) (h : (y 0).val = o + (x 0).val) (a : Fin 1) :
    (y a).val = (![o] : Fin 1 → Nat) a + (x a).val := by
  have : a = (0 : Fin 1) := Subsingleton.elim (α := Fin 1) _ _
  subst this
  exact h

/-- The scratch for the targets, from its two parts. -/
theorem join_tg (f7 : S8192.Idx → Elt F .f32) (w : S4096.Idx → Elt F .f32) (ft : S8192.Idx → Elt F .f32)
    (hft : ∀ y : S8192.Idx, 4096 ≤ (y 0).val → ft y = zeroF (F := F)) :
    iprop(((tgW).view.loc (thr d L) ↦[(tgW).view.set]{fullShare} (tgW).view.writes (Elt F) f7 [⟨Rect.whole S4096, w⟩]) ∗ ((tgM).view.loc (thr d L) ↦[tgRest]{fullShare} ft))
      ⊢ ((tgM).view.loc (thr d L) ↦{fullShare} join2 w (fun _ => zeroF (F := F)) : sProp 𝕄) := by
  have h1 : ((tgM).view.loc (thr d L) ↦[tgRest]{fullShare} ft : sProp 𝕄) = ((tgM).view.loc (thr d L) ↦[tgRest]{fullShare} join2 w (fun _ => zeroF (F := F))) :=
    pointsTo_congr fun y hy => by
      have h := (mem_tgRest y).mp hy
      obtain ⟨z, hz⟩ := hi_exists y h
      exact (hft y h).trans (join2_hi w (fun _ => zeroF (F := F)) y z hz).symm
  have h2 : ((tgM).view.loc (thr d L) ↦[(tgW).view.set]{fullShare} (tgW).view.writes (Elt F) f7 [⟨Rect.whole S4096, w⟩] : sProp 𝕄)
      = ((tgM).view.loc (thr d L) ↦[(tgW).view.set]{fullShare} join2 w (fun _ => zeroF (F := F))) :=
    pointsTo_congr fun y hy => by
      have h : (y 0).val < 4096 := by
        by_contra hlt
        exact (Finset.mem_sdiff.mp ((mem_tgRest y).mpr (by omega))).2 hy
      obtain ⟨z, hz⟩ := lo_exists y h
      exact (fill_at cc0_scratch7 ![0] S4096.size inb_S8192_S4096_0 f7 w z y (off_one y z 0 (by omega))).trans (join2_lo _ _ y z hz).symm
  refine (show _ ⊢ iprop(((tgM).view.loc (thr d L) ↦[(tgW).view.set]{fullShare} (tgW).view.writes (Elt F) f7 [⟨Rect.whole S4096, w⟩])
      ∗ ((tgM).view.loc (thr d L) ↦[tgRest]{fullShare} ft)) from .rfl).trans ?_
  rw [h1, h2]
  exact (pointsTo_split_subset (Finset.subset_univ _)).2

/-- The items' result, from its parts. -/
theorem join_items (fb : S8192.Idx → BitVec 32) (w0 w1 : S4096.Idx → BitVec 32) :
    iprop(((iW0).view.loc (thr d L) ↦[(iW0).view.set]{fullShare} (iW0).view.writes (Elt F) fb [⟨Rect.whole S4096, w0⟩])
        ∗ ((iW1).view.loc (thr d L) ↦[(iW1).view.set]{fullShare} (iW1).view.writes (Elt F) fb [⟨Rect.whole S4096, w1⟩])
        ∗ (bLoc d ↦[(Finset.univ \ (iW0).view.set) \ (iW1).view.set]{fullShare} fb))
      ⊢ (bLoc d ↦{fullShare} join2 w0 w1 : sProp 𝕄) := by
  have h0 : (bLoc d ↦[(iW0).view.set]{fullShare} (iW0).view.writes (Elt F) fb [⟨Rect.whole S4096, w0⟩] : sProp 𝕄)
      = (bLoc d ↦[(iW0).view.set]{fullShare} join2 w0 w1) :=
    pointsTo_congr fun y hy => by
      obtain ⟨z, hz⟩ := lo_exists y ((mem_iW0 y).mp hy)
      exact (fill_at main_v0_1_scv ![0] S4096.size inb_S8192_S4096_0 fb w0 z y (off_one y z 0 (by omega))).trans (join2_lo _ _ y z hz).symm
  have h1 : (bLoc d ↦[(iW1).view.set]{fullShare} (iW1).view.writes (Elt F) fb [⟨Rect.whole S4096, w1⟩] : sProp 𝕄)
      = (bLoc d ↦[(iW1).view.set]{fullShare} join2 w0 w1) :=
    pointsTo_congr fun y hy => by
      obtain ⟨z, hz⟩ := hi_exists y ((mem_iW1 y).mp hy)
      exact (fill_at main_v0_1_scv ![4096] S4096.size inb_S8192_S4096_4096 fb w1 z y (off_one y z 4096 hz)).trans (join2_hi _ _ y z hz).symm
  have h2 : (bLoc d ↦[(Finset.univ \ (iW0).view.set) \ (iW1).view.set]{fullShare} fb : sProp 𝕄)
      = (bLoc d ↦[(Finset.univ \ (iW0).view.set) \ (iW1).view.set]{fullShare} join2 w0 w1) :=
    pointsTo_congr fun y hy => by
      have h3 := Finset.mem_sdiff.mp hy
      have h4 := (Finset.mem_sdiff.mp h3.1).2
      rw [mem_iW0] at h4
      exact absurd ((mem_iW1 y).mpr (by omega)) h3.2
  refine (show _ ⊢ iprop((bLoc d ↦[(iW0).view.set]{fullShare} (iW0).view.writes (Elt F) fb [⟨Rect.whole S4096, w0⟩])
        ∗ (bLoc d ↦[(iW1).view.set]{fullShare} (iW1).view.writes (Elt F) fb [⟨Rect.whole S4096, w1⟩])
        ∗ (bLoc d ↦[(Finset.univ \ (iW0).view.set) \ (iW1).view.set]{fullShare} fb)) from .rfl).trans ?_
  rw [h0, h1, h2]
  iintro ⟨H0, H1, H2⟩
  iapply (pointsTo_split_subset (q := fullShare) (f := join2 w0 w1) (S := Finset.univ) (Finset.subset_univ (iW0).view.set)).2
  isplitl [H0]; · iexact H0
  iapply (pointsTo_split_subset (q := fullShare) (f := join2 w0 w1) (S := Finset.univ \ (iW0).view.set) iW1_sub).2
  isplitl [H1]; · iexact H1
  iexact H2

theorem posN_split (j : Nat) (hj : j < 8192) : ∃ (l : Fin 16) (r : Nat), r < 512 ∧ j = 512 * l.val + r ∧ posN j = 16 * r + l.val := by
  obtain ⟨l, r, hl, hr, e⟩ : ∃ l r, l < 16 ∧ r < 512 ∧ j = 512 * l + r := ⟨j / 512, j % 512, by omega, by omega, by omega⟩
  refine ⟨⟨l, hl⟩, r, hr, e, ?_⟩
  rw [e]; exact posN_lane l r hr

/-- What the results hold at the end of the run. -/
theorem out_spec {ff : S8192.Idx → BitVec 32} {g : S4112.Idx → BitVec 32} {c : BitVec 32} {acc : IVec S16 32}
    (hff : ∀ y : S8192.Idx, (y 0).val < 16 * 512 → ff y = c) (hc : ∀ z : S4096.Idx, (z 0).val = 0 → c = m (uLoc d) z)
    (hg : Packed (items m d) tabP 512 acc g) :
    OutSpec m d ff (join2 (items m d) ((oW).view.read (Elt F) g)) (join2 (m (tLoc d)) (fun _ => zeroF (F := F))) := by
  refine ⟨fun y z hz => (hff y (y 0).isLt).trans (hc z hz), fun y z h => join2_lo _ _ y z h, fun j hj hm hU y z hy hz => ?_,
    fun y z h => join2_lo _ _ y z h, fun y h => ?_⟩
  · obtain ⟨l, r, hr, rfl, hp⟩ := posN_split j hj
    obtain ⟨k, hk⟩ := hi_exists y (by omega)
    have hk2 : (k 0).val = U (items m d) (512 * l.val + r) := by omega
    refine (join2_hi _ _ y k hk).trans ?_
    have h4 : (k 0).val < 4112 := by omega
    have hw : (Shape.ofLane (d := ![4112]) ⟨(k 0).val, h4⟩ 0).val = (k 0).val := rfl
    refine (read_win (F := F) cc0_scratch4 ![0] S4096.size inb_S4112_S4096_0 g k (Shape.ofLane (d := ![4112]) ⟨(k 0).val, h4⟩)
      (off_one _ k 0 (hw.trans (Nat.zero_add _).symm))).trans ?_
    exact hg.2 l r hr hm hU _ z (hw.trans hk2) (hz.trans hp)
  · obtain ⟨k, hk⟩ := hi_exists y h
    exact join2_hi (m (tLoc d)) (fun _ => zeroF (F := F)) y k hk

set_option maxHeartbeats 4000000 in
theorem tile_body (k0_h1 : k0_cond1 L = 1#1) (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d
        ∗ scopedBufs (thr d L) ∗ scopedSems0 (thr d L) ∗ owes (thr d L) O W)
      ⊢ wp frame (wpE (defs₀ (F := F)) 𝒱₀ (thr d L) none) Set.univ
          (cc0__negatives (F := F) L uA (Memref.isWhole_whole _) iA (Memref.isWhole_whole _) tA (Memref.isWhole_whole _) cA (Memref.isWhole_whole _) pA (Memref.isWhole_whole _) uR (Memref.isWhole_whole _) iR (Memref.isWhole_whole _) tR (Memref.isWhole_whole _) itM (Memref.isWhole_whole _) tblM (Memref.isWhole_whole _) pM (Memref.isWhole_whole _) mkM (Memref.isWhole_whole _) outM (Memref.isWhole_whole _) uM (Memref.isWhole_whole _) ufM (Memref.isWhole_whole _) tgM (Memref.isWhole_whole _) cc0_scratch8 cc0_scratch9 cc0_scratch10 cc0_scratch11 cc0_scratch12 cc0_scratch13 cc0_scratch14 cc0_scratch15 cc0_scratch16)
          fun _ => iprop(tdRes m d
            ∗ scopedBufs (thr d L) ∗ scopedSems0 (thr d L)
            ∗ ∃ W', ⌜∀ p ∈ W', p ∈ W ∨ p.2 = none⌝ ∗ owes (thr d L) O W') := by
  simp only [cc0__negatives_eq_skeleton]; unfold cc0__negatives_skel
  simp only [k0_part1_eq_skeleton, k0_part2_eq_skeleton]; unfold k0_part1_skel k0_part2_skel
  simp only [bind_assoc, pure_bind]
  unfold thr goRes
  rw [(K (F := F)).scopedBufs_V hF d (cV L) (jV L), SparseCore.Cfg.scopedSems0_V (Val := Elt F) d (cV L) (jV L), ownSems0_V, ownBufs_V]
  iintro ⟨#Hlv, -, ⟨Hu, Hi, Ht, Hc, Hp, ⟨%fa, Ha⟩, ⟨%fb, Hb⟩, ⟨%fr, Hr⟩⟩, ⟨⟨%f0, H0⟩, ⟨%f1, H1⟩, ⟨%f2, H2⟩, ⟨%f3, H3⟩, ⟨%f4, H4⟩, ⟨%f5, H5⟩, ⟨%f6, H6⟩, ⟨%f7, H7⟩, Hbufs⟩, ⟨S0, S1, S2, S3, S4, S5, S6, S7, S8, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hu := (pointsTo_split_subset (q := fullShare) (f := m (uLoc d)) (S := Finset.univ) (Finset.subset_univ (uW).view.set)).1 $$ Hu
  icases Hu with ⟨Hu, Hu'⟩
  ihave H7 := (pointsTo_split_subset (q := fullShare) (f := f7) (S := Finset.univ) (Finset.subset_univ (tgW).view.set)).1 $$ H7
  icases H7 with ⟨H7, H7'⟩
  ihave Hi := (show (iLoc d ↦{fullShare} m (iLoc d) : sProp 𝕄) ⊢ (iA).view.loc (thr d L) ↦{fullShare} m (iLoc d) from .rfl) $$ Hi
  ihave Ht := (show (tLoc d ↦{fullShare} m (tLoc d) : sProp 𝕄) ⊢ (tA).view.loc (thr d L) ↦{fullShare} m (tLoc d) from .rfl) $$ Ht
  ihave Hc := (show (cLoc d ↦{fullShare} tabC : sProp 𝕄) ⊢ (cA).view.loc (thr d L) ↦{fullShare} tabC from .rfl) $$ Hc
  ihave Hp := (show (pLoc d ↦{fullShare} tabP : sProp 𝕄) ⊢ (pA).view.loc (thr d L) ↦{fullShare} tabP from .rfl) $$ Hp
  ihave Hu := (show (uLoc d ↦[(uW).view.set]{fullShare} m (uLoc d) : sProp 𝕄) ⊢ (uW).view.loc (thr d L) ↦[(uW).view.set]{fullShare} m (uLoc d) from .rfl) $$ Hu
  ihave H7 := (show (_ ↦[(tgW).view.set]{fullShare} f7 : sProp 𝕄) ⊢ (tgW).view.loc (thr d L) ↦[(tgW).view.set]{fullShare} f7 from .rfl) $$ H7
  ihave H0 := (show (_ ↦{fullShare} f0 : sProp 𝕄) ⊢ (itM).view.loc (thr d L) ↦{fullShare} f0 from .rfl) $$ H0
  ihave H1 := (show (_ ↦{fullShare} f1 : sProp 𝕄) ⊢ (tblM).view.loc (thr d L) ↦{fullShare} f1 from .rfl) $$ H1
  ihave H2 := (show (_ ↦{fullShare} f2 : sProp 𝕄) ⊢ (pM).view.loc (thr d L) ↦{fullShare} f2 from .rfl) $$ H2
  ihave H5 := (show (_ ↦{fullShare} f5 : sProp 𝕄) ⊢ (uM).view.loc (thr d L) ↦{fullShare} f5 from .rfl) $$ H5
  sl_exec
  have e1 : k0_t1_loop.trips = 256 := by decide +kernel
  have e2 : k0_t2_loop.trips = 528 := by decide +kernel
  have e3 : k0_t3_loop.trips = 256 := by decide +kernel
  have e4 : k0_t4_loop.trips = 512 := by decide +kernel
  have e5 : k0_t5_loop.trips = 512 := by decide +kernel
  have e6 : k0_t6_loop.trips = 512 := by decide +kernel
  sl_for (inv1 (F := F) d L) $$ [H7']
  case region => intro k acc; exact trip1 d L k0_h1 k acc
  · unfold inv1
    iexists f7
    isplitr
    · ipureintro
      intro y h1 h2
      omega
    iexact H7'
  iintro %c1 HI1
  sl_for (inv2 (F := F) d L) $$ [H3]
  case region => intro k acc; exact trip2 d L k0_h1 k acc
  · unfold inv2
    iexists f3
    isplitr
    · ipureintro
      intro y h1
      omega
    iexact H3
  iintro %c2 HI2
  sl_exec
  have w0 : View.write (Elt F) (itM).view f0 (tile_body.sl.dma0 m d) Finset.univ = items m d := View.write_whole_univ _ _ _
  have w1 : View.write (Elt F) (tblM).view f1 (tile_body.sl.dma0_1 (F := F)) Finset.univ = tabC := View.write_whole_univ _ _ _
  rw [w0, w1]
  unfold inv2
  icases HI2 with ⟨%k0, %hk0, H3⟩
  have hz : ∀ y, k0 y = 0#32 := fun y => hk0 y (by
    have : (y 0).val < 8448 := (y 0).isLt
    have e : Scf.trips k0_t2_loop.lb k0_t2_loop.ub k0_t2_loop.st = 528 := e2
    rw [e]; omega)
  sl_for (inv3 (F := F) d L (items m d) tabC) $$ [H0 H1 H3]
  case region => intro k acc; exact trip3 d L k0_h1 (items m d) (hpre d) tabC tabC_toNat k acc
  · unfold inv3
    isplitl [H0]; · iexact H0
    isplitl [H1]; · iexact H1
    iexists k0
    isplitr
    · ipureintro; exact masked_zero _ _ hz
    iexact H3
  iintro %c3 HI3
  have e3' : Scf.trips k0_t3_loop.lb k0_t3_loop.ub k0_t3_loop.st = 256 := e3
  rw [e3']
  unfold inv3
  icases HI3 with ⟨H0, H1, %k1, %hk1, H3⟩
  sl_for (inv4 (F := F) d L (items m d) k1) $$ [H3]
  case region => intro k acc; exact trip4 d L k0_h1 (items m d) k1 hk1 k acc
  · unfold inv4
    isplitr
    · ipureintro; exact count_zero _
    iexact H3
  iintro %v17 HI4
  have e4' : Scf.trips k0_t4_loop.lb k0_t4_loop.ub k0_t4_loop.st = 512 := e4
  rw [e4']
  unfold inv4
  icases HI4 with ⟨%hv17, H3⟩
  sl_exec
  have w2 : View.write (Elt F) (pM).view f2 (tile_body.sl.dma0_2 (F := F)) Finset.univ = tabP := View.write_whole_univ _ _ _
  rw [w2]
  sl_for (inv5 (F := F) d L (items m d) k1 tabP) $$ [H3 H2 H4]
  case region => intro k acc; exact trip5 d L k0_h1 (items m d) k1 hk1 tabP k acc
  · unfold inv5
    isplitl [H3]; · iexact H3
    isplitl [H2]; · iexact H2
    iexists f4
    isplitr
    · ipureintro; exact packed_zero _ _ hv17 _
    iexact H4
  iintro %v22 HI5
  have e5' : Scf.trips k0_t5_loop.lb k0_t5_loop.ub k0_t5_loop.st = 512 := e5
  rw [e5']
  unfold inv5
  icases HI5 with ⟨H3, H2, %g, %hg, H4⟩
  ihave H4 := (pointsTo_split_subset (q := fullShare) (f := g) (S := Finset.univ) (Finset.subset_univ (oW).view.set)).1 $$ H4
  icases H4 with ⟨H4, H4'⟩
  ihave Hb := (pointsTo_split_subset (q := fullShare) (f := fb) (S := Finset.univ) (Finset.subset_univ (iW0).view.set)).1 $$ Hb
  icases Hb with ⟨Hb0, Hb'⟩
  ihave Hb' := (pointsTo_split_subset (q := fullShare) (f := fb) (S := Finset.univ \ (iW0).view.set) iW1_sub).1 $$ Hb'
  icases Hb' with ⟨Hb1, Hb'⟩
  ihave H4 := (show ((outM).view.loc (thr d L) ↦[(oW).view.set]{fullShare} g : sProp 𝕄) ⊢ (oW).view.loc (thr d L) ↦[(oW).view.set]{fullShare} g from .rfl) $$ H4
  ihave Hb0 := (show (bLoc d ↦[(iW0).view.set]{fullShare} fb : sProp 𝕄) ⊢ (iW0).view.loc (thr d L) ↦[(iW0).view.set]{fullShare} fb from .rfl) $$ Hb0
  ihave Hb1 := (show (bLoc d ↦[(iW1).view.set]{fullShare} fb : sProp 𝕄) ⊢ (iW1).view.loc (thr d L) ↦[(iW1).view.set]{fullShare} fb from .rfl) $$ Hb1
  sl_exec
  ihave Ha := (show (aLoc d ↦{fullShare} fa : sProp 𝕄) ⊢ (uR).view.loc (thr d L) ↦{fullShare} fa from .rfl) $$ Ha
  ihave Hr := (show (rLoc d ↦{fullShare} fr : sProp 𝕄) ⊢ (tR).view.loc (thr d L) ↦{fullShare} fr from .rfl) $$ Hr
  ihave H6 := (show (_ ↦{fullShare} f6 : sProp 𝕄) ⊢ (ufM).view.loc (thr d L) ↦{fullShare} f6 from .rfl) $$ H6
  sl_for (inv6 (F := F) d L (View.readAt (Elt F) (uM).view (Rect.unit (s := S16) ![0] ![16] inb_S16_S16_0).toLoadRect
      (View.write (Elt F) (uM).view f5 (tile_body.sl.dma0_3 m d) Finset.univ) (lane 0))) $$ [H6]
  case region => intro k acc; exact trip6 d L k0_h1 _ k acc
  · unfold inv6
    iexists f6
    isplitr
    · ipureintro
      intro y h1
      omega
    iexact H6
  iintro %c6 HI6
  have e6' : Scf.trips k0_t6_loop.lb k0_t6_loop.ub k0_t6_loop.st = 512 := e6
  rw [e6']
  unfold inv6 inv1
  icases HI6 with ⟨%ff, %hff, H6⟩
  icases HI1 with ⟨%ft, %hft, H7'⟩
  have hft' : ∀ y : S8192.Idx, 4096 ≤ (y 0).val → ft y = zeroF (F := F) := fun y h => hft y h (y 0).isLt
  sl_exec
  have w4 : tile_body.sl.dma0_4 m d = m (tLoc d) := rfl
  rw [w4]
  icombine H7 H7' as H7
  ihave H7 := (join_tg (F := F) d L f7 (m (tLoc d)) ft hft') $$ H7
  sl_exec
  have wa : View.write (Elt F) (uR).view fa (tile_body.sl.dma0_7 (F := F) ff) Finset.univ = ff := View.write_whole_univ _ _ _
  have wr : View.write (Elt F) (tR).view fr (tile_body.sl.dma0_8 m d L) Finset.univ = join2 (m (tLoc d)) (fun _ => zeroF (F := F)) :=
    View.write_whole_univ _ _ _
  have w5 : tile_body.sl.dma0_5 m d = items m d := rfl
  have w6 : tile_body.sl.dma0_6 (F := F) g = (oW).view.read (Elt F) g := rfl
  rw [wa, wr, w5, w6]
  have hc : ∀ z : S4096.Idx, (z 0).val = 0 → View.readAt (Elt F) (uM).view (Rect.unit (s := S16) ![0] ![16] inb_S16_S16_0).toLoadRect
      (View.write (Elt F) (uM).view f5 (tile_body.sl.dma0_3 m d) Finset.univ) (lane 0) = m (uLoc d) z := fun z hz => by
    have w3 : View.write (Elt F) (uM).view f5 (tile_body.sl.dma0_3 m d) Finset.univ = (uW).view.read (Elt F) (m (uLoc d)) :=
      View.write_whole_univ _ _ _
    rw [w3]
    have h0 : (z 0).val = 0 + ((lane 0) 0).val := hz
    exact (read_win (F := F) cc0_scratch5 ![0] S16.size inb_S16_S16_0 ((uW).view.read (Elt F) (m (uLoc d))) (lane 0) (lane 0)
        (off_one _ _ 0 rfl)).trans
      (read_win (F := F) main_arg0_scv ![0] S16.size inb_S4096_S16_0 (m (uLoc d)) (lane 0) z (off_one _ _ 0 h0))
  have hout := out_spec m d hff hc hg
  sl_step
  isplitr [H0 H1 H2 H3 H4' H5 H6 H7 Hbufs S0 S1 S2 S3 S4 S5 S6 S7 S8 Hsems HO]
  · unfold tdRes
    isplitl [Hu']; · iexact Hu'
    isplitl [Hi]; · iexact Hi
    isplitl [Ht]; · iexact Ht
    isplitl [Hc]; · iexact Hc
    isplitl [Hp]; · iexact Hp
    iexists _; iexists _; iexists _
    isplitr; · ipureintro; exact hout
    isplitl [Ha]; · iexact Ha
    isplitr [Hr]
    · iapply (join_items (F := F) d L fb (items m d) ((oW).view.read (Elt F) g))
      isplitl [Hb0]; · iexact Hb0
      isplitl [Hb1]; · iexact Hb1
      iexact Hb'
    iexact Hr
  isplitr [S0 S1 S2 S3 S4 S5 S6 S7 S8 Hsems HO]
  · isplitl [H0]; · iexists _; iexact H0
    isplitl [H1]; · iexists _; iexact H1
    isplitl [H2]; · iexists _; iexact H2
    isplitl [H3]; · iexists _; iexact H3
    isplitl [H4']; · iexists _; iexact H4'
    isplitl [H5]; · iexists _; iexact H5
    isplitl [H6]; · iexists _; iexact H6
    isplitl [H7]; · iexists _; iexact H7
    iexact Hbufs
  isplitr [HO]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact Hsems
  iexists _
  isplitr
  swap
  · iexact HO
  ipureintro
  intro p hp
  simp only [Finset.mem_insert] at hp
  rcases hp with h | h | h | h | h | h | h | h | h | h
  all_goals first
    | exact Or.inl h
    | exact Or.inr (congrArg Prod.snd h)

end Cert.Proof.Run

end
-- ==== Proof.Launch.lean ====
/-
  The launch: what the call hands the subcores and takes back, the program's run on the machine, and the frames of the
  kernel and of its idealisation.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held wp_hlo_within)
open Cert.Proof.Tab Cert.Proof.Steps Cert.Proof.Values

variable {F : FTy → Type}

local notation "𝕄" => MT nD τ sig (HIx 1) (Elt F) ℕ UU ℕ

variable (m : (ℓ : Loc nD τ sig) → Buf (Elt F) ℓ) (ρ : Dev nD → PrngReg) [FloatOps F]

/-! ## What each subcore takes and gives back -/

/-- The arrays go to subcore 0; the others take nothing. -/
def goOf (d : Dev nD) (i : ℕ) : sProp 𝕄 := if i = 0 then goRes m d else iprop(emp)
def tdOf (d : Dev nD) (i : ℕ) : sProp 𝕄 := if i = 0 then tdRes m d else iprop(emp)

theorem goOf_zero (d : Dev nD) : goOf m d 0 = goRes m d := if_pos rfl
theorem tdOf_zero (d : Dev nD) : tdOf m d 0 = tdRes m d := if_pos rfl
theorem goOf_pos (d : Dev nD) (i : ℕ) (h : i ≠ 0) : goOf m d i = iprop(emp) := if_neg h
theorem tdOf_pos (d : Dev nD) (i : ℕ) (h : i ≠ 0) : tdOf m d i = iprop(emp) := if_neg h

instance goOf_storable (d : Dev nD) (i : ℕ) : BI.Storable (upEmb : UEmb _ 𝕄) (goOf m d i) := by
  unfold goOf; split <;> infer_instance
instance tdOf_storable (d : Dev nD) (i : ℕ) : BI.Storable (upEmb : UEmb _ 𝕄) (tdOf m d i) := by
  unfold tdOf; split <;> infer_instance

def P : (K (F := F)).Pay (nD := nD) (Val := Elt F) (Name := ℕ) (U := UU) where
  st := fun _ d _ => goRes m d
  dn := fun _ d _ => tdRes m d
  go := fun _ d _ i => goOf m d i.val
  td := fun _ d _ i => tdOf m d i.val
  x := fun _ _ => iprop(emp)

instance P_storable : (P (F := F) m).IsStorable where
  st _ _ _ := by unfold P; dsimp only; infer_instance
  dn _ _ _ := by unfold P; dsimp only; infer_instance
  go _ _ _ _ := by unfold P; dsimp only; infer_instance
  td _ _ _ _ := by unfold P; dsimp only; infer_instance

/-! ## The tasks -/

def coordsV (c : Fin (grid0.bound 0)) (s : Fin (grid0.bound 1)) : grid0.Coords :=
  fun | 0 => c | 1 => s | ⟨_ + 2, h⟩ => absurd h (Nat.not_lt.2 (Nat.le_add_left _ _))

/-- A subcore with no work. -/
theorem idle_body (d : Dev nD) (L : grid0.Coords) (k0_h1 : ¬ k0_cond1 L = 1#1) (O : CellTallies nD τ sig (HIx 1)) (W : Waits sig (HIx 1)) :
    (iprop(levAts (K (F := F)).L (K (F := F)).lev ∗ emp ∗ emp
        ∗ scopedBufs (thr d L) ∗ scopedSems0 (thr d L) ∗ owes (thr d L) O W) : sProp 𝕄)
      ⊢ wp frame (wpE (defs₀ (F := F)) 𝒱₀ (thr d L) none) Set.univ
          (cc0__negatives (F := F) L uA (Memref.isWhole_whole _) iA (Memref.isWhole_whole _) tA (Memref.isWhole_whole _) cA (Memref.isWhole_whole _) pA (Memref.isWhole_whole _) uR (Memref.isWhole_whole _) iR (Memref.isWhole_whole _) tR (Memref.isWhole_whole _) itM (Memref.isWhole_whole _) tblM (Memref.isWhole_whole _) pM (Memref.isWhole_whole _) mkM (Memref.isWhole_whole _) outM (Memref.isWhole_whole _) uM (Memref.isWhole_whole _) ufM (Memref.isWhole_whole _) tgM (Memref.isWhole_whole _) cc0_scratch8 cc0_scratch9 cc0_scratch10 cc0_scratch11 cc0_scratch12 cc0_scratch13 cc0_scratch14 cc0_scratch15 cc0_scratch16)
          fun _ => iprop(emp
            ∗ scopedBufs (thr d L) ∗ scopedSems0 (thr d L)
            ∗ ∃ W', ⌜∀ p ∈ W', p ∈ W ∨ p.2 = none⌝ ∗ owes (thr d L) O W') := by
  simp only [cc0__negatives_eq_skeleton]; unfold cc0__negatives_skel
  iintro ⟨-, -, -, Hsb, Hss, HO⟩
  sl_exec
  sl_step
  isplitr; · iempintro
  isplitl [Hsb]; · iexact Hsb
  isplitl [Hss]; · iexact Hss
  iexists W; isplitr
  · ipureintro; exact fun p hp => .inl hp
  · iexact HO

theorem defs₀_vector (c : Fin τ.nSC) (s : Fin τ.nSub) :
    defs₀ (F := F) (.scVector c s) 0 ()
      = SparseCore.onTile hcore0 hsub0 (fun c s => cc0__negatives (F := F) (coordsV c s) uA (Memref.isWhole_whole _) iA (Memref.isWhole_whole _) tA (Memref.isWhole_whole _) cA (Memref.isWhole_whole _) pA (Memref.isWhole_whole _) uR (Memref.isWhole_whole _) iR (Memref.isWhole_whole _) tR (Memref.isWhole_whole _) itM (Memref.isWhole_whole _) tblM (Memref.isWhole_whole _) pM (Memref.isWhole_whole _) mkM (Memref.isWhole_whole _) outM (Memref.isWhole_whole _) uM (Memref.isWhole_whole _) ufM (Memref.isWhole_whole _) tgM (Memref.isWhole_whole _) cc0_scratch8 cc0_scratch9 cc0_scratch10 cc0_scratch11 cc0_scratch12 cc0_scratch13 cc0_scratch14 cc0_scratch15 cc0_scratch16) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem works : ∀ (c : Fin (grid0.bound 0)) (s : Fin (grid0.bound 1)), s.val = 0 → k0_cond1 (coordsV c s) = 1#1 := by
  decide +kernel
theorem idles : ∀ (c : Fin (grid0.bound 0)) (s : Fin (grid0.bound 1)), s.val ≠ 0 → ¬ k0_cond1 (coordsV c s) = 1#1 := by
  decide +kernel

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  show iprop(_ ∗ _ ∗ goOf m d i.val ∗ _) ⊢ wp _ _ _ _ (fun _ => iprop(tdOf m d i.val ∗ _))
  by_cases hi : i.val = 0
  · rw [hi, goOf_zero, tdOf_zero]
    exact (tile_body m d (coordsV ⟨_, hci.1⟩ ⟨_, hci.2⟩) (works ⟨_, hci.1⟩ ⟨_, hci.2⟩ hi) hF hpre O W hO).trans (wp_mono frame _ _ fun _ => obl_post)
  · rw [goOf_pos m d _ hi, tdOf_pos m d _ hi]
    exact (idle_body d (coordsV ⟨_, hci.1⟩ ⟨_, hci.2⟩) (idles ⟨_, hci.1⟩ ⟨_, hci.2⟩ hi) O W).trans (wp_mono frame _ _ fun _ => obl_post)

/-! ## The call's arrays go to the one working subcore -/

omit [FloatOps F] in
theorem bigSep_emp' {I : Type} (s : Finset I) : (bigSep s fun _ => iprop(emp)) = (iprop(emp) : sProp 𝕄) := bigSep_emp_const s

omit [FloatOps F] in
theorem bigSep_tasks (Φ : ℕ → sProp 𝕄) (h : ∀ i, i ≠ 0 → Φ i = iprop(emp)) :
    (bigSep Finset.univ fun i : Fin ((K (F := F)).nSub 0) => Φ i.val) = Φ 0 := by
  have e : (bigSep Finset.univ fun i : Fin ((K (F := F)).nSub 0) => Φ i.val) = (bigSep Finset.univ fun i : Fin 16 => Φ i.val : sProp 𝕄) := rfl
  rw [e, SparseCore.bigSep_erase' (Finset.mem_univ (0 : Fin 16)),
    bigSep_congr (Ψ := fun _ => iprop(emp)) (fun i hi => h i.val fun h0 => (Finset.mem_erase.mp hi).1 (Fin.ext h0)), bigSep_emp']
  exact equiv_iff.mp BI.sep_emp

theorem vecSplit : (K (F := F)).VecSplit' (P m) 0 := by
  intro d c
  show goRes m d ⊢ |={Set.univ}=> iprop(
      (bigSep Finset.univ fun i : Fin ((K (F := F)).nSub 0) => goOf m d i.val)
      ∗ ((bigSep Finset.univ fun i : Fin ((K (F := F)).nSub 0) => tdOf m d i.val) -∗ tdRes m d))
  rw [bigSep_tasks (F := F) (goOf m d) (goOf_pos m d), bigSep_tasks (F := F) (tdOf m d) (tdOf_pos m d), goOf_zero, tdOf_zero]
  iintro H; imodintro
  isplitl [H]; · iexact H
  iintro H
  iexact H

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_emp']
  iempintro

/-! ## The program on the TensorCore -/

omit [FloatOps F] in
theorem unscopedBufs_eq (d : Dev nD) (W : (b : Ref sig .tc) → Buf (Elt F) ((d.tc : Thread nD τ).loc b)) :
    (unscopedBufs d W : sProp 𝕄) = iprop((uLoc d ↦{fullShare} W main_arg0) ∗ (iLoc d ↦{fullShare} W main_arg1) ∗ (tLoc d ↦{fullShare} W main_arg2)
      ∗ (cLoc d ↦{fullShare} W main_c) ∗ (pLoc d ↦{fullShare} W main_c_0)
      ∗ (aLoc d ↦{fullShare} W main_v0_0) ∗ (bLoc d ↦{fullShare} W main_v0_1) ∗ (rLoc d ↦{fullShare} W main_v0_2)) := by
  unfold unscopedBufs
  rw [show (Finset.univ.filter fun b : Ref sig .tc => ¬ b.isScoped) = {main_arg0, main_arg1, main_arg2, main_c, main_c_0, main_v0_0, main_v0_1, main_v0_2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = goRes m d :=
  bigSep_univ_of_subsingleton (0 : Fin 1)
theorem dn0_eq (d : Dev nD) : (bigSep Finset.univ fun c : Fin ((K (F := F)).nCore 0) => (P m).dn 0 d c) = tdRes m d :=
  bigSep_univ_of_subsingleton (0 : Fin 1)

abbrev c' : DevRef τ sig := Proc.devRef .tc (main_c : Ref sig .tc)
abbrev p' : DevRef τ sig := Proc.devRef .tc (main_c_0 : Ref sig .tc)
abbrev opC : HloOp τ sig (Elt F) := StableHlo.nullary main_c (fun i => lit0 (S50000.rowMajor i))
abbrev opP : HloOp τ sig (Elt F) := StableHlo.nullary main_c_0 (fun i => lit1 (S8192.rowMajor i))

omit [FloatOps F] in
theorem held_c (d : Dev nD) (W : Valuation τ sig (Elt F)) : (held (T d) {c'} W : sProp 𝕄) = (cLoc d ↦{fullShare} W c') := by
  unfold held; rw [bigSep_singleton]
omit [FloatOps F] in
theorem held_p (d : Dev nD) (W : Valuation τ sig (Elt F)) : (held (T d) {p'} W : sProp 𝕄) = (pLoc d ↦{fullShare} W p') := by
  unfold held; rw [bigSep_singleton]

/-- The launch memory as a valuation. -/
def V0 (d : Dev nD) : Valuation τ sig (Elt F) := fun b => m (d, b)

/-- What the program leaves. -/
abbrev FIN (d : Dev nD) : sProp 𝕄 := tdRes m d

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hu, Hi, Ht, Hc, Hp, Ha, Hbb, Hr⟩, Hts, -⟩, -⟩
  iapply (wp_hlo_within 𝒱 (SparseCore.T d) none Set.univ (op := opC) (S := {c'}) (Finset.Subset.refl _) (V := V0 m d)) $$ [Hb Hc]
  · isplitl [Hb]; · iexact Hb
    rw [held_c]; iexact Hc
  iintro ⟨Hb, Hc⟩
  ihave Hc := (Entails.of_eq (held_c (F := F) d _)) $$ Hc
  rw [wp_ret]; imodintro
  iapply (wp_hlo_within 𝒱 (SparseCore.T d) none Set.univ (op := opP) (S := {p'}) (Finset.Subset.refl _) (V := V0 m d)) $$ [Hb Hp]
  · isplitl [Hb]; · iexact Hb
    rw [held_p]; iexact Hp
  iintro ⟨Hb, Hp⟩
  ihave Hp := (Entails.of_eq (held_p (F := F) d _)) $$ Hp
  rw [wp_ret]; imodintro
  have ec : (opC (F := F)).result (V0 m d) c' = tabC := StableHlo.nullary_result _ _ _ _
  have ep : (opP (F := F)).result (V0 m d) p' = tabP := StableHlo.nullary_result _ _ _ _
  rw [ec, ep]
  iapply ((K (F := F)).wp_run (D (F := F)) 𝒱 (EH := EH) (P := P m) κ d 0) $$ [Hst Hu Hi Ht Hc Hp Ha Hbb Hr Hb Hts]
  isplitr; · iexact Hctx
  isplitl [Hst]; · iexact Hst
  isplitl [Hu Hi Ht Hc Hp Ha Hbb Hr]
  · rw [st0_eq]
    unfold goRes
    isplitl [Hu]; · iexact Hu
    isplitl [Hi]; · iexact Hi
    isplitl [Ht]; · iexact Ht
    isplitl [Hc]; · iexact Hc
    isplitl [Hp]; · iexact Hp
    isplitl [Ha]; · iexists _; iexact Ha
    isplitl [Hbb]; · iexists _; iexact Hbb
    iexists _; iexact Hr
  iintro ⟨Hst, Hdn⟩
  ihave Hdn' := (Entails.of_eq (dn0_eq m d)) $$ Hdn
  imodintro
  isplitl [Hst]; · iexact Hst
  isplitr [Hb Hts]
  · iexact Hdn'
  isplitl [Hb] <;> iassumption

/-- What the final memory of one device satisfies. -/
def fq (d : Dev nD) (s' : Phys nD τ sig (Elt F)) : Prop :=
  s'.mem.mem (uLoc d) = m (uLoc d) ∧ s'.mem.mem (iLoc d) = m (iLoc d) ∧ s'.mem.mem (tLoc d) = m (tLoc d)
    ∧ OutSpec m d (s'.mem.mem (aLoc d)) (s'.mem.mem (bLoc d)) (s'.mem.mem (rLoc d))

set_option maxRecDepth 16384 in
theorem hfin (d : Dev nD) (s' : Phys nD τ sig (Elt F)) : iprop(FIN m d ∗ SI s') ⊢ (⌜fq m d s'⌝ : sProp 𝕄) := by
  unfold FIN tdRes
  iintro ⟨⟨Hu, Hi, Ht, -, -, %fa, %fb, %fr, %hout, Ha, Hb, Hr⟩, HSI⟩
  ihave H := (persistent_entails_right (SI_pointsTo_agree (st := s') (ℓ := uLoc d) (I := Finset.univ) (q := fullShare) (f := m (uLoc d)))) $$ [HSI Hu]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (persistent_entails_right (SI_pointsTo_agree (st := s') (ℓ := aLoc d) (I := Finset.univ) (q := fullShare) (f := fa))) $$ [HSI Ha]
  · isplitl [HSI] <;> iassumption
  icases H with ⟨%h4, HSI, -⟩
  ihave H := (persistent_entails_right (SI_pointsTo_agree (st := s') (ℓ := bLoc d) (I := Finset.univ) (q := fullShare) (f := fb))) $$ [HSI Hb]
  · isplitl [HSI] <;> iassumption
  icases H with ⟨%h5, HSI, -⟩
  ihave H := (SI_pointsTo_agree (st := s') (ℓ := rLoc d) (I := Finset.univ) (q := fullShare) (f := fr)) $$ [HSI Hr]
  · isplitl [HSI] <;> iassumption
  icases H with %h6
  ipureintro
  have e4 : s'.mem.mem (aLoc d) = fa := funext fun i => h4 i (Finset.mem_univ i)
  have e5 : s'.mem.mem (bLoc d) = fb := funext fun i => h5 i (Finset.mem_univ i)
  have e6 : s'.mem.mem (rLoc d) = fr := funext fun i => h6 i (Finset.mem_univ i)
  refine ⟨funext fun i => h1 i (Finset.mem_univ i), funext fun i => h2 i (Finset.mem_univ i), funext fun i => h3 i (Finset.mem_univ i), ?_⟩
  rw [e4, e5, e6]; exact hout

/-! ## The run -/

def QC : PUnit × MemSt nD τ sig (Elt F) → Prop := fun r =>
  (∀ d : Dev nD, r.2.mem (uLoc d) = m (uLoc d) ∧ r.2.mem (iLoc d) = m (iLoc d) ∧ r.2.mem (tLoc d) = m (tLoc d)
    ∧ OutSpec m d (r.2.mem (aLoc d)) (r.2.mem (bLoc d)) (r.2.mem (rLoc d))) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Run

end
-- ==== Proof.Frames.lean ====
/-
  The frames: the kernel and its idealisation run to the end, change no argument and leave every semaphore at zero.
-/
module

public import proofs.«01_k».proof.Proof.Launch
public import proofs.«01_k».proof.Proof.Gen.Kernel
public import proofs.«01_k».proof.Proof.Gen.Pre_item_in_range

@[expose] public section

noncomputable section

namespace Cert.Proof.Frames

open Idealize.ShloMosaic Idealize.SL.Sem
open Cert.KernelIdeal Cert.KernelIdeal.Gen
open Cert.Proof.Run

variable {F : FTy → Type} [FloatOps F]

/-- The precondition in the words of the run: each item's number is below the number of items. -/
theorem ok_of_pre (m : (ℓ : Loc nD τ sig) → Buf (Elt F) ℓ)
    (h : ∀ c : Dev nD, Cert.Pre_item_in_range.fn (F := F) (m (uLoc c)) (m (iLoc c)) (m (tLoc c)) = (fun _ => 1#1)) : PreOK m := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 100000#32) = 1#1 → v.toNat < 100000 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  intro d j
  have e := congrFun (h d) j
  simp only [Cert.Pre_item_in_range.fn, andi, cmpi, broadcastInDim, constantI] at e
  exact key _ e

theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩)
    (run_main (F := Ideal) m ρ (ok_of_pre m hpre))

theorem frame_kernel : Cert.quiescent_Kernel := fun m ρ hpre =>
  (θ_run Cert.KernelIdeal.defs _ _).mono (fun _ h => ⟨fun c => ⟨(h.1 c).1, (h.1 c).2.1, (h.1 c).2.2.1⟩, h.2⟩)
    (run_main (F := Bits) m ρ (ok_of_pre m hpre))

end Cert.Proof.Frames

end
-- ==== Proof.Ssa.lean ====
/-
  Straight lines of whole-array operations in which every buffer is written once. `Ins` describes one operation on typed
  references, `Ins.eqn` the equation that it leaves behind, and `Ordered n l` says that the operations of `l` write the
  buffers number `n`, `n + 1`, … in turn and each reads only buffers numbered below its own. `eqns_after`: after such a
  line every operation's equation holds of the FINAL contents, because nothing writes its operands or its result again.
-/
module

public import Idealize.ShloMosaic.Lib.StableHlo.Run

@[expose] public section

namespace Cert.Proof.Ssa

open Idealize.ShloMosaic Idealize.ShloMosaic.StableHlo

variable {τ : Topo} {sig : RefSig} {Val : EltTy → Type}

/-- One operation over whole arrays. -/
inductive Ins (sig : RefSig) (Val : EltTy → Type) : Type 1
  | nul {T : BufTy} (y : TRef sig T) (v : T.Contents Val)
  | un {A T : BufTy} (a : TRef sig A) (y : TRef sig T) (f : A.Contents Val → T.Contents Val)
  | bin {A B T : BufTy} (a : TRef sig A) (b : TRef sig B) (y : TRef sig T)
      (f : A.Contents Val → B.Contents Val → T.Contents Val)
  | ter {A B C T : BufTy} (a : TRef sig A) (b : TRef sig B) (c : TRef sig C) (y : TRef sig T)
      (f : A.Contents Val → B.Contents Val → C.Contents Val → T.Contents Val)
  | resh {A T : BufTy} (a : TRef sig A) (y : TRef sig T) (he : A.elt = T.elt) (hn : A.shape.ShapeCasts T.shape)

/-- The contents of a typed reference. -/
def rd {T : BufTy} (t : TRef sig T) (W : Valuation τ sig Val) : T.Contents Val := t.ofBuf (W (Proc.devRef .tc t.ref))

/-- The reference's number. -/
def num {T : BufTy} (t : TRef sig T) : ℕ := t.ref.idx.val

namespace Ins

/-- The operation itself. -/
@[reducible] def op : Ins sig Val → HloOp τ sig Val
  | nul y v => TRef.nullary y v
  | un a y f => TRef.unary a y f
  | bin a b y f => TRef.binary a b y f
  | ter a b c y f => TRef.ternary a b c y f
  | resh a y he hn => TRef.reshape a y he hn

/-- What it says of the contents after it. -/
def eqn (W : Valuation τ sig Val) : Ins sig Val → Prop
  | nul y v => rd y W = v
  | un a y f => rd y W = f (rd a W)
  | bin a b y f => rd y W = f (rd a W) (rd b W)
  | ter a b c y f => rd y W = f (rd a W) (rd b W) (rd c W)
  | resh a y he hn => rd y W = fun i => he ▸ shapeCast _ (rd a W) hn i

/-- It writes buffer `n` and reads smaller numbers. -/
def okAt (n : ℕ) : Ins sig Val → Bool
  | nul y _ => num y == n
  | un a y _ => num y == n && Nat.blt (num a) n
  | bin a b y _ => num y == n && Nat.blt (num a) n && Nat.blt (num b) n
  | ter a b c y _ => num y == n && Nat.blt (num a) n && Nat.blt (num b) n && Nat.blt (num c) n
  | resh a y _ _ => num y == n && Nat.blt (num a) n

end Ins

/-- The buffers are written in order. -/
def ordered : ℕ → List (Ins sig Val) → Bool
  | _, [] => true
  | n, i :: l => i.okAt n && ordered (n + 1) l

/-- Every operation's equation. -/
def Eqns (W : Valuation τ sig Val) : List (Ins sig Val) → Prop
  | [] => True
  | i :: l => i.eqn W ∧ Eqns W l

theorem eqns_append (W : Valuation τ sig Val) (l l' : List (Ins sig Val)) (h : Eqns W (l ++ l')) : Eqns W l ∧ Eqns W l' := by
  induction l with
  | nil => exact ⟨trivial, h⟩
  | cons i l ih => exact ⟨⟨h.1, (ih h.2).1⟩, (ih h.2).2⟩

theorem ordered_append (n : ℕ) (l l' : List (Ins sig Val)) (h : ordered n l = true) (h' : ordered (n + l.length) l' = true) :
    ordered n (l ++ l') = true := by
  induction l generalizing n with
  | nil => exact h'
  | cons i l ih =>
    have h2 := Bool.and_eq_true_iff.mp h
    refine Bool.and_eq_true_iff.mpr ⟨h2.1, ih (n + 1) h2.2 ?_⟩
    have e : n + 1 + l.length = n + (i :: l).length := by rw [List.length_cons]; omega
    rw [e]; exact h'

theorem ne_of_num {r y : Ref sig .tc} {n : ℕ} (hy : y.idx.val = n) (hr : r.idx.val < n) : r ≠ y := by
  rintro rfl; omega

/-- An operation leaves the buffers with other numbers alone. -/
theorem result_ne {n : ℕ} (i : Ins sig Val) (h : i.okAt n = true) (V : Valuation τ sig Val) {r : Ref sig .tc}
    (hr : r.idx.val < n) : (i.op (τ := τ)).result V (Proc.devRef .tc r) = V (Proc.devRef .tc r) := by
  cases i with
  | nul y v => exact nullary_result_ne (h := ne_of_num (by simpa [Ins.okAt, num] using h) hr) ..
  | un a y f =>
    simp only [Ins.okAt, Bool.and_eq_true, beq_iff_eq] at h
    exact unary_result_ne (h := ne_of_num h.1 hr) ..
  | bin a b y f =>
    simp only [Ins.okAt, Bool.and_eq_true, beq_iff_eq] at h
    exact binary_result_ne (h := ne_of_num h.1.1 hr) ..
  | ter a b c y f =>
    simp only [Ins.okAt, Bool.and_eq_true, beq_iff_eq] at h
    exact ternary_result_ne (h := ne_of_num h.1.1.1 hr) ..
  | resh a y he hn =>
    simp only [Ins.okAt, Bool.and_eq_true, beq_iff_eq] at h
    exact reshape_result_ne (h := ne_of_num h.1 hr) ..

/-- A line writing from `n` on leaves the buffers below `n` alone. -/
theorem after_low {n : ℕ} (l : List (Ins sig Val)) (h : ordered n l = true) (V : Valuation τ sig Val) {r : Ref sig .tc}
    (hr : r.idx.val < n) : after (l.map (Ins.op (τ := τ))) V (Proc.devRef .tc r) = V (Proc.devRef .tc r) := by
  induction l generalizing n V with
  | nil => rfl
  | cons i l ih =>
    have h2 := Bool.and_eq_true_iff.mp h
    exact (ih h2.2 _ (Nat.lt_succ_of_lt hr)).trans (result_ne i h2.1 V hr)

theorem rd_low {n : ℕ} (l : List (Ins sig Val)) (h : ordered n l = true) (V : Valuation τ sig Val) {T : BufTy} (t : TRef sig T)
    (ht : num t < n) : rd t (after (l.map (Ins.op (τ := τ))) V) = rd t V :=
  congrArg t.ofBuf (after_low l h V ht)

theorem rd_write {T : BufTy} (y : TRef sig T) (V : Valuation τ sig Val) (v : T.Contents Val)
    (h : V (Proc.devRef .tc y.ref) = y.toBuf v) : rd y V = v := by
  rw [rd, h]; exact TRef.ofBuf_toBuf y v

theorem reshape_read {A T : BufTy} (a : TRef sig A) (y : TRef sig T) (he : A.elt = T.elt) (hn : A.shape.ShapeCasts T.shape)
    (V : Valuation τ sig Val) :
    rd y ((TRef.reshape (τ := τ) (Val := Val) a y he hn).result V) = fun i => he ▸ shapeCast _ (rd a V) hn i := by
  obtain ⟨ar, rfl, ad, au⟩ := a
  obtain ⟨yr, rfl, yd, yu⟩ := y
  exact reshape_result ..

/-- The line's equations, of the contents it ends with. -/
theorem eqns_after {n : ℕ} (l : List (Ins sig Val)) (h : ordered n l = true) (V : Valuation τ sig Val) :
    Eqns (after (l.map (Ins.op (τ := τ))) V) l := by
  induction l generalizing n V with
  | nil => trivial
  | cons i l ih =>
    have h2 := Bool.and_eq_true_iff.mp h
    refine ⟨?_, ih h2.2 _⟩
    have low : ∀ {T : BufTy} (t : TRef sig T), num t < n + 1 →
        rd t (after ((i :: l).map (Ins.op (τ := τ))) V) = rd t ((i.op (τ := τ)).result V) :=
      fun t ht => rd_low l h2.2 _ t ht
    have old : ∀ {T : BufTy} (t : TRef sig T), num t < n → rd t ((i.op (τ := τ)).result V) = rd t V :=
      fun t ht => congrArg t.ofBuf (result_ne i h2.1 V ht)
    have both : ∀ {T : BufTy} (t : TRef sig T), num t < n →
        rd t (after ((i :: l).map (Ins.op (τ := τ))) V) = rd t V :=
      fun t ht => (low t (by omega)).trans (old t ht)
    have ok := h2.1
    generalize after ((i :: l).map (Ins.op (τ := τ))) V = W at *
    cases i with
    | nul y v =>
      have hy : num y = n := by simpa [Ins.okAt] using ok
      exact (low y (by omega)).trans (rd_write y _ _ (nullary_result ..))
    | un a y f =>
      simp only [Ins.okAt, Bool.and_eq_true, beq_iff_eq, Nat.blt_eq] at ok
      show rd y W = f (rd a W)
      rw [both a ok.2, low y (by omega)]
      exact rd_write y _ _ (unary_result ..)
    | bin a b y f =>
      simp only [Ins.okAt, Bool.and_eq_true, beq_iff_eq, Nat.blt_eq] at ok
      show rd y W = f (rd a W) (rd b W)
      rw [both a ok.1.2, both b ok.2, low y (by omega)]
      exact rd_write y _ _ (binary_result ..)
    | ter a b c y f =>
      simp only [Ins.okAt, Bool.and_eq_true, beq_iff_eq, Nat.blt_eq] at ok
      show rd y W = f (rd a W) (rd b W) (rd c W)
      rw [both a ok.1.1.2, both b ok.1.2, both c ok.2, low y (by omega)]
      exact rd_write y _ _ (ternary_result ..)
    | resh a y he hn =>
      simp only [Ins.okAt, Bool.and_eq_true, beq_iff_eq, Nat.blt_eq] at ok
      show rd y W = fun i => he ▸ shapeCast _ (rd a W) hn i
      rw [both a ok.2, low y (by omega)]
      exact reshape_read a y he hn V

/-- The operations touch the TensorCore's buffers only. -/
theorem bufs_sub (l : List (Ins sig Val)) : (l.map (Ins.op (τ := τ))).Forall fun o => o.bufs ⊆ tcRefs τ sig := by
  refine List.forall_iff_forall_mem.mpr fun o ho => ?_
  obtain ⟨i, -, rfl⟩ := List.mem_map.mp ho
  cases i with
  | nul y v => exact nullary_bufs_sub ..
  | un a y f => exact unary_bufs_sub ..
  | bin a b y f => exact binary_bufs_sub ..
  | ter a b c y f => exact ternary_bufs_sub ..
  | resh a y he hn => exact reshape_bufs_sub ..

/-- The operations determine what they write. -/
theorem fresh_empty (l : List (Ins sig Val)) : ∀ o ∈ l.map (Ins.op (τ := τ)), o.fresh = ∅ := by
  intro o ho
  obtain ⟨i, -, rfl⟩ := List.mem_map.mp ho
  cases i <;> rfl

end Cert.Proof.Ssa

end
-- ==== Proof.RefRun.lean ====
/-
  The reference program as a straight line of operations: its body, its private functions' bodies and the order in which
  they write their buffers; what holds of every final memory of its run (`run_main`), and the frame claims.
-/
module

public import proofs.«01_k».proof.Proof.Ssa
public import proofs.«01_k».proof.Proof.Gen.ReferenceIdeal
public import proofs.«01_k».proof.Proof.Gen.Pre_item_in_range
public import proofs.«01_k».proof.Defs
public import Idealize.ShloMosaic.Lib.Quiescent
public import Idealize.ShloMosaic.Lib.StableHlo.RunHlo

@[expose] public section

set_option maxRecDepth 4000

namespace Cert.Proof.Ref

open Idealize.ShloMosaic Idealize.ShloMosaic.TcCoe Idealize.ShloMosaic.StableHlo Idealize.SL.Sem
open Cert.ReferenceIdeal Cert.ReferenceIdeal.Facts₀ Cert.Proof.Ssa

variable {F : FTy → Type} [FloatOps F]

/-- The generator, operations 1–60. -/
noncomputable def three0 (arg0 : TRef sig ⟨S_, .i32⟩) (arg1 : TRef sig ⟨S_, .i32⟩) (arg2 : TRef sig ⟨S100000, .i32⟩) (arg3 : TRef sig ⟨S100000, .i32⟩) (φ : fn_threefry2x32.Bufs) : List (Ins sig (Elt F)) := [
    .bin arg0 arg1 φ.v0 xori,
    .nul φ.c (constantI S_ 32 466688986#32),
    .bin φ.v0 φ.c φ.v1 xori,
    .un arg0 φ.v2 (broadcastInDim S100000 ![] bcast_S_S100000),
    .bin arg2 φ.v2 φ.v3 addi,
    .un arg1 φ.v4 (broadcastInDim S100000 ![] bcast_S_S100000),
    .bin arg3 φ.v4 φ.v5 addi,
    .bin φ.v3 φ.v5 φ.v6 addi,
    .nul φ.c_0 (constantI S_ 32 13#32),
    .un φ.c_0 φ.v7 (broadcastInDim S100000 ![] bcast_S_S100000),
    .bin φ.v5 φ.v7 φ.v8 Host.shli,
    .nul φ.c_1 (constantI S_ 32 19#32),
    .un φ.c_1 φ.v9 (broadcastInDim S100000 ![] bcast_S_S100000),
    .bin φ.v5 φ.v9 φ.v10 Host.shrui,
    .bin φ.v8 φ.v10 φ.v11 ori,
    .bin φ.v6 φ.v11 φ.v12 xori,
    .bin φ.v6 φ.v12 φ.v13 addi,
    .nul φ.c_2 (constantI S_ 32 15#32),
    .un φ.c_2 φ.v14 (broadcastInDim S100000 ![] bcast_S_S100000),
    .bin φ.v12 φ.v14 φ.v15 Host.shli,
    .nul φ.c_3 (constantI S_ 32 17#32),
    .un φ.c_3 φ.v16 (broadcastInDim S100000 ![] bcast_S_S100000),
    .bin φ.v12 φ.v16 φ.v17 Host.shrui,
    .bin φ.v15 φ.v17 φ.v18 ori,
    .bin φ.v13 φ.v18 φ.v19 xori,
    .bin φ.v13 φ.v19 φ.v20 addi,
    .nul φ.c_4 (constantI S_ 32 26#32),
    .un φ.c_4 φ.v21 (broadcastInDim S100000 ![] bcast_S_S100000),
    .bin φ.v19 φ.v21 φ.v22 Host.shli,
    .nul φ.c_5 (constantI S_ 32 6#32),
    .un φ.c_5 φ.v23 (broadcastInDim S100000 ![] bcast_S_S100000),
    .bin φ.v19 φ.v23 φ.v24 Host.shrui,
    .bin φ.v22 φ.v24 φ.v25 ori,
    .bin φ.v20 φ.v25 φ.v26 xori,
    .bin φ.v20 φ.v26 φ.v27 addi,
    .nul φ.c_6 (constantI S_ 32 6#32),
    .un φ.c_6 φ.v28 (broadcastInDim S100000 ![] bcast_S_S100000),
    .bin φ.v26 φ.v28 φ.v29 Host.shli,
    .nul φ.c_7 (constantI S_ 32 26#32),
    .un φ.c_7 φ.v30 (broadcastInDim S100000 ![] bcast_S_S100000),
    .bin φ.v26 φ.v30 φ.v31 Host.shrui,
    .bin φ.v29 φ.v31 φ.v32 ori,
    .bin φ.v27 φ.v32 φ.v33 xori,
    .un arg1 φ.v34 (broadcastInDim S100000 ![] bcast_S_S100000),
    .bin φ.v27 φ.v34 φ.v35 addi,
    .un φ.v1 φ.v36 (broadcastInDim S100000 ![] bcast_S_S100000),
    .bin φ.v33 φ.v36 φ.v37 addi,
    .nul φ.c_8 (constantI S_ 32 1#32),
    .un φ.c_8 φ.v38 (broadcastInDim S100000 ![] bcast_S_S100000),
    .bin φ.v37 φ.v38 φ.v39 addi,
    .bin φ.v35 φ.v39 φ.v40 addi,
    .nul φ.c_9 (constantI S_ 32 17#32),
    .un φ.c_9 φ.v41 (broadcastInDim S100000 ![] bcast_S_S100000),
    .bin φ.v39 φ.v41 φ.v42 Host.shli,
    .nul φ.c_10 (constantI S_ 32 15#32),
    .un φ.c_10 φ.v43 (broadcastInDim S100000 ![] bcast_S_S100000),
    .bin φ.v39 φ.v43 φ.v44 Host.shrui,
    .bin φ.v42 φ.v44 φ.v45 ori,
    .bin φ.v40 φ.v45 φ.v46 xori,
    .bin φ.v40 φ.v46 φ.v47 addi]

theorem part0_eq (arg0 : TRef sig ⟨S_, .i32⟩) (arg1 : TRef sig ⟨S_, .i32⟩) (arg2 : TRef sig ⟨S100000, .i32⟩) (arg3 : TRef sig ⟨S100000, .i32⟩) (φ : fn_threefry2x32.Bufs) :
    fn_threefry2x32.body_part0 (F := F) arg0 arg1 arg2 arg3 φ = seq ((three0 arg0 arg1 arg2 arg3 φ).map Ins.op) := rfl

/-- Operations 61–120. -/
noncomputable def three1 (arg0 : TRef sig ⟨S_, .i32⟩) (arg1 : TRef sig ⟨S_, .i32⟩) (arg2 : TRef sig ⟨S100000, .i32⟩) (arg3 : TRef sig ⟨S100000, .i32⟩) (φ : fn_threefry2x32.Bufs) : List (Ins sig (Elt F)) := [
    .nul φ.c_11 (constantI S_ 32 29#32),
    .un φ.c_11 φ.v48 (broadcastInDim S100000 ![] bcast_S_S100000),
    .bin φ.v46 φ.v48 φ.v49 Host.shli,
    .nul φ.c_12 (constantI S_ 32 3#32),
    .un φ.c_12 φ.v50 (broadcastInDim S100000 ![] bcast_S_S100000),
    .bin φ.v46 φ.v50 φ.v51 Host.shrui,
    .bin φ.v49 φ.v51 φ.v52 ori,
    .bin φ.v47 φ.v52 φ.v53 xori,
    .bin φ.v47 φ.v53 φ.v54 addi,
    .nul φ.c_13 (constantI S_ 32 16#32),
    .un φ.c_13 φ.v55 (broadcastInDim S100000 ![] bcast_S_S100000),
    .bin φ.v53 φ.v55 φ.v56 Host.shli,
    .nul φ.c_14 (constantI S_ 32 16#32),
    .un φ.c_14 φ.v57 (broadcastInDim S100000 ![] bcast_S_S100000),
    .bin φ.v53 φ.v57 φ.v58 Host.shrui,
    .bin φ.v56 φ.v58 φ.v59 ori,
    .bin φ.v54 φ.v59 φ.v60 xori,
    .bin φ.v54 φ.v60 φ.v61 addi,
    .nul φ.c_15 (constantI S_ 32 24#32),
    .un φ.c_15 φ.v62 (broadcastInDim S100000 ![] bcast_S_S100000),
    .bin φ.v60 φ.v62 φ.v63 Host.shli,
    .nul φ.c_16 (constantI S_ 32 8#32),
    .un φ.c_16 φ.v64 (broadcastInDim S100000 ![] bcast_S_S100000),
    .bin φ.v60 φ.v64 φ.v65 Host.shrui,
    .bin φ.v63 φ.v65 φ.v66 ori,
    .bin φ.v61 φ.v66 φ.v67 xori,
    .un φ.v1 φ.v68 (broadcastInDim S100000 ![] bcast_S_S100000),
    .bin φ.v61 φ.v68 φ.v69 addi,
    .un arg0 φ.v70 (broadcastInDim S100000 ![] bcast_S_S100000),
    .bin φ.v67 φ.v70 φ.v71 addi,
    .nul φ.c_17 (constantI S_ 32 2#32),
    .un φ.c_17 φ.v72 (broadcastInDim S100000 ![] bcast_S_S100000),
    .bin φ.v71 φ.v72 φ.v73 addi,
    .bin φ.v69 φ.v73 φ.v74 addi,
    .nul φ.c_18 (constantI S_ 32 13#32),
    .un φ.c_18 φ.v75 (broadcastInDim S100000 ![] bcast_S_S100000),
    .bin φ.v73 φ.v75 φ.v76 Host.shli,
    .nul φ.c_19 (constantI S_ 32 19#32),
    .un φ.c_19 φ.v77 (broadcastInDim S100000 ![] bcast_S_S100000),
    .bin φ.v73 φ.v77 φ.v78 Host.shrui,
    .bin φ.v76 φ.v78 φ.v79 ori,
    .bin φ.v74 φ.v79 φ.v80 xori,
    .bin φ.v74 φ.v80 φ.v81 addi,
    .nul φ.c_20 (constantI S_ 32 15#32),
    .un φ.c_20 φ.v82 (broadcastInDim S100000 ![] bcast_S_S100000),
    .bin φ.v80 φ.v82 φ.v83 Host.shli,
    .nul φ.c_21 (constantI S_ 32 17#32),
    .un φ.c_21 φ.v84 (broadcastInDim S100000 ![] bcast_S_S100000),
    .bin φ.v80 φ.v84 φ.v85 Host.shrui,
    .bin φ.v83 φ.v85 φ.v86 ori,
    .bin φ.v81 φ.v86 φ.v87 xori,
    .bin φ.v81 φ.v87 φ.v88 addi,
    .nul φ.c_22 (constantI S_ 32 26#32),
    .un φ.c_22 φ.v89 (broadcastInDim S100000 ![] bcast_S_S100000),
    .bin φ.v87 φ.v89 φ.v90 Host.shli,
    .nul φ.c_23 (constantI S_ 32 6#32),
    .un φ.c_23 φ.v91 (broadcastInDim S100000 ![] bcast_S_S100000),
    .bin φ.v87 φ.v91 φ.v92 Host.shrui,
    .bin φ.v90 φ.v92 φ.v93 ori,
    .bin φ.v88 φ.v93 φ.v94 xori]

theorem part1_eq (arg0 : TRef sig ⟨S_, .i32⟩) (arg1 : TRef sig ⟨S_, .i32⟩) (arg2 : TRef sig ⟨S100000, .i32⟩) (arg3 : TRef sig ⟨S100000, .i32⟩) (φ : fn_threefry2x32.Bufs) :
    fn_threefry2x32.body_part1 (F := F) arg0 arg1 arg2 arg3 φ = seq ((three1 arg0 arg1 arg2 arg3 φ).map Ins.op) := rfl

/-- Operations 121–180. -/
noncomputable def three2 (arg0 : TRef sig ⟨S_, .i32⟩) (arg1 : TRef sig ⟨S_, .i32⟩) (arg2 : TRef sig ⟨S100000, .i32⟩) (arg3 : TRef sig ⟨S100000, .i32⟩) (φ : fn_threefry2x32.Bufs) : List (Ins sig (Elt F)) := [
    .bin φ.v88 φ.v94 φ.v95 addi,
    .nul φ.c_24 (constantI S_ 32 6#32),
    .un φ.c_24 φ.v96 (broadcastInDim S100000 ![] bcast_S_S100000),
    .bin φ.v94 φ.v96 φ.v97 Host.shli,
    .nul φ.c_25 (constantI S_ 32 26#32),
    .un φ.c_25 φ.v98 (broadcastInDim S100000 ![] bcast_S_S100000),
    .bin φ.v94 φ.v98 φ.v99 Host.shrui,
    .bin φ.v97 φ.v99 φ.v100 ori,
    .bin φ.v95 φ.v100 φ.v101 xori,
    .un arg0 φ.v102 (broadcastInDim S100000 ![] bcast_S_S100000),
    .bin φ.v95 φ.v102 φ.v103 addi,
    .un arg1 φ.v104 (broadcastInDim S100000 ![] bcast_S_S100000),
    .bin φ.v101 φ.v104 φ.v105 addi,
    .nul φ.c_26 (constantI S_ 32 3#32),
    .un φ.c_26 φ.v106 (broadcastInDim S100000 ![] bcast_S_S100000),
    .bin φ.v105 φ.v106 φ.v107 addi,
    .bin φ.v103 φ.v107 φ.v108 addi,
    .nul φ.c_27 (constantI S_ 32 17#32),
    .un φ.c_27 φ.v109 (broadcastInDim S100000 ![] bcast_S_S100000),
    .bin φ.v107 φ.v109 φ.v110 Host.shli,
    .nul φ.c_28 (constantI S_ 32 15#32),
    .un φ.c_28 φ.v111 (broadcastInDim S100000 ![] bcast_S_S100000),
    .bin φ.v107 φ.v111 φ.v112 Host.shrui,
    .bin φ.v110 φ.v112 φ.v113 ori,
    .bin φ.v108 φ.v113 φ.v114 xori,
    .bin φ.v108 φ.v114 φ.v115 addi,
    .nul φ.c_29 (constantI S_ 32 29#32),
    .un φ.c_29 φ.v116 (broadcastInDim S100000 ![] bcast_S_S100000),
    .bin φ.v114 φ.v116 φ.v117 Host.shli,
    .nul φ.c_30 (constantI S_ 32 3#32),
    .un φ.c_30 φ.v118 (broadcastInDim S100000 ![] bcast_S_S100000),
    .bin φ.v114 φ.v118 φ.v119 Host.shrui,
    .bin φ.v117 φ.v119 φ.v120 ori,
    .bin φ.v115 φ.v120 φ.v121 xori,
    .bin φ.v115 φ.v121 φ.v122 addi,
    .nul φ.c_31 (constantI S_ 32 16#32),
    .un φ.c_31 φ.v123 (broadcastInDim S100000 ![] bcast_S_S100000),
    .bin φ.v121 φ.v123 φ.v124 Host.shli,
    .nul φ.c_32 (constantI S_ 32 16#32),
    .un φ.c_32 φ.v125 (broadcastInDim S100000 ![] bcast_S_S100000),
    .bin φ.v121 φ.v125 φ.v126 Host.shrui,
    .bin φ.v124 φ.v126 φ.v127 ori,
    .bin φ.v122 φ.v127 φ.v128 xori,
    .bin φ.v122 φ.v128 φ.v129 addi,
    .nul φ.c_33 (constantI S_ 32 24#32),
    .un φ.c_33 φ.v130 (broadcastInDim S100000 ![] bcast_S_S100000),
    .bin φ.v128 φ.v130 φ.v131 Host.shli,
    .nul φ.c_34 (constantI S_ 32 8#32),
    .un φ.c_34 φ.v132 (broadcastInDim S100000 ![] bcast_S_S100000),
    .bin φ.v128 φ.v132 φ.v133 Host.shrui,
    .bin φ.v131 φ.v133 φ.v134 ori,
    .bin φ.v129 φ.v134 φ.v135 xori,
    .un arg1 φ.v136 (broadcastInDim S100000 ![] bcast_S_S100000),
    .bin φ.v129 φ.v136 φ.v137 addi,
    .un φ.v1 φ.v138 (broadcastInDim S100000 ![] bcast_S_S100000),
    .bin φ.v135 φ.v138 φ.v139 addi,
    .nul φ.c_35 (constantI S_ 32 4#32),
    .un φ.c_35 φ.v140 (broadcastInDim S100000 ![] bcast_S_S100000),
    .bin φ.v139 φ.v140 φ.v141 addi,
    .bin φ.v137 φ.v141 φ.v142 addi]

theorem part2_eq (arg0 : TRef sig ⟨S_, .i32⟩) (arg1 : TRef sig ⟨S_, .i32⟩) (arg2 : TRef sig ⟨S100000, .i32⟩) (arg3 : TRef sig ⟨S100000, .i32⟩) (φ : fn_threefry2x32.Bufs) :
    fn_threefry2x32.body_part2 (F := F) arg0 arg1 arg2 arg3 φ = seq ((three2 arg0 arg1 arg2 arg3 φ).map Ins.op) := rfl

/-- The rest of the generator. -/
noncomputable def three3 (arg0 : TRef sig ⟨S_, .i32⟩) (arg1 : TRef sig ⟨S_, .i32⟩) (arg2 : TRef sig ⟨S100000, .i32⟩) (arg3 : TRef sig ⟨S100000, .i32⟩) (φ : fn_threefry2x32.Bufs) : List (Ins sig (Elt F)) := [
    .nul φ.c_36 (constantI S_ 32 13#32),
    .un φ.c_36 φ.v143 (broadcastInDim S100000 ![] bcast_S_S100000),
    .bin φ.v141 φ.v143 φ.v144 Host.shli,
    .nul φ.c_37 (constantI S_ 32 19#32),
    .un φ.c_37 φ.v145 (broadcastInDim S100000 ![] bcast_S_S100000),
    .bin φ.v141 φ.v145 φ.v146 Host.shrui,
    .bin φ.v144 φ.v146 φ.v147 ori,
    .bin φ.v142 φ.v147 φ.v148 xori,
    .bin φ.v142 φ.v148 φ.v149 addi,
    .nul φ.c_38 (constantI S_ 32 15#32),
    .un φ.c_38 φ.v150 (broadcastInDim S100000 ![] bcast_S_S100000),
    .bin φ.v148 φ.v150 φ.v151 Host.shli,
    .nul φ.c_39 (constantI S_ 32 17#32),
    .un φ.c_39 φ.v152 (broadcastInDim S100000 ![] bcast_S_S100000),
    .bin φ.v148 φ.v152 φ.v153 Host.shrui,
    .bin φ.v151 φ.v153 φ.v154 ori,
    .bin φ.v149 φ.v154 φ.v155 xori,
    .bin φ.v149 φ.v155 φ.v156 addi,
    .nul φ.c_40 (constantI S_ 32 26#32),
    .un φ.c_40 φ.v157 (broadcastInDim S100000 ![] bcast_S_S100000),
    .bin φ.v155 φ.v157 φ.v158 Host.shli,
    .nul φ.c_41 (constantI S_ 32 6#32),
    .un φ.c_41 φ.v159 (broadcastInDim S100000 ![] bcast_S_S100000),
    .bin φ.v155 φ.v159 φ.v160 Host.shrui,
    .bin φ.v158 φ.v160 φ.v161 ori,
    .bin φ.v156 φ.v161 φ.v162 xori,
    .bin φ.v156 φ.v162 φ.v163 addi,
    .nul φ.c_42 (constantI S_ 32 6#32),
    .un φ.c_42 φ.v164 (broadcastInDim S100000 ![] bcast_S_S100000),
    .bin φ.v162 φ.v164 φ.v165 Host.shli,
    .nul φ.c_43 (constantI S_ 32 26#32),
    .un φ.c_43 φ.v166 (broadcastInDim S100000 ![] bcast_S_S100000),
    .bin φ.v162 φ.v166 φ.v167 Host.shrui,
    .bin φ.v165 φ.v167 φ.v168 ori,
    .bin φ.v163 φ.v168 φ.v169 xori,
    .un φ.v1 φ.v170 (broadcastInDim S100000 ![] bcast_S_S100000),
    .bin φ.v163 φ.v170 φ.v171 addi,
    .un arg0 φ.v172 (broadcastInDim S100000 ![] bcast_S_S100000),
    .bin φ.v169 φ.v172 φ.v173 addi,
    .nul φ.c_44 (constantI S_ 32 5#32),
    .un φ.c_44 φ.v174 (broadcastInDim S100000 ![] bcast_S_S100000),
    .bin φ.v173 φ.v174 φ.v175 addi]

theorem part3_eq (arg0 : TRef sig ⟨S_, .i32⟩) (arg1 : TRef sig ⟨S_, .i32⟩) (arg2 : TRef sig ⟨S100000, .i32⟩) (arg3 : TRef sig ⟨S100000, .i32⟩) (φ : fn_threefry2x32.Bufs) :
    fn_threefry2x32.body_part3 (F := F) arg0 arg1 arg2 arg3 φ = seq ((three3 arg0 arg1 arg2 arg3 φ).map Ins.op) := rfl

/-- The uniform scores before the generator: the key halved, the item numbers. -/
noncomputable def uniA (arg0 : TRef sig ⟨S2, .i32⟩) (arg1 : TRef sig ⟨S_, .f32⟩) (arg2 : TRef sig ⟨S_, .f32⟩) (φ : fn_uniform.Bufs) : List (Ins sig (Elt F)) := [
    .un arg1 φ.v0 id,
    .un arg2 φ.v1 id,
    .un φ.v0 φ.v2 (broadcastInDim S1 ![] bcast_S_S1),
    .un φ.v1 φ.v3 (broadcastInDim S1 ![] bcast_S_S1),
    .un arg0 φ.v4 (extractStridedSlice S1 ![0] · slices_S2_S1_0),
    .resh φ.v4 φ.v5 (rfl : (.i32 : EltTy) = .i32) shapeCasts_S1_S_,
    .un arg0 φ.v6 (extractStridedSlice S1 ![1] · slices_S2_S1_1),
    .resh φ.v6 φ.v7 (rfl : (.i32 : EltTy) = .i32) shapeCasts_S1_S_,
    .nul φ.v8 (iotaInDim S100000 64 0),
    .nul φ.c (constantI S_ 64 1#64),
    .un φ.c φ.v9 (broadcastInDim S100000 ![] bcast_S_S100000),
    .bin φ.v9 φ.v8 φ.v10 muli,
    .nul φ.c_0 (constantI S_ 64 32#64),
    .un φ.c_0 φ.v11 (broadcastInDim S100000 ![] bcast_S_S100000),
    .bin φ.v10 φ.v11 φ.v12 Host.shrui,
    .un φ.v10 φ.v13 (trunci 32 · natLt_32_64),
    .un φ.v12 φ.v14 (trunci 32 · natLt_32_64)]

/-- The uniform scores after it: from words to floats. -/
noncomputable def uniB (arg0 : TRef sig ⟨S2, .i32⟩) (arg1 : TRef sig ⟨S_, .f32⟩) (arg2 : TRef sig ⟨S_, .f32⟩) (φ : fn_uniform.Bufs) : List (Ins sig (Elt F)) := [
    .bin φ.call0.v171 φ.call0.v175 φ.v16 xori,
    .nul φ.c_1 (constantI S_ 32 9#32),
    .un φ.c_1 φ.v17 (broadcastInDim S100000 ![] bcast_S_S100000),
    .bin φ.v16 φ.v17 φ.v18 Host.shrui,
    .nul φ.c_2 (constantI S_ 32 1065353216#32),
    .un φ.c_2 φ.v19 (broadcastInDim S100000 ![] bcast_S_S100000),
    .bin φ.v18 φ.v19 φ.v20 ori,
    .un φ.v20 φ.v21 (bitcastToFloat .f32),
    .nul φ.cst (constant S_ .f32 0x3F800000#32),
    .un φ.cst φ.v22 (broadcastInDim S100000 ![] bcast_S_S100000),
    .bin φ.v21 φ.v22 φ.v23 subf,
    .bin φ.v3 φ.v2 φ.v24 subf,
    .un φ.v24 φ.v25 (broadcastInDim S100000 ![0] bcast_S1_S100000_0),
    .bin φ.v23 φ.v25 φ.v26 mulf,
    .un φ.v2 φ.v27 (broadcastInDim S100000 ![0] bcast_S1_S100000_0),
    .bin φ.v26 φ.v27 φ.v28 addf,
    .un φ.v2 φ.v29 (broadcastInDim S100000 ![0] bcast_S1_S100000_0),
    .bin φ.v29 φ.v28 φ.v30 maximumf]

/-- The masking. -/
noncomputable def wher (arg0 : TRef sig ⟨S100000, .i1⟩) (arg1 : TRef sig ⟨S_, .f32⟩) (arg2 : TRef sig ⟨S100000, .f32⟩) (φ : fn_where.Bufs) : List (Ins sig (Elt F)) := [
    .un arg1 φ.v0 id,
    .un φ.v0 φ.v1 (broadcastInDim S100000 ![] bcast_S_S100000),
    .ter arg0 φ.v1 arg2 φ.v2 select]

/-- The mask of the positives, the key. -/
noncomputable def mainA : List (Ins sig (Elt F)) := [
    .nul (.of main_c) (constantI S_ 1 0#1),
    .un (.of main_c) (.of main_v0) (broadcastInDim S100000 ![] bcast_S_S100000 : (⟨S_, .i1⟩ : BufTy).Contents (Elt F) → (⟨S100000, .i1⟩ : BufTy).Contents (Elt F)),
    .nul (.of main_c_0) (constantI S_ 32 0#32),
    .un (.of main_c_0) (.of main_v1) (broadcastInDim S4096 ![] bcast_S_S4096 : (⟨S_, .i32⟩ : BufTy).Contents (Elt F) → (⟨S4096, .i32⟩ : BufTy).Contents (Elt F)),
    .bin (.of main_arg1) (.of main_v1) (.of main_v2) (cmpi .slt : (⟨S4096, .i32⟩ : BufTy).Contents (Elt F) → (⟨S4096, .i32⟩ : BufTy).Contents (Elt F) → (⟨S4096, .i1⟩ : BufTy).Contents (Elt F)),
    .nul (.of main_c_1) (constantI S_ 32 100000#32),
    .un (.of main_c_1) (.of main_v3) (broadcastInDim S4096 ![] bcast_S_S4096 : (⟨S_, .i32⟩ : BufTy).Contents (Elt F) → (⟨S4096, .i32⟩ : BufTy).Contents (Elt F)),
    .bin (.of main_arg1) (.of main_v3) (.of main_v4) (addi : (⟨S4096, .i32⟩ : BufTy).Contents (Elt F) → (⟨S4096, .i32⟩ : BufTy).Contents (Elt F) → (⟨S4096, .i32⟩ : BufTy).Contents (Elt F)),
    .ter (.of main_v2) (.of main_v4) (.of main_arg1) (.of main_v5) (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    .un (.of main_v5) (.of main_v6) (broadcastInDim S4096x1 ![0] bcast_S4096_S4096x1_0 : (⟨S4096, .i32⟩ : BufTy).Contents (Elt F) → (⟨S4096x1, .i32⟩ : BufTy).Contents (Elt F)),
    .nul (.of main_c_2) (constantI S_ 1 1#1),
    .un (.of main_c_2) (.of main_v7) (broadcastInDim S4096 ![] bcast_S_S4096 : (⟨S_, .i1⟩ : BufTy).Contents (Elt F) → (⟨S4096, .i1⟩ : BufTy).Contents (Elt F)),
    .ter (.of main_v0) (.of main_v6) (.of main_v7) (.of main_v8) ((fun x i u => Host.scatter scatter_S100000_S4096x1_S4096_n_0_0_1 (fun _ b => b) x i u) : (⟨S100000, .i1⟩ : BufTy).Contents (Elt F) → (⟨S4096x1, .i32⟩ : BufTy).Contents (Elt F) → (⟨S4096, .i1⟩ : BufTy).Contents (Elt F) → (⟨S100000, .i1⟩ : BufTy).Contents (Elt F)),
    .nul (.of main_c_3) (constantI S_ 32 42#32),
    .nul (.of main_c_4) (constantI S_ 32 32#32),
    .bin (.of main_c_3) (.of main_c_4) (.of main_v9) (Host.shrui : (⟨S_, .i32⟩ : BufTy).Contents (Elt F) → (⟨S_, .i32⟩ : BufTy).Contents (Elt F) → (⟨S_, .i32⟩ : BufTy).Contents (Elt F)),
    .un (.of main_v9) (.of main_v10) (id : (⟨S_, .i32⟩ : BufTy).Contents (Elt F) → (⟨S_, .i32⟩ : BufTy).Contents (Elt F)),
    .un (.of main_v10) (.of main_v11) (broadcastInDim S1 ![] bcast_S_S1 : (⟨S_, .i32⟩ : BufTy).Contents (Elt F) → (⟨S1, .i32⟩ : BufTy).Contents (Elt F)),
    .nul (.of main_c_5) (constantI S_ 32 4294967295#32),
    .bin (.of main_c_3) (.of main_c_5) (.of main_v12) (andi : (⟨S_, .i32⟩ : BufTy).Contents (Elt F) → (⟨S_, .i32⟩ : BufTy).Contents (Elt F) → (⟨S_, .i32⟩ : BufTy).Contents (Elt F)),
    .un (.of main_v12) (.of main_v13) (id : (⟨S_, .i32⟩ : BufTy).Contents (Elt F) → (⟨S_, .i32⟩ : BufTy).Contents (Elt F)),
    .un (.of main_v13) (.of main_v14) (broadcastInDim S1 ![] bcast_S_S1 : (⟨S_, .i32⟩ : BufTy).Contents (Elt F) → (⟨S1, .i32⟩ : BufTy).Contents (Elt F)),
    .bin (.of main_v11) (.of main_v14) (.of main_v15) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    .nul (.of main_cst) (constant S_ .f32 0x00000000#32),
    .nul (.of main_cst_6) (constant S_ .f32 0x3F800000#32)]

/-- The masking constant. -/
noncomputable def mainB : List (Ins sig (Elt F)) := [
    .nul (.of main_cst_7) (constant S_ .f32 0xFF800000#32)]

/-- The selection and the three results. -/
noncomputable def mainC : List (Ins sig (Elt F)) := [
    .un (.of main_v17) (.of main_values) ((fun x => (Host.topK S4096 0 (FloatOps.cmpfTotal .gt) x sliceFits_S100000_S4096).1) : (⟨S100000, .f32⟩ : BufTy).Contents (Elt F) → (⟨S4096, .f32⟩ : BufTy).Contents (Elt F)),
    .un (.of main_v17) (.of main_indices) ((fun x => (Host.topK S4096 0 (FloatOps.cmpfTotal .gt) x sliceFits_S100000_S4096).2) : (⟨S100000, .f32⟩ : BufTy).Contents (Elt F) → (⟨S4096, .i32⟩ : BufTy).Contents (Elt F)),
    .nul (.of main_cst_8) (constant S_ .f32 0x00000000#32),
    .un (.of main_cst_8) (.of main_v18) (broadcastInDim S4096 ![] bcast_S_S4096 : (⟨S_, .f32⟩ : BufTy).Contents (Elt F) → (⟨S4096, .f32⟩ : BufTy).Contents (Elt F)),
    .un (.of main_arg0) (.of main_v19) ((extractStridedSlice S1 ![0] · slices_S4096_S1_0) : (⟨S4096, .i32⟩ : BufTy).Contents (Elt F) → (⟨S1, .i32⟩ : BufTy).Contents (Elt F)),
    .resh (.of main_v19) (.of main_v20) (rfl : (.i32 : EltTy) = .i32) shapeCasts_S1_S_,
    .un (.of main_v20) (.of main_v21) (broadcastInDim S8192 ![] bcast_S_S8192 : (⟨S_, .i32⟩ : BufTy).Contents (Elt F) → (⟨S8192, .i32⟩ : BufTy).Contents (Elt F)),
    .bin (.of main_arg1) (.of main_indices) (.of main_v22) ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)),
    .bin (.of main_arg2) (.of main_v18) (.of main_v23) ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F))]

/-- The generator. -/
noncomputable def three (arg0 : TRef sig ⟨S_, .i32⟩) (arg1 : TRef sig ⟨S_, .i32⟩) (arg2 : TRef sig ⟨S100000, .i32⟩)
    (arg3 : TRef sig ⟨S100000, .i32⟩) (φ : fn_threefry2x32.Bufs) : List (Ins sig (Elt F)) :=
  three0 arg0 arg1 arg2 arg3 φ ++ (three1 arg0 arg1 arg2 arg3 φ ++ (three2 arg0 arg1 arg2 arg3 φ ++ three3 arg0 arg1 arg2 arg3 φ))

theorem three_eq (arg0 : TRef sig ⟨S_, .i32⟩) (arg1 : TRef sig ⟨S_, .i32⟩) (arg2 : TRef sig ⟨S100000, .i32⟩)
    (arg3 : TRef sig ⟨S100000, .i32⟩) (φ : fn_threefry2x32.Bufs) :
    fn_threefry2x32.body (F := F) arg0 arg1 arg2 arg3 φ = seq ((three arg0 arg1 arg2 arg3 φ).map Ins.op) := by
  rw [three, List.map_append, List.map_append, List.map_append, seq_append, seq_append, seq_append,
    ← part0_eq, ← part1_eq, ← part2_eq, ← part3_eq]
  rfl

/-- The uniform scores. -/
noncomputable def uni (arg0 : TRef sig ⟨S2, .i32⟩) (arg1 : TRef sig ⟨S_, .f32⟩) (arg2 : TRef sig ⟨S_, .f32⟩)
    (φ : fn_uniform.Bufs) : List (Ins sig (Elt F)) :=
  uniA arg0 arg1 arg2 φ ++ (three φ.v5 φ.v7 φ.v14 φ.v13 φ.call0 ++ uniB arg0 arg1 arg2 φ)

theorem uni_eq (arg0 : TRef sig ⟨S2, .i32⟩) (arg1 : TRef sig ⟨S_, .f32⟩) (arg2 : TRef sig ⟨S_, .f32⟩)
    (φ : fn_uniform.Bufs) :
    fn_uniform.body (F := F) arg0 arg1 arg2 φ = seq ((uni arg0 arg1 arg2 φ).map Ins.op) := by
  rw [uni, List.map_append, List.map_append, seq_append, seq_append, ← three_eq]
  rfl

theorem wher_eq (arg0 : TRef sig ⟨S100000, .i1⟩) (arg1 : TRef sig ⟨S_, .f32⟩) (arg2 : TRef sig ⟨S100000, .f32⟩)
    (φ : fn_where.Bufs) :
    fn_where.body (F := F) arg0 arg1 arg2 φ = seq ((wher arg0 arg1 arg2 φ).map Ins.op) := rfl

/-- The whole program. -/
noncomputable def line : List (Ins sig (Elt F)) :=
  mainA ++ (uni (.of main_v15) (.of main_cst) (.of main_cst_6) main_call0
    ++ (mainB ++ (wher (.of main_v8) (.of main_cst_7) (.of main_v16) main_call1 ++ mainC)))

theorem bind_step {p q : Prog (TpuEff nD τ sig (Elt F) (Pipeline.Sig Λ₀ (Fin 0) fun p => (pcfgs (F := F) p).Adm) .tc) PUnit}
    {a b : Prog (TpuEff nD τ sig (Elt F) (Pipeline.Sig Λ₀ (Fin 0) fun p => (pcfgs (F := F) p).Adm) .tc) PUnit} (h : p = q) (h' : a = b) :
    (p >>= fun _ => a) = (q >>= fun _ => b) := by rw [h, h']

theorem scatter_op (f : (⟨S100000, .i1⟩ : BufTy).Contents (Elt F) → (⟨S4096x1, .i32⟩ : BufTy).Contents (Elt F) →
      (⟨S4096, .i1⟩ : BufTy).Contents (Elt F) → (⟨S100000, .i1⟩ : BufTy).Contents (Elt F)) :
    (StableHlo.ternary main_v0 main_v6 main_v7 main_v8 f : HloOp τ sig (Elt F))
      = Ins.op (.ter (.of main_v0) (.of main_v6) (.of main_v7) (.of main_v8) f) := rfl

theorem main_eq (d : Dev nD) : main (F := F) d = seq ((line (F := F)).map Ins.op) := by
  rw [line, List.map_append, List.map_append, List.map_append, List.map_append, seq_append, seq_append, seq_append,
    seq_append, ← uni_eq, ← wher_eq]
  unfold main
  generalize fn_uniform.body (F := F) _ _ _ _ = u
  generalize fn_where.body (F := F) _ _ _ _ = w
  unfold mainA mainB mainC
  simp only [List.map_cons, List.map_nil, seq, bind_assoc, pure_bind]
  iterate 12 refine bind_step rfl ?_
  refine bind_step (congrArg (fun o => hlo rfl o fun _ => .ret PUnit.unit) (scatter_op _)) ?_
  repeat refine bind_step rfl ?_
  rfl

theorem line_ordered : ordered 3 (line (F := F)) = true := rfl

theorem scopedRefs_eq : (Finset.univ.filter fun b : Ref sig .tc => b.isScoped) = ∅ := by decide
theorem scopedSems_eq : (Finset.univ.filter fun sm : SemLoc sig => sm.isScoped .tc) = ∅ := by decide

/-- The contents a run from `m` ends with. -/
noncomputable def fin (m : (ℓ : Loc nD τ sig) → Buf (Elt F) ℓ) (d : Dev nD) : Valuation τ sig (Elt F) :=
  after ((line (F := F)).map Ins.op) (launchContents m d)

theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = fin m d (Proc.devRef .tc b) :=
  run_seq scopedRefs_eq scopedSems_eq defs main (fun _ => (line (F := F)).map Ins.op) main_eq (fun _ => bufs_sub _) m ρ
    (fun _ => fresh_empty _)

/-- Every operation's equation, of the final contents. -/
theorem fin_eqns (m : (ℓ : Loc nD τ sig) → Buf (Elt F) ℓ) (d : Dev nD) : Eqns (fin m d) (line (F := F)) :=
  eqns_after _ line_ordered _

/-- The arguments stay. -/
theorem fin_arg (m : (ℓ : Loc nD τ sig) → Buf (Elt F) ℓ) (d : Dev nD) (r : Ref sig .tc) (h : r.idx.val < 3) :
    fin m d (Proc.devRef .tc r) = m ((d.tc : Thread nD τ).loc r) :=
  after_low _ line_ordered _ h

/-- The frame claim, from any memory. -/
theorem frame_reference : Cert.quiescent_ReferenceIdeal := fun m ρ _ =>
  θ_run_mono (run_main m ρ) fun r h =>
    ⟨fun c => ⟨(h c main_arg0).trans (fin_arg m c _ (by decide)), (h c main_arg1).trans (fin_arg m c _ (by decide)),
      (h c main_arg2).trans (fin_arg m c _ (by decide))⟩, sem_eq_zero_of_no_sems (by decide) _⟩

end Cert.Proof.Ref

end
-- ==== Proof.Three.lean ====
/-
  The generator's operations, read at one item: given the key's two words and the item's number as the counter's low
  word, the two words that the generator leaves are those that `bitsN` combines.
-/
module

public import proofs.«01_k».proof.Proof.RefRun
public import proofs.«01_k».proof.Proof.Key

@[expose] public section

set_option maxRecDepth 4000

namespace Cert.Proof.Three

open Idealize.ShloMosaic Idealize.ShloMosaic.StableHlo
open Cert.ReferenceIdeal Cert.ReferenceIdeal.Facts₀ Cert.Proof.Ssa Cert.Proof.Ref Cert.Proof.Key

variable {F : FTy → Type} [FloatOps F]

/-- A word per item, a single word. -/
abbrev Vec := TRef sig ⟨S100000, .i32⟩
abbrev One := TRef sig ⟨S_, .i32⟩

/-- The word at item `i`, as a number. -/
def At (W : Valuation τ sig (Elt F)) (i : S100000.Idx) (t : Vec) (n : ℕ) : Prop :=
  BitVec.toNat (rd t W i : BitVec 32) = n
/-- The single word, as a number. -/
def Is (W : Valuation τ sig (Elt F)) (t : One) (n : ℕ) : Prop :=
  ∀ i : S_.Idx, BitVec.toNat (rd t W i : BitVec 32) = n

theorem addN_eq (x y : ℕ) : addN x y = (x + y) % 2 ^ 32 := Nat.and_two_pow_sub_one_eq_mod (x + y) 32

theorem rotN_eq (x r s : ℕ) (hr : s + r = 32) (hx : x < 2 ^ 32) : rotN x r = (x <<< r) % 2 ^ 32 ||| (x >>> s) := by
  have e : rotN x r = ((x <<< r) ||| (x >>> (32 - r))) % 2 ^ 32 :=
    Nat.and_two_pow_sub_one_eq_mod ((x <<< r) ||| (x >>> (32 - r))) 32
  have e2 : 32 - r = s := by omega
  rw [e, e2, Nat.or_mod_two_pow, Nat.mod_eq_of_lt (a := x >>> s)]
  exact lt_of_le_of_lt (Nat.shiftRight_le x s) hx

variable {W : Valuation τ sig (Elt F)} {i : S100000.Idx}

/-- A sum of words. -/
theorem add_at {X Y S : Vec} (h : rd S W = addi (rd X W : IVec S100000 32) (rd Y W)) {a b : ℕ}
    (ha : At W i X a) (hb : At W i Y b) : At W i S (addN a b) := by
  have e : (rd S W i : BitVec 32) = (rd X W i : BitVec 32) + (rd Y W i : BitVec 32) := congrFun h i
  have e2 := congrArg BitVec.toNat e
  rw [BitVec.toNat_add] at e2
  unfold At at *
  rw [addN_eq, e2, ha, hb]

/-- A single word at every item. -/
theorem bc_at {B : Vec} {C : One} (hb : rd B W = broadcastInDim S100000 ![] bcast_S_S100000 (rd C W : IVec S_ 32)) {n : ℕ}
    (hc : Is W C n) : At W i B n := by
  unfold At
  rw [hb]
  exact hc _

theorem const_is {C : One} {r : ℕ} (hr : r < 2 ^ 32) (h : rd C W = constantI S_ 32 (BitVec.ofNat 32 r)) : Is W C r := by
  intro i
  rw [h]
  exact (BitVec.toNat_ofNat r 32).trans (Nat.mod_eq_of_lt hr)

/-- A shift to the left, to the right. -/
theorem shl_at {X B S : Vec} (h : rd S W = Host.shli (rd X W : IVec S100000 32) (rd B W)) {a r : ℕ} (hr : r < 32)
    (ha : At W i X a) (hb : At W i B r) : At W i S ((a <<< r) % 2 ^ 32) := by
  have e : (rd S W i : BitVec 32) = IntOp.shli .host (rd X W i : BitVec 32) (rd B W i : BitVec 32) := congrFun h i
  unfold At at *
  rw [e, IntOp.shli, if_pos (by rw [hb]; exact hr), BitVec.shiftLeft_eq', BitVec.toNat_shiftLeft, ha, hb]

theorem shr_at {X B S : Vec} (h : rd S W = Host.shrui (rd X W : IVec S100000 32) (rd B W)) {a r : ℕ} (hr : r < 32)
    (ha : At W i X a) (hb : At W i B r) : At W i S (a >>> r) := by
  have e : (rd S W i : BitVec 32) = IntOp.shrui .host (rd X W i : BitVec 32) (rd B W i : BitVec 32) := congrFun h i
  unfold At at *
  rw [e, IntOp.shrui, if_pos (by rw [hb]; exact hr), BitVec.ushiftRight_eq', BitVec.toNat_ushiftRight, ha, hb]

theorem or_at {X Y S : Vec} (h : rd S W = ori (rd X W : IVec S100000 32) (rd Y W)) {a b : ℕ}
    (ha : At W i X a) (hb : At W i Y b) : At W i S (a ||| b) := by
  have e : (rd S W i : BitVec 32) = (rd X W i : BitVec 32) ||| (rd Y W i : BitVec 32) := congrFun h i
  have e2 := congrArg BitVec.toNat e
  rw [BitVec.toNat_or] at e2
  unfold At at *
  rw [e2, ha, hb]

theorem xor_at {X Y S : Vec} (h : rd S W = xori (rd X W : IVec S100000 32) (rd Y W)) {a b : ℕ}
    (ha : At W i X a) (hb : At W i Y b) : At W i S (a ^^^ b) := by
  have e : (rd S W i : BitVec 32) = (rd X W i : BitVec 32) ^^^ (rd Y W i : BitVec 32) := congrFun h i
  have e2 := congrArg BitVec.toNat e
  rw [BitVec.toNat_xor] at e2
  unfold At at *
  rw [e2, ha, hb]

theorem At.lt {t : Vec} {n : ℕ} (h : At W i t n) : n < 2 ^ 32 := by
  unfold At at h; rw [← h]; exact BitVec.isLt _

/-- One round. -/
theorem rnd_go {X Y S B1 L B2 R O Z : Vec} {C1 C2 : One} {r s : ℕ}
    (hS : rd S W = addi (rd X W : IVec S100000 32) (rd Y W))
    (hC1 : rd C1 W = constantI S_ 32 (BitVec.ofNat 32 r))
    (hB1 : rd B1 W = broadcastInDim S100000 ![] bcast_S_S100000 (rd C1 W : IVec S_ 32))
    (hL : rd L W = Host.shli (rd Y W : IVec S100000 32) (rd B1 W))
    (hC2 : rd C2 W = constantI S_ 32 (BitVec.ofNat 32 s))
    (hB2 : rd B2 W = broadcastInDim S100000 ![] bcast_S_S100000 (rd C2 W : IVec S_ 32))
    (hR : rd R W = Host.shrui (rd Y W : IVec S100000 32) (rd B2 W))
    (hO : rd O W = ori (rd L W : IVec S100000 32) (rd R W))
    (hZ : rd Z W = xori (rd S W : IVec S100000 32) (rd O W))
    (hrs : s + r = 32) (hr : 0 < r ∧ 0 < s) {a b : ℕ} (hX : At W i X a) (hY : At W i Y b)
    {Q : ℕ → Prop} {k : ℕ → ℕ → ℕ} (hk : ∀ a' b', At W i S a' → At W i Z b' → Q (k a' b')) : Q (rndN r a b k) := by
  have hS' := add_at hS hX hY
  have hL' := shl_at hL (by omega) hY (bc_at hB1 (const_is (by omega) hC1))
  have hR' := shr_at hR (by omega) hY (bc_at hB2 (const_is (by omega) hC2))
  have hO' := or_at hO hL' hR'
  rw [← rotN_eq b r s hrs hY.lt] at hO'
  have hZ' := xor_at hZ hS' hO'
  rw [Nat.xor_comm] at hZ'
  exact hk _ _ hS' hZ'

/-- The key words added between the rounds, and the count of the group. -/
theorem inj_at {X Y B1 X' B2 Y1 B3 Y' : Vec} {K0 K1 C : One} {c : ℕ}
    (hB1 : rd B1 W = broadcastInDim S100000 ![] bcast_S_S100000 (rd K0 W : IVec S_ 32))
    (hX' : rd X' W = addi (rd X W : IVec S100000 32) (rd B1 W))
    (hB2 : rd B2 W = broadcastInDim S100000 ![] bcast_S_S100000 (rd K1 W : IVec S_ 32))
    (hY1 : rd Y1 W = addi (rd Y W : IVec S100000 32) (rd B2 W))
    (hC : rd C W = constantI S_ 32 (BitVec.ofNat 32 c))
    (hB3 : rd B3 W = broadcastInDim S100000 ![] bcast_S_S100000 (rd C W : IVec S_ 32))
    (hY' : rd Y' W = addi (rd Y1 W : IVec S100000 32) (rd B3 W))
    {k0 k1 : ℕ} (hK0 : Is W K0 k0) (hK1 : Is W K1 k1) (hc : c < 2 ^ 32) {a b : ℕ} (hX : At W i X a) (hY : At W i Y b) :
    At W i X' (addN a k0) ∧ At W i Y' (addN b (k1 + c)) := by
  refine ⟨add_at hX' hX (bc_at hB1 hK0), ?_⟩
  have h := add_at hY' (add_at hY1 hY (bc_at hB2 hK1)) (bc_at hB3 (const_is hc hC))
  have e : addN (addN b k1) c = addN b (k1 + c) := by
    rw [addN_eq, addN_eq, addN_eq]; omega
  rwa [e] at h

/-- The first words: the counter's high word is zero, its low word the item's number. -/
theorem start_at {X Y B0 X' B1 Y' : Vec} {K0 K1 : One}
    (hB0 : rd B0 W = broadcastInDim S100000 ![] bcast_S_S100000 (rd K0 W : IVec S_ 32))
    (hX' : rd X' W = addi (rd X W : IVec S100000 32) (rd B0 W))
    (hB1 : rd B1 W = broadcastInDim S100000 ![] bcast_S_S100000 (rd K1 W : IVec S_ 32))
    (hY' : rd Y' W = addi (rd Y W : IVec S100000 32) (rd B1 W)) {n : ℕ} (hn : n < 100000)
    (hX : At W i X 0) (hY : At W i Y n) (hK0 : Is W K0 0) (hK1 : Is W K1 42) :
    At W i X' 0 ∧ At W i Y' (Nat.add n 42) := by
  have h0 := add_at hX' hX (bc_at hB0 hK0)
  have h1 := add_at hY' hY (bc_at hB1 hK1)
  have e0 : addN 0 0 = 0 := by decide
  have e1 : addN n 42 = Nat.add n 42 := by
    rw [addN_eq]; show (n + 42) % 2 ^ 32 = n + 42; omega
  rw [e0] at h0
  rw [e1] at h1
  exact ⟨h0, h1⟩

/-- The third key word. -/
theorem key_is {A B V C K : One} (hV : rd V W = xori (rd A W : IVec S_ 32) (rd B W))
    (hC : rd C W = constantI S_ 32 466688986#32) (hK : rd K W = xori (rd V W : IVec S_ 32) (rd C W))
    (hA : Is W A 0) (hB : Is W B 42) : Is W K 466689008 := by
  intro i
  have e : (rd K W i : BitVec 32) = ((rd A W i : BitVec 32) ^^^ (rd B W i : BitVec 32)) ^^^ 466688986#32 := by
    rw [hK]
    show (rd V W i : BitVec 32) ^^^ (rd C W i : BitVec 32) = _
    rw [hV, hC]; rfl
  have e2 := congrArg BitVec.toNat e
  rw [BitVec.toNat_xor, BitVec.toNat_xor, hA i, hB i] at e2
  exact e2

set_option maxHeartbeats 4000000 in
/-- The whole generator at one item. -/
theorem three_at {arg0 arg1 : One} {arg2 arg3 : Vec} {φ : fn_threefry2x32.Bufs}
    (h : Eqns W (three arg0 arg1 arg2 arg3 φ)) {n : ℕ} (hn : n < 100000)
    (hk0 : Is W arg0 0) (hk1 : Is W arg1 42) (hx : At W i arg2 0) (hy : At W i arg3 n)
    {Q : ℕ → Prop} (hQ : ∀ a b, At W i φ.v171 a → At W i φ.v175 b → Q (Nat.xor a b)) : Q (bitsN n) := by
  obtain ⟨e0, e⟩ := eqns_append W _ _ h
  obtain ⟨e1, e⟩ := eqns_append W _ _ e
  obtain ⟨e2, e3⟩ := eqns_append W _ _ e
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, -⟩ := e0
  obtain ⟨h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102, h103, h104, h105, h106, h107, h108, h109, h110, h111, h112, h113, h114, h115, h116, h117, h118, h119, -⟩ := e1
  obtain ⟨h120, h121, h122, h123, h124, h125, h126, h127, h128, h129, h130, h131, h132, h133, h134, h135, h136, h137, h138, h139, h140, h141, h142, h143, h144, h145, h146, h147, h148, h149, h150, h151, h152, h153, h154, h155, h156, h157, h158, h159, h160, h161, h162, h163, h164, h165, h166, h167, h168, h169, h170, h171, h172, h173, h174, h175, h176, h177, h178, h179, -⟩ := e2
  obtain ⟨h180, h181, h182, h183, h184, h185, h186, h187, h188, h189, h190, h191, h192, h193, h194, h195, h196, h197, h198, h199, h200, h201, h202, h203, h204, h205, h206, h207, h208, h209, h210, h211, h212, h213, h214, h215, h216, h217, h218, h219, h220, h221, -⟩ := e3
  have hk2 := key_is h0 h1 h2 hk0 hk1
  unfold bitsN
  have ⟨hA, hB⟩ := start_at h3 h4 h5 h6 hn hx hy hk0 hk1
  unfold oddN
  refine rnd_go h7 h8 h9 h10 h11 h12 h13 h14 h15 (by decide) (by decide) hA hB fun a b hA hB => ?_
  refine rnd_go h16 h17 h18 h19 h20 h21 h22 h23 h24 (by decide) (by decide) hA hB fun a b hA hB => ?_
  refine rnd_go h25 h26 h27 h28 h29 h30 h31 h32 h33 (by decide) (by decide) hA hB fun a b hA hB => ?_
  refine rnd_go h34 h35 h36 h37 h38 h39 h40 h41 h42 (by decide) (by decide) hA hB fun a b hA hB => ?_
  have ⟨hA, hB⟩ := inj_at h43 h44 h45 h46 h47 h48 h49 hk1 hk2 (by decide) hA hB
  unfold evenN
  refine rnd_go h50 h51 h52 h53 h54 h55 h56 h57 h58 (by decide) (by decide) hA hB fun a b hA hB => ?_
  refine rnd_go h59 h60 h61 h62 h63 h64 h65 h66 h67 (by decide) (by decide) hA hB fun a b hA hB => ?_
  refine rnd_go h68 h69 h70 h71 h72 h73 h74 h75 h76 (by decide) (by decide) hA hB fun a b hA hB => ?_
  refine rnd_go h77 h78 h79 h80 h81 h82 h83 h84 h85 (by decide) (by decide) hA hB fun a b hA hB => ?_
  have ⟨hA, hB⟩ := inj_at h86 h87 h88 h89 h90 h91 h92 hk2 hk0 (by decide) hA hB
  refine rnd_go h93 h94 h95 h96 h97 h98 h99 h100 h101 (by decide) (by decide) hA hB fun a b hA hB => ?_
  refine rnd_go h102 h103 h104 h105 h106 h107 h108 h109 h110 (by decide) (by decide) hA hB fun a b hA hB => ?_
  refine rnd_go h111 h112 h113 h114 h115 h116 h117 h118 h119 (by decide) (by decide) hA hB fun a b hA hB => ?_
  refine rnd_go h120 h121 h122 h123 h124 h125 h126 h127 h128 (by decide) (by decide) hA hB fun a b hA hB => ?_
  have ⟨hA, hB⟩ := inj_at h129 h130 h131 h132 h133 h134 h135 hk0 hk1 (by decide) hA hB
  refine rnd_go h136 h137 h138 h139 h140 h141 h142 h143 h144 (by decide) (by decide) hA hB fun a b hA hB => ?_
  refine rnd_go h145 h146 h147 h148 h149 h150 h151 h152 h153 (by decide) (by decide) hA hB fun a b hA hB => ?_
  refine rnd_go h154 h155 h156 h157 h158 h159 h160 h161 h162 (by decide) (by decide) hA hB fun a b hA hB => ?_
  refine rnd_go h163 h164 h165 h166 h167 h168 h169 h170 h171 (by decide) (by decide) hA hB fun a b hA hB => ?_
  have ⟨hA, hB⟩ := inj_at h172 h173 h174 h175 h176 h177 h178 hk1 hk2 (by decide) hA hB
  refine rnd_go h179 h180 h181 h182 h183 h184 h185 h186 h187 (by decide) (by decide) hA hB fun a b hA hB => ?_
  refine rnd_go h188 h189 h190 h191 h192 h193 h194 h195 h196 (by decide) (by decide) hA hB fun a b hA hB => ?_
  refine rnd_go h197 h198 h199 h200 h201 h202 h203 h204 h205 (by decide) (by decide) hA hB fun a b hA hB => ?_
  refine rnd_go h206 h207 h208 h209 h210 h211 h212 h213 h214 (by decide) (by decide) hA hB fun a b hA hB => ?_
  have ⟨hA, hB⟩ := inj_at h215 h216 h217 h218 h219 h220 h221 hk2 hk0 (by decide) hA hB
  exact hQ _ _ hA hB

end Cert.Proof.Three

end
-- ==== Proof.Score.lean ====
/-
  The reference's scores over the extended reals: at item `x`, the upper 23 bits of the generator's word, over their
  number. The key's words are 0 and 42, the counter is the item's number.
-/
module

public import proofs.«01_k».proof.Proof.Three
public import Idealize.ShloMosaic.PureOps.Ideal
public import Idealize.ShloMosaic.PureOps.Ideal.Laws
public import Idealize.ShloMosaic.Lib.IdealHost

@[expose] public section

set_option maxRecDepth 4000

namespace Cert.Proof.Score

open Idealize.ShloMosaic Idealize.ShloMosaic.StableHlo
open Cert.ReferenceIdeal Cert.ReferenceIdeal.Facts₀ Cert.Proof.Ssa Cert.Proof.Ref Cert.Proof.Key Cert.Proof.Three

section
variable {F : FTy → Type} [FloatOps F] {W : Valuation τ sig (Elt F)} {i : S100000.Idx}

/-- A key's word, sliced out and made a single word. -/
theorem key_word {B : TRef sig ⟨S1, .i32⟩} {C : One} {n : ℕ}
    (hC : rd C W = fun j => shapeCast S_ (rd B W : IVec S1 32) shapeCasts_S1_S_ j)
    (hB : ∀ j : S1.Idx, BitVec.toNat (rd B W j : BitVec 32) = n) : Is W C n := by
  intro j
  rw [hC]
  exact hB _

/-- The counter: the item's number as 64 bits, and its two halves. -/
theorem count_at {I M1 M T L H : TRef sig ⟨S100000, .i64⟩} {C1 C2 : TRef sig ⟨S_, .i64⟩} {lo hi : Vec}
    (hI : rd I W = iotaInDim S100000 64 0) (hC1 : rd C1 W = constantI S_ 64 1#64)
    (hM1 : rd M1 W = broadcastInDim S100000 ![] bcast_S_S100000 (rd C1 W : IVec S_ 64))
    (hM : rd M W = muli (rd M1 W : IVec S100000 64) (rd I W))
    (hC2 : rd C2 W = constantI S_ 64 32#64)
    (hT : rd T W = broadcastInDim S100000 ![] bcast_S_S100000 (rd C2 W : IVec S_ 64))
    (hH : rd H W = Host.shrui (rd M W : IVec S100000 64) (rd T W))
    (hlo : rd lo W = trunci 32 (rd M W : IVec S100000 64) natLt_32_64)
    (hhi : rd hi W = trunci 32 (rd H W : IVec S100000 64) natLt_32_64) :
    At W i hi 0 ∧ At W i lo (i 0).val := by
  have hi' : (i 0).val < 100000 := (i 0).isLt
  have eM : (rd M W i : BitVec 64) = 1#64 * BitVec.ofNat 64 (i 0).val := by
    rw [hM]
    show (rd M1 W i : BitVec 64) * (rd I W i : BitVec 64) = _
    rw [hM1, hI]
    show (rd C1 W _ : BitVec 64) * _ = _
    rw [hC1]; rfl
  have eMn : BitVec.toNat (rd M W i : BitVec 64) = (i 0).val := by
    rw [eM, BitVec.toNat_mul, BitVec.toNat_ofNat, BitVec.toNat_ofNat]
    generalize (i 0).val = n at hi'
    omega
  have eT : (rd T W i : BitVec 64) = 32#64 := by
    rw [hT]
    show (rd C2 W _ : BitVec 64) = _
    rw [hC2]; rfl
  have eH : BitVec.toNat (rd H W i : BitVec 64) = (i 0).val >>> 32 := by
    rw [hH]
    show BitVec.toNat (IntOp.shrui .host (rd M W i : BitVec 64) (rd T W i : BitVec 64)) = _
    rw [eT, IntOp.shrui, if_pos (by decide), BitVec.ushiftRight_eq', BitVec.toNat_ushiftRight, eMn]; rfl
  constructor
  · unfold At
    rw [hhi]
    show BitVec.toNat (BitVec.setWidth 32 (rd H W i : BitVec 64)) = 0
    rw [BitVec.toNat_setWidth, eH, Nat.shiftRight_eq_div_pow]
    generalize (i 0).val = n at hi'
    omega
  · unfold At
    rw [hlo]
    show BitVec.toNat (BitVec.setWidth 32 (rd M W i : BitVec 64)) = _
    rw [BitVec.toNat_setWidth, eMn]
    generalize (i 0).val = n at hi'
    omega

theorem mantN_lt {t : Vec} {x : ℕ}
    (h : At W i t (bitsN x)) : mantN x < 2 ^ 23 := by
  have h2 := h.lt
  show bitsN x >>> 9 < 2 ^ 23
  rw [Nat.shiftRight_eq_div_pow]
  generalize bitsN x = b at h2
  omega

/-- The generator's word at an item. -/
theorem bits_at {a0 : TRef sig ⟨S2, .i32⟩} {a1 a2 : TRef sig ⟨S_, .f32⟩} {φ : fn_uniform.Bufs}
    (h : Eqns W (uni a0 a1 a2 φ))
    (hkey : ∀ k : S2.Idx, BitVec.toNat (rd a0 W k : BitVec 32) = if (k 0).val = 0 then 0 else 42) :
    At W i φ.v20 (mantN (i 0).val ||| 1065353216) ∧ mantN (i 0).val < 2 ^ 23 := by
  obtain ⟨hA, h⟩ := eqns_append W _ _ h
  obtain ⟨hT, hB⟩ := eqns_append W _ _ h
  obtain ⟨-, -, -, -, h4, h5, h6, h7, h8, h9, h10, h11, h12, h13, h14, h15, h16, -⟩ := hA
  obtain ⟨g0, g1, g2, g3, g4, g5, g6, -⟩ := hB
  have hk0 : Is W φ.v5 0 := key_word h5 fun j => by
    have hj : (j 0).val < 1 := (j 0).isLt
    rw [h4]
    refine (hkey _).trans (if_pos ?_)
    show 0 + (j 0).val = 0
    omega
  have hk1 : Is W φ.v7 42 := key_word h7 fun j => by
    rw [h6]
    refine (hkey _).trans (if_neg ?_)
    show ¬ 1 + (j 0).val = 0
    omega
  have hc := count_at (i := i) (L := φ.v12) h8 h9 h10 h11 h12 h13 h14 h15 h16
  have hw : At W i φ.v16 (bitsN (i 0).val) :=
    three_at (Q := fun n => At W i φ.v16 n) hT (i 0).isLt hk0 hk1 hc.1 hc.2 fun a b ha hb => xor_at g0 ha hb
  have hs : At W i φ.v18 (mantN (i 0).val) := shr_at g3 (by decide) hw (bc_at g2 (const_is (by decide) g1))
  exact ⟨or_at g6 hs (bc_at g5 (const_is (by decide) g4)), mantN_lt hw⟩

end

/-- A float with exponent zero: one and the fraction. -/
theorem ieee_one (w : BitVec 32) (n : ℕ) (hn : n < 2 ^ 23) (hw : w.toNat = n ||| 1065353216) :
    Ideal.ofBits .f32 w = ((1 + (n : ℝ) / 8388608 : ℝ) : EReal) := by
  have e : n ||| 1065353216 = 1065353216 + n := by
    rw [Nat.or_comm, Nat.two_pow_add_eq_or_of_lt (i := 23) hn 127]
  rw [e] at hw
  have h1 : (w.extractLsb' 31 1 == 1#1) = false := by
    have : (w.extractLsb' 31 1).toNat = 0 := by
      rw [BitVec.extractLsb'_toNat, hw, Nat.shiftRight_eq_div_pow]; omega
    rw [BitVec.eq_of_toNat_eq (y := 0#1) this]; rfl
  have h2 : (w.extractLsb' 23 8).toNat = 127 := by
    rw [BitVec.extractLsb'_toNat, hw, Nat.shiftRight_eq_div_pow]; omega
  have h3 : (w.extractLsb' 0 23).toNat = n := by
    rw [BitVec.extractLsb'_toNat, hw, Nat.shiftRight_eq_div_pow]; omega
  show Ideal.ieee 8 23 w = _
  unfold Ideal.ieee
  simp only [show 8 + 23 = 31 from rfl, h1, h2, h3]
  rw [if_neg (by decide), if_neg (by decide)]
  congr 1
  push_cast
  norm_num
  ring

/-- The score at an item. -/
theorem score_at {W : Valuation τ sig (Elt Ideal)} {a0 : TRef sig ⟨S2, .i32⟩} {a1 a2 : TRef sig ⟨S_, .f32⟩} {φ : fn_uniform.Bufs}
    (h : Eqns W (uni a0 a1 a2 φ))
    (hkey : ∀ k : S2.Idx, BitVec.toNat (rd a0 W k : BitVec 32) = if (k 0).val = 0 then 0 else 42)
    (hlo : ∀ k : S_.Idx, (rd a1 W k : EReal) = 0) (hhi : ∀ k : S_.Idx, (rd a2 W k : EReal) = 1) (i : S100000.Idx) :
    (rd φ.v30 W i : EReal) = (((mantN (i 0).val : ℝ) / 8388608 : ℝ) : EReal) := by
  obtain ⟨hb, hm⟩ := bits_at (i := i) h hkey
  obtain ⟨hA, h⟩ := eqns_append W _ _ h
  obtain ⟨-, hB⟩ := eqns_append W _ _ h
  obtain ⟨h0, h1, h2, h3, -⟩ := hA
  obtain ⟨-, -, -, -, -, -, -, g7, g8, g9, g10, g11, g12, g13, g14, g15, g16, g17, -⟩ := hB
  have elo : ∀ k : S1.Idx, (rd φ.v2 W k : EReal) = 0 := fun k => by
    have e : (rd φ.v2 W k : EReal) = rd φ.v0 W _ := congrFun h2 k
    rw [e, h0]; exact hlo _
  have ehi : ∀ k : S1.Idx, (rd φ.v3 W k : EReal) = 1 := fun k => by
    have e : (rd φ.v3 W k : EReal) = rd φ.v1 W _ := congrFun h3 k
    rw [e, h1]; exact hhi _
  have e21 : (rd φ.v21 W i : EReal) = ((1 + (mantN (i 0).val : ℝ) / 8388608 : ℝ) : EReal) :=
    (congrFun g7 i).trans (ieee_one _ _ hm hb)
  have e22 : (rd φ.v22 W i : EReal) = 1 := by
    have e : (rd φ.v22 W i : EReal) = rd φ.cst W _ := congrFun g9 i
    rw [e, g8]
    exact Ideal.ofBits_one_f32
  have e23 : (rd φ.v23 W i : EReal) = (((mantN (i 0).val : ℝ) / 8388608 : ℝ) : EReal) := by
    have e : (rd φ.v23 W i : EReal) = (rd φ.v21 W i : EReal) - (rd φ.v22 W i : EReal) := congrFun g10 i
    rw [e, e21, e22, ← EReal.coe_one, ← EReal.coe_sub]
    congr 1; ring
  have e24 : ∀ k : S1.Idx, (rd φ.v24 W k : EReal) = 1 := fun k => by
    have e : (rd φ.v24 W k : EReal) = (rd φ.v3 W k : EReal) - (rd φ.v2 W k : EReal) := congrFun g11 k
    rw [e, elo, ehi, sub_zero]
  have e25 : (rd φ.v25 W i : EReal) = 1 := by
    have e : (rd φ.v25 W i : EReal) = rd φ.v24 W _ := congrFun g12 i
    rw [e]; exact e24 _
  have e27 : (rd φ.v27 W i : EReal) = 0 := by
    have e : (rd φ.v27 W i : EReal) = rd φ.v2 W _ := congrFun g14 i
    rw [e]; exact elo _
  have e29 : (rd φ.v29 W i : EReal) = 0 := by
    have e : (rd φ.v29 W i : EReal) = rd φ.v2 W _ := congrFun g16 i
    rw [e]; exact elo _
  have e26 : (rd φ.v26 W i : EReal) = (rd φ.v23 W i : EReal) * (rd φ.v25 W i : EReal) := congrFun g13 i
  have e28 : (rd φ.v28 W i : EReal) = (rd φ.v26 W i : EReal) + (rd φ.v27 W i : EReal) := congrFun g15 i
  have e30 : (rd φ.v30 W i : EReal) = max (rd φ.v29 W i : EReal) (rd φ.v28 W i : EReal) := congrFun g17 i
  rw [e30, e28, e26, e23, e25, e27, e29, mul_one, add_zero]
  refine max_eq_right ?_
  rw [← EReal.coe_zero, EReal.coe_le_coe_iff]
  positivity

end Cert.Proof.Score

end
-- ==== Proof.Choose.lean ====
/-
  Which items a stable selection of the 4096 greatest scores takes, when the named items' scores are below every other:
  the unmarked entries of the prefix, in the order of their ranks. Among the 8192 ranks at most 4096 are marked, so the
  unmarked ones reach; the keys fall with the rank, and an item outside the prefix has a smaller key than all of it.
-/
module

public import proofs.«01_k».proof.Proof.Steps
public import Idealize.ShloMosaic.Lib.SortPrefix
public import Idealize.ShloMosaic.PureOps.Ideal

@[expose] public section

noncomputable section

namespace Cert.Proof.Choose

open Idealize.ShloMosaic
open Cert.KernelIdeal Cert.Proof.Tab Cert.Proof.Steps Cert.Proof.Key

/-! ## Ranks and slots -/

theorem posN_eq (j : ℕ) : posN j = 16 * (j % 512) + j / 512 := rfl

theorem posN_lt {j : ℕ} (h : j < 8192) : posN j < 8192 := by rw [posN_eq]; omega
theorem posN_inj {i j : ℕ} (hi : i < 8192) (hj : j < 8192) (h : posN i = posN j) : i = j := by
  rw [posN_eq, posN_eq] at h; omega
theorem posN_surj {s : ℕ} (h : s < 8192) : ∃ j, j < 8192 ∧ posN j = s :=
  ⟨512 * (s % 16) + s / 16, by omega, by rw [posN_eq]; omega⟩

/-- One of the items is `x`. -/
def hitN (it : S4096.Idx → BitVec 32) (x : ℕ) : Prop := ∃ i : S4096.Idx, (it i).toNat = x

section
variable {it : S4096.Idx → BitVec 32}

theorem pref_lt {j : ℕ} (hj : j < 8192) : prefN j < 100000 := (slot_item (posN j) (posN_lt hj)).1

/-- A rank is marked when its item is named. -/
theorem marked_iff (hit : ∀ i, (it i).toNat < 100000) {j : ℕ} (hj : j < 8192) :
    marked it 4096 (posN j) ↔ hitN it (prefN j) := by
  constructor
  · rintro ⟨i, -, h⟩
    refine ⟨i, ?_⟩
    rcases item_slot _ (hit i) with h' | h'
    · have := posN_lt hj; omega
    · rw [h] at h'; exact h'.2.symm
  · rintro ⟨i, h⟩
    exact ⟨i, (i 0).isLt, by rw [h]; exact (slot_item (posN j) (posN_lt hj)).2⟩

/-! ## There are enough -/

/-- The slot of the `k`-th item. -/
def slotAt (it : S4096.Idx → BitVec 32) (k : Fin 4096) : ℕ := slotN (it (Shape.ofLane (d := ![4096]) k)).toNat

open Classical in
theorem count_le (it : S4096.Idx → BitVec 32) (j : ℕ) (hj : j ≤ 8192) :
    j ≤ U it j + (Finset.univ.filter fun k : Fin 4096 => ∃ r, r < j ∧ slotAt it k = posN r).card := by
  induction j with
  | zero => omega
  | succ j ih =>
    have ih := ih (by omega)
    have hsub : (Finset.univ.filter fun k : Fin 4096 => ∃ r, r < j ∧ slotAt it k = posN r)
        ⊆ (Finset.univ.filter fun k : Fin 4096 => ∃ r, r < j + 1 ∧ slotAt it k = posN r) := by
      intro k hk
      obtain ⟨r, hr, e⟩ := (Finset.mem_filter.mp hk).2
      exact Finset.mem_filter.mpr ⟨Finset.mem_univ _, r, by omega, e⟩
    by_cases h : marked it 4096 (posN j)
    · rw [U_succ_marked h]
      obtain ⟨i, -, hi⟩ := h
      have hs : (Finset.univ.filter fun k : Fin 4096 => ∃ r, r < j ∧ slotAt it k = posN r)
          ⊂ (Finset.univ.filter fun k : Fin 4096 => ∃ r, r < j + 1 ∧ slotAt it k = posN r) := by
        refine (Finset.ssubset_iff_of_subset hsub).mpr ⟨(i 0 : Fin 4096), ?_, ?_⟩
        · refine Finset.mem_filter.mpr ⟨Finset.mem_univ _, j, by omega, ?_⟩
          have : Shape.ofLane (d := ![4096]) (i 0) = i := idx1 rfl
          unfold slotAt; rw [this]; exact hi
        · intro hk
          obtain ⟨r, hr, e⟩ := (Finset.mem_filter.mp hk).2
          have : Shape.ofLane (d := ![4096]) (i 0) = i := idx1 rfl
          unfold slotAt at e; rw [this, hi] at e
          have := posN_inj (by omega) (by omega) e
          omega
      have := Finset.card_lt_card hs
      omega
    · rw [U_succ_unmarked h]
      have := Finset.card_le_card hsub
      omega

theorem U_big (it : S4096.Idx → BitVec 32) : 4096 ≤ U it 8192 := by
  classical
  have h := count_le it 8192 (le_refl _)
  have h2 := h.trans (Nat.add_le_add_left (Finset.card_filter_le _ _) _)
  rw [Finset.card_univ, Fintype.card_fin] at h2
  omega

/-- Each of the first 4096 places has its unmarked rank. -/
theorem exists_rank (it : S4096.Idx → BitVec 32) {p : ℕ} (hp : p < 4096) :
    ∃ j, j < 8192 ∧ ¬ marked it 4096 (posN j) ∧ U it j = p := by
  classical
  have hex : ∃ j, p < U it j := ⟨8192, lt_of_lt_of_le hp (U_big it)⟩
  have hle : Nat.find hex ≤ 8192 := Nat.find_min' hex (lt_of_lt_of_le hp (U_big it))
  have hsp := Nat.find_spec hex
  obtain ⟨j, hj⟩ : ∃ j, Nat.find hex = j + 1 := by
    refine ⟨Nat.find hex - 1, ?_⟩
    have : Nat.find hex ≠ 0 := fun h => by rw [h, U] at hsp; omega
    omega
  have hmin : U it j ≤ p := by
    have := Nat.find_min hex (m := j) (by omega)
    omega
  rw [hj] at hsp hle
  by_cases h : marked it 4096 (posN j)
  · rw [U_succ_marked h] at hsp; omega
  · rw [U_succ_unmarked h] at hsp
    exact ⟨j, by omega, h, by omega⟩

/-- The rank at place `p`. -/
def rank (it : S4096.Idx → BitVec 32) (p : Fin 4096) : ℕ := (exists_rank it p.isLt).choose
theorem rank_lt8 (p : Fin 4096) : rank it p < 8192 := (exists_rank it p.isLt).choose_spec.1
theorem rank_unmarked (p : Fin 4096) : ¬ marked it 4096 (posN (rank it p)) := (exists_rank it p.isLt).choose_spec.2.1
theorem rank_U (p : Fin 4096) : U it (rank it p) = p.val := (exists_rank it p.isLt).choose_spec.2.2

theorem rank_eq {p : Fin 4096} {j : ℕ} (hm : ¬ marked it 4096 (posN j)) (hU : U it j = p.val) : rank it p = j :=
  U_inj (rank_unmarked p) hm ((rank_U p).trans hU.symm)

/-- The item at place `p`. -/
def pick (it : S4096.Idx → BitVec 32) (p : Fin 4096) : Fin 100000 := ⟨prefN (rank it p), pref_lt (rank_lt8 p)⟩

theorem pick_key {p q : Fin 4096} (h : p < q) : keyN (pick it q).val < keyN (pick it p).val := by
  have : rank it p < rank it q := by
    by_contra hn
    have := U_mono it (Nat.le_of_not_lt hn)
    rw [rank_U, rank_U] at this
    have : p.val < q.val := h
    omega
  exact Cert.Proof.Tab.rank_lt _ _ this (rank_lt8 q)

theorem pick_inj : Function.Injective (pick it) := by
  intro p q h
  rcases lt_trichotomy p q with h' | h' | h'
  · exact absurd (h ▸ pick_key (it := it) h') (lt_irrefl _)
  · exact h'
  · exact absurd (h ▸ pick_key (it := it) h') (lt_irrefl _)

theorem pick_free (hit : ∀ i, (it i).toNat < 100000) (p : Fin 4096) : ¬ hitN it (pick it p).val :=
  fun h => rank_unmarked p ((marked_iff hit (rank_lt8 p)).mpr h)

/-- An item that is neither named nor taken comes after every one taken. -/
theorem pick_dom (hit : ∀ i, (it i).toNat < 100000) (x : Fin 100000) (hx : ¬ hitN it x.val)
    (hn : ∀ q, pick it q ≠ x) (p : Fin 4096) : keyN x.val < keyN (pick it p).val := by
  have hp := rank_lt8 (it := it) p
  rcases item_slot x.val x.isLt with h | h
  · rcases Nat.lt_or_ge (rank it p) 8191 with h' | h'
    · exact h.2.trans (Cert.Proof.Tab.rank_lt _ _ h' (by omega))
    · have e : rank it p = 8191 := by omega
      have : (pick it p).val = prefN 8191 := congrArg prefN e
      rw [this]; exact h.2
  · obtain ⟨j, hj, e⟩ := posN_surj h.1
    have ej : prefN j = x.val := by rw [← h.2, ← e]; rfl
    have hm : ¬ marked it 4096 (posN j) := fun hm => hx (ej ▸ (marked_iff hit hj).mp hm)
    have hU : 4096 ≤ U it j := by
      by_contra hlt
      refine hn ⟨U it j, by omega⟩ (Fin.ext ?_)
      have : rank it ⟨U it j, by omega⟩ = j := rank_eq hm rfl
      exact (congrArg prefN this).trans ej
    have hlt : rank it p < j := by
      by_contra hge
      have := U_mono it (Nat.le_of_not_lt hge)
      rw [rank_U] at this
      have := p.isLt
      omega
    rw [← ej]
    exact Cert.Proof.Tab.rank_lt _ _ hlt hj

theorem key_split {x y : ℕ} (hx : x < 100000) (hy : y < 100000) (h : keyN x < keyN y) :
    mantN x < mantN y ∨ (mantN x = mantN y ∧ y < x) := by
  have ex : ∀ z, keyN z = mantN z * 131072 + (131071 - z) := fun _ => rfl
  rw [ex, ex] at h
  generalize mantN x = a at h ⊢
  generalize mantN y = b at h ⊢
  omega

/-! ## The stable selection -/

theorem stableSort_congr_lt {n : ℕ} (R R' : Fin n → Fin n → Bool) (h : ∀ a b : Fin n, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_congr_lt {n : ℕ} (R R' : Fin n → Fin n → Bool) (h : ∀ a b : Fin n, a < b → R b a = R' b a) :
    sortedFrom R = sortedFrom R' := by
  funext k
  unfold sortedFrom
  rw [List.get_of_eq (show sortPositions n R = sortPositions n R' from
    stableSort_congr_lt R R' h _ (List.pairwise_lt_finRange n))]
  rfl

/-- The selection's order: greater first. -/
def more (x : Fin 100000 → EReal) (a b : Fin 100000) : Bool :=
  FloatOps.cmpfTotal (F := Ideal) (φ := .f32) .gt (x a) (x b) == 1#1

theorem more_eq (x : Fin 100000 → EReal) (a b : Fin 100000) : more x a b = decide (x b < x a) := by
  show (BitVec.ofBool (decide (x b < x a)) == 1#1) = _
  cases decide (x b < x a) <;> rfl

/-- The scores: the lowest at a named item, its generator word's upper 23 bits over their number elsewhere. -/
structure Scores (it : S4096.Idx → BitVec 32) (x : Fin 100000 → EReal) : Prop where
  low : ∀ i, hitN it i.val → x i = ⊥
  free : ∀ i, ¬ hitN it i.val → x i = (((mantN i.val : ℝ) / 8388608 : ℝ) : EReal)

theorem sorted_pick (hit : ∀ i, (it i).toNat < 100000) (x : Fin 100000 → EReal) (hx : Scores it x) (p : Fin 4096) :
    sortedFrom (more x) (p.castLE (by decide)) = pick it p := by
  classical
  let B : Fin 100000 → Fin 100000 → Bool := fun k k' =>
    (fun a b : EReal => decide (b < a)) (x k) (x k') || (decide (x k = x k') && decide (k < k'))
  have hB : StrictTotalBefore B := StrictTotalBefore.of_key_then_position (fun a b : EReal => decide (b < a)) x
    (fun a => decide_eq_false (lt_irrefl a))
    (fun a b c h h' => decide_eq_true ((of_decide_eq_true h').trans (of_decide_eq_true h)))
    (fun a b => by
      rcases lt_trichotomy a b with h | h | h
      · exact Or.inr (Or.inr (decide_eq_true h))
      · exact Or.inr (Or.inl h)
      · exact Or.inl (decide_eq_true h))
  have hR : sortedFrom (more x) = sortedFrom B := sortedFrom_congr_lt _ _ fun a b hab => by
    rw [more_eq]
    have : decide (b < a) = false := decide_eq_false (not_lt_of_gt hab)
    show _ = (decide _ || (decide _ && decide (b < a)))
    rw [this, Bool.and_false, Bool.or_false]
  have hfalse : ∀ a b : Fin 100000, ¬ hitN it a.val → ¬ hitN it b.val → keyN a.val < keyN b.val → B a b = false := by
    intro a b ha hb hk
    show (decide (x b < x a) || (decide (x a = x b) && decide (a < b))) = false
    rw [hx.free a ha, hx.free b hb]
    rcases key_split a.isLt b.isLt hk with h | ⟨h, h'⟩
    · have hl : (((mantN a.val : ℝ) / 8388608 : ℝ) : EReal) < (((mantN b.val : ℝ) / 8388608 : ℝ) : EReal) := by
        rw [EReal.coe_lt_coe_iff]
        have : (mantN a.val : ℝ) < (mantN b.val : ℝ) := Nat.cast_lt.mpr h
        linarith
      rw [decide_eq_false (not_lt_of_gt hl), decide_eq_false (ne_of_lt hl)]; rfl
    · rw [h, decide_eq_false (lt_irrefl _), decide_eq_false (show ¬ a < b from fun hl => by
        have : a.val < b.val := hl
        omega)]
      simp
  rw [hR]
  refine hB.sortedFrom_eq_of_prefix (by decide) (pick it) pick_inj ?_ ?_ p
  · intro i j hij
    exact hfalse _ _ (pick_free hit j) (pick_free hit i) (pick_key hij)
  · intro i q hq
    by_cases h : hitN it q.val
    · show (decide (x (pick it i) < x q) || (decide (x q = x (pick it i)) && decide (q < pick it i))) = false
      rw [hx.low q h, hx.free _ (pick_free hit i), decide_eq_false (not_lt_bot), decide_eq_false (EReal.bot_ne_coe _)]; rfl
    · exact hfalse _ _ h (pick_free hit i) (pick_dom hit q h hq i)

end

/-- The second operand of a sort of two along their one axis. -/
theorem sort2_at {n : ℕ} {α β : Type} (cmp : α × β → α × β → BitVec 1) (x : (⟨1, ![n]⟩ : Shape).Idx → α)
    (w : (⟨1, ![n]⟩ : Shape).Idx → β) (J : (⟨1, ![n]⟩ : Shape).Idx) :
    (Host.sort2 ⟨1, ![n]⟩ 0 cmp x w).2 J
      = w (Shape.Idx.ofFin (sortedFrom (fun k k' => cmp (x (Shape.Idx.ofFin k), w (Shape.Idx.ofFin k))
          (x (Shape.Idx.ofFin k'), w (Shape.Idx.ofFin k')) == 1#1) (J 0))) := by
  have key : ∀ g : Fin n → (⟨1, ![n]⟩ : Shape).Idx, g = Shape.Idx.ofFin →
      w (g (sortedFrom (fun k k' : Fin n => cmp (x (g k), w (g k)) (x (g k'), w (g k')) == 1#1) (J 0)))
        = w (Shape.Idx.ofFin (sortedFrom (fun k k' => cmp (x (Shape.Idx.ofFin k), w (Shape.Idx.ofFin k))
          (x (Shape.Idx.ofFin k'), w (Shape.Idx.ofFin k')) == 1#1) (J 0))) := by
    rintro _ rfl; rfl
  exact key (fun k => J.along (0 : Fin 1) k) (funext fun k => Shape.Idx.along_rank1 J k)

/-- The positions of a selection along the one axis. -/
theorem topK_at {n k : ℕ} (hk : k ≤ n) {α : Type} (gt : α → α → BitVec 1) (x : (⟨1, ![n]⟩ : Shape).Idx → α)
    (h : (⟨1, ![n]⟩ : Shape).Slices (fun _ => 0) ⟨1, ![k]⟩) (y : (⟨1, ![k]⟩ : Shape).Idx) (p : Fin k) (hp : p.val = (y 0).val) :
    (Host.topK ⟨1, ![k]⟩ 0 gt x h).2 y
      = BitVec.ofNat 32 (sortedFrom (fun a b => gt (x (Shape.Idx.ofFin a)) (x (Shape.Idx.ofFin b)) == 1#1) (p.castLE hk)).val := by
  refine (sort2_at (fun l r => gt l.1 r.1) x (fun i => if hd : 0 < (⟨1, ![n]⟩ : Shape).rank then iotaInDim ⟨1, ![n]⟩ 32 ⟨0, hd⟩ i else 0#32)
    (fun a => ⟨0 + (y (a.cast h.1.symm)).val, Nat.lt_of_lt_of_le (Nat.add_lt_add_left (y _).isLt _) (h.2 a)⟩)).trans ?_
  refine congrArg (fun q : Fin n => BitVec.ofNat 32
    (sortedFrom (fun a b => gt (x (Shape.Idx.ofFin a)) (x (Shape.Idx.ofFin b)) == 1#1) q).val) (Fin.ext ?_)
  exact (Nat.zero_add _).trans hp.symm

/-- The selection's positions are the items picked. -/
theorem topK_pick {it : S4096.Idx → BitVec 32} (hit : ∀ i, (it i).toNat < 100000) (x : (⟨1, ![100000]⟩ : Shape).Idx → EReal)
    (h : (⟨1, ![100000]⟩ : Shape).Slices (fun _ => 0) ⟨1, ![4096]⟩)
    (hx : Scores it fun k => x (Shape.Idx.ofFin k)) (y : (⟨1, ![4096]⟩ : Shape).Idx) (p : Fin 4096) (hp : p.val = (y 0).val) :
    (Host.topK ⟨1, ![4096]⟩ 0 (FloatOps.cmpfTotal (F := Ideal) (φ := .f32) .gt) x h).2 y
      = BitVec.ofNat 32 (pick it p).val :=
  (topK_at (by decide) _ x h y p hp).trans (congrArg (fun q : Fin 100000 => BitVec.ofNat 32 q.val) (sorted_pick hit _ hx p))

end Cert.Proof.Choose

end
-- ==== Proof.RefVal.lean ====
/-
  The reference's three results as functions of its arguments: the first user everywhere; the items, then the items picked;
  the targets, then zeros.
-/
module

public import proofs.«01_k».proof.Proof.Score
public import proofs.«01_k».proof.Proof.Choose
public import Idealize.ShloMosaic.Lib.Pipeline.Value
public import Idealize.ShloMosaic.Lib.Routing.OpsSet
public import Idealize.ShloMosaic.Lib.Routing.OpsPair

@[expose] public section

set_option maxRecDepth 4000

namespace Cert.Proof.RefVal

open Idealize.ShloMosaic Idealize.ShloMosaic.StableHlo
open Cert.ReferenceIdeal Cert.ReferenceIdeal.Facts₀ Cert.Proof.Ssa Cert.Proof.Ref Cert.Proof.Key Cert.Proof.Three Cert.Proof.Score
open Cert.Proof.Choose (hitN pick Scores topK_pick)

/-! ## The mask -/

/-- Where an update lands: at the number in its index word. -/
theorem lands (idx : IVec S4096x1 32) (it : IVec S4096 32)
    (hidx : ∀ (k : S4096x1.Idx) (j : S4096.Idx), (k 0).val = (j 0).val → idx k = it j)
    (hit : ∀ j, (it j).toNat < 100000) (j : S4096.Idx) (i : S100000.Idx) :
    scatter_S100000_S4096x1_S4096_n_0_0_1.resultIdx? j idx = some i ↔ (it j).toNat = (i 0).val := by
  have hwin : scatter_S100000_S4096x1_S4096_n_0_0_1.window j 0 = 0 := by
    unfold ScatterDims.window
    exact dif_neg fun h => (of_decide_eq_true (List.mem_filter.1 h).2) (List.mem_singleton.2 rfl)
  have hstart : scatter_S100000_S4096x1_S4096_n_0_0_1.start j idx 0 = (it j).toInt := by
    unfold ScatterDims.start
    rw [dif_pos (show (0 : Fin 1) ∈ scatter_S100000_S4096x1_S4096_n_0_0_1.scatterDimsToOperandDims from List.mem_singleton.2 rfl)]
    refine congrArg BitVec.toInt (hidx _ j ?_)
    unfold ScatterDims.siIdx
    rw [dif_neg (by decide)]
    unfold ScatterDims.siCoord
    simp only [Fin.val_cast]
    have e : ∀ X : Fin 1, (j X).val = (j 0).val := fun X => by
      obtain rfl : X = 0 := Subsingleton.elim _ _
      rfl
    exact e _
  have hn : (it j).toInt = ((it j).toNat : ℤ) := by
    have := hit j
    rw [BitVec.toInt_eq_toNat_cond, if_pos (by omega)]
  rw [Routing.resultIdx?_eq_some]
  constructor
  · intro h
    have h0 := h 0
    rw [hwin, hstart, hn] at h0
    omega
  · intro h a
    obtain rfl : a = 0 := Subsingleton.elim _ _
    rw [hwin, hstart, hn]
    omega

section
variable {idx : IVec S4096x1 32} {it : IVec S4096 32} {x0 : IVec S100000 1} {u : IVec S4096 1}
    (hidx : ∀ (k : S4096x1.Idx) (j : S4096.Idx), (k 0).val = (j 0).val → idx k = it j)
    (hit : ∀ j, (it j).toNat < 100000) (i : S100000.Idx)
include hidx hit

theorem mask_hit (hu : ∀ j, u j = 1#1) (h : hitN it (i 0).val) :
    Host.scatter scatter_S100000_S4096x1_S4096_n_0_0_1 (fun _ b => b) x0 idx u i = 1#1 := by
  obtain ⟨j, hj⟩ := h
  exact Routing.scatter_set_hit _ _ _ _ _ _ (fun k _ => hu k) j ((lands idx it hidx hit j i).mpr hj)

theorem mask_miss (h : ¬ hitN it (i 0).val) :
    Host.scatter scatter_S100000_S4096x1_S4096_n_0_0_1 (fun _ b => b) x0 idx u i = x0 i :=
  Routing.scatter_set_miss _ _ _ _ _ fun k hk => h ⟨k, (lands idx it hidx hit k i).mp hk⟩
end

/-! ## Joining -/

theorem join_lo {α : Type} (a b : S4096.Idx → α) (y : S8192.Idx) (z : S4096.Idx) (h : (y 0).val = (z 0).val) :
    concatenate S8192 0 [⟨S4096, a⟩, ⟨S4096, b⟩] concatenates_S4096_S4096_S8192_d0 y = a z :=
  concatenate_pair_apply_left (t := S8192) (s₁ := S4096) (s₂ := S4096) 0 a b _ y rfl z fun b => by
    obtain rfl : b = 0 := Subsingleton.elim _ _
    exact h.symm

theorem join_hi {α : Type} (a b : S4096.Idx → α) (y : S8192.Idx) (z : S4096.Idx) (h : (y 0).val = 4096 + (z 0).val) :
    concatenate S8192 0 [⟨S4096, a⟩, ⟨S4096, b⟩] concatenates_S4096_S4096_S8192_d0 y = b z :=
  concatenate_pair_apply_right (t := S8192) (s₁ := S4096) (s₂ := S4096) 0 a b _ y rfl rfl z
    (fun b hb => (hb (Subsingleton.elim _ _)).elim) (by
      show (z 0).val + 4096 = (y 0).val
      omega)

theorem pair_lo (a b : S1.Idx → BitVec 32) (y : S2.Idx) (h : (y 0).val = 0) :
    concatenate S2 0 [⟨S1, a⟩, ⟨S1, b⟩] concatenates_S1_S1_S2_d0 y = a (Shape.Idx.ofFin (0 : Fin 1)) :=
  concatenate_pair_apply_left (t := S2) (s₁ := S1) (s₂ := S1) 0 a b _ y rfl (Shape.Idx.ofFin (0 : Fin 1)) fun b => by
    obtain rfl : b = 0 := Subsingleton.elim _ _
    exact h.symm

theorem pair_hi (a b : S1.Idx → BitVec 32) (y : S2.Idx) (h : (y 0).val = 1) :
    concatenate S2 0 [⟨S1, a⟩, ⟨S1, b⟩] concatenates_S1_S1_S2_d0 y = b (Shape.Idx.ofFin (0 : Fin 1)) :=
  concatenate_pair_apply_right (t := S2) (s₁ := S1) (s₂ := S1) 0 a b _ y rfl rfl (Shape.Idx.ofFin (0 : Fin 1))
    (fun b hb => (hb (Subsingleton.elim _ _)).elim) (by
      show 0 + 1 = (y 0).val
      omega)

/-! ## The run -/

section
variable (m : (ℓ : Loc nD τ sig) → Buf (Elt Ideal) ℓ) (d : Dev nD)

abbrev users : S4096.Idx → BitVec 32 := m ((d.tc : Thread nD τ).loc main_arg0)
abbrev named : S4096.Idx → BitVec 32 := m ((d.tc : Thread nD τ).loc main_arg1)
abbrev goals : S4096.Idx → EReal := m ((d.tc : Thread nD τ).loc main_arg2)

theorem eq_users : (rd (.of main_arg0 : TRef sig ⟨S4096, .i32⟩) (fin m d) : S4096.Idx → BitVec 32) = users m d :=
  fin_arg m d main_arg0 (by decide)
theorem eq_named : (rd (.of main_arg1 : TRef sig ⟨S4096, .i32⟩) (fin m d) : S4096.Idx → BitVec 32) = named m d :=
  fin_arg m d main_arg1 (by decide)
theorem eq_goals : (rd (.of main_arg2 : TRef sig ⟨S4096, .f32⟩) (fin m d) : S4096.Idx → EReal) = goals m d :=
  fin_arg m d main_arg2 (by decide)

theorem low_eq : FloatOps.ofBits (F := Ideal) .f32 0xFF800000#32 = (⊥ : EReal) := by
  show Ideal.ieee 8 23 (0xFF800000#32) = ⊥
  unfold Ideal.ieee
  rw [if_pos (by decide), if_pos (by decide), if_pos (by decide)]

/-- The masked scores. -/
theorem scores (hit : ∀ j, (named m d j).toNat < 100000) :
    Scores (named m d) fun k => (rd (.of main_v17 : TRef sig ⟨S100000, .f32⟩) (fin m d) : S100000.Idx → EReal) (Shape.Idx.ofFin k) := by
  obtain ⟨hA, h⟩ := eqns_append (fin m d) _ _ (fin_eqns (F := Ideal) m d)
  obtain ⟨hU, h⟩ := eqns_append (fin m d) _ _ h
  obtain ⟨hB, h⟩ := eqns_append (fin m d) _ _ h
  obtain ⟨hW, -⟩ := eqns_append (fin m d) _ _ h
  obtain ⟨a0, a1, a2, a3, a4, a5, a6, a7, a8, a9, a10, a11, a12, a13, a14, a15, a16, a17, a18, a19, a20, a21, a22, a23, a24, -⟩ := hA
  obtain ⟨b0, -⟩ := hB
  obtain ⟨w0, w1, w2, -⟩ := hW
  have v5 : ∀ j, (rd (.of main_v5 : TRef sig ⟨S4096, .i32⟩) (fin m d) j : BitVec 32) = named m d j := fun j => by
    have e1 : (rd (.of main_v1 : TRef sig ⟨S4096, .i32⟩) (fin m d) j : BitVec 32) = 0#32 :=
      (congrFun a3 j).trans (congrFun a2 _)
    have e2 : (rd (.of main_v2 : TRef sig ⟨S4096, .i1⟩) (fin m d) j : BitVec 1) = IntOp.cmpi .slt (named m d j) 0#32 := by
      have e : (rd (.of main_v2 : TRef sig ⟨S4096, .i1⟩) (fin m d) j : BitVec 1)
          = IntOp.cmpi .slt (rd (.of main_arg1 : TRef sig ⟨S4096, .i32⟩) (fin m d) j : BitVec 32)
            (rd (.of main_v1 : TRef sig ⟨S4096, .i32⟩) (fin m d) j : BitVec 32) := congrFun a4 j
      rw [e, e1, eq_named]
    have e : (rd (.of main_v5 : TRef sig ⟨S4096, .i32⟩) (fin m d) j : BitVec 32)
        = Scalar.select (rd (.of main_v2 : TRef sig ⟨S4096, .i1⟩) (fin m d) j : BitVec 1)
          (rd (.of main_v4 : TRef sig ⟨S4096, .i32⟩) (fin m d) j : BitVec 32)
          (rd (.of main_arg1 : TRef sig ⟨S4096, .i32⟩) (fin m d) j : BitVec 32) := congrFun a8 j
    rw [e, e2, eq_named]
    have := hit j
    exact Routing.wrap_of_lt _ _ (by omega)
  have hidx : ∀ (k : S4096x1.Idx) (j : S4096.Idx), (k 0).val = (j 0).val →
      (rd (.of main_v6 : TRef sig ⟨S4096x1, .i32⟩) (fin m d) k : BitVec 32) = named m d j := fun k j hkj =>
    (congrFun a9 k).trans ((v5 _).trans (congrArg (named m d) (Steps.idx1 hkj)))
  have hones : ∀ j, (rd (.of main_v7 : TRef sig ⟨S4096, .i1⟩) (fin m d) j : BitVec 1) = 1#1 := fun j =>
    (congrFun a11 j).trans (congrFun a10 _)
  have hzero : ∀ i, (rd (.of main_v0 : TRef sig ⟨S100000, .i1⟩) (fin m d) i : BitVec 1) = 0#1 := fun i =>
    (congrFun a1 i).trans (congrFun a0 _)
  have hsel : ∀ i : S100000.Idx, (rd (.of main_v17 : TRef sig ⟨S100000, .f32⟩) (fin m d) i : EReal)
      = Scalar.select (rd (.of main_v8 : TRef sig ⟨S100000, .i1⟩) (fin m d) i : BitVec 1)
        (rd main_call1.v1 (fin m d) i : EReal) (rd (.of main_v16 : TRef sig ⟨S100000, .f32⟩) (fin m d) i : EReal) := fun i =>
    congrFun w2 i
  have hlow : ∀ i : S100000.Idx, (rd main_call1.v1 (fin m d) i : EReal) = ⊥ := fun i => by
    have e : (rd main_call1.v1 (fin m d) i : EReal) = rd main_call1.v0 (fin m d) _ := congrFun w1 i
    rw [e, w0, b0]
    exact low_eq
  refine ⟨fun k hk => ?_, fun k hk => ?_⟩
  · have hm : (rd (.of main_v8 : TRef sig ⟨S100000, .i1⟩) (fin m d) (Shape.Idx.ofFin k) : BitVec 1) = 1#1 :=
      (congrFun a12 (Shape.Idx.ofFin k)).trans (mask_hit hidx hit _ hones hk)
    refine (hsel _).trans ?_
    rw [hm, hlow]; rfl
  · have hm : (rd (.of main_v8 : TRef sig ⟨S100000, .i1⟩) (fin m d) (Shape.Idx.ofFin k) : BitVec 1) = 0#1 :=
      (congrFun a12 (Shape.Idx.ofFin k)).trans ((mask_miss hidx hit _ hk).trans (hzero _))
    refine (hsel _).trans ?_
    rw [hm]
    refine (show _ = (rd (.of main_v16 : TRef sig ⟨S100000, .f32⟩) (fin m d) (Shape.Idx.ofFin k) : EReal) from rfl).trans ?_
    refine score_at hU ?_ ?_ ?_ (Shape.Idx.ofFin k)
    · intro k
      have e10 : ∀ j : S1.Idx, (rd (.of main_v11 : TRef sig ⟨S1, .i32⟩) (fin m d) j : BitVec 32).toNat = 0 := fun j => by
        have e : (rd (.of main_v11 : TRef sig ⟨S1, .i32⟩) (fin m d) j : BitVec 32)
            = rd (.of main_v10 : TRef sig ⟨S_, .i32⟩) (fin m d) _ := congrFun a17 j
        rw [e, a16, a15, a13, a14]
        rfl
      have e13 : ∀ j : S1.Idx, (rd (.of main_v14 : TRef sig ⟨S1, .i32⟩) (fin m d) j : BitVec 32).toNat = 42 := fun j => by
        have e : (rd (.of main_v14 : TRef sig ⟨S1, .i32⟩) (fin m d) j : BitVec 32)
            = rd (.of main_v13 : TRef sig ⟨S_, .i32⟩) (fin m d) _ := congrFun a21 j
        rw [e, a20, a19, a13, a18]
        exact (by decide : (IntOp.andi 42#32 4294967295#32).toNat = 42)
      have hk2 : (k 0).val < 2 := (k 0).isLt
      by_cases h0 : (k 0).val = 0
      · rw [if_pos h0, congrFun a22 k]
        exact (congrArg BitVec.toNat (pair_lo _ _ k h0)).trans (e10 _)
      · rw [if_neg h0, congrFun a22 k]
        exact (congrArg BitVec.toNat (pair_hi _ _ k (by omega))).trans (e13 _)
    · exact fun k => (congrFun a23 k).trans Ideal.ofBits_zero_f32
    · exact fun k => (congrFun a24 k).trans Ideal.ofBits_one_f32

/-- The first result: the first user. -/
theorem first_eq (y : S8192.Idx) (z : S4096.Idx) (h : (z 0).val = 0) :
    (rd (.of main_v21 : TRef sig ⟨S8192, .i32⟩) (fin m d) y : BitVec 32) = users m d z := by
  obtain ⟨-, h1⟩ := eqns_append (fin m d) _ _ (fin_eqns (F := Ideal) m d)
  obtain ⟨-, h1⟩ := eqns_append (fin m d) _ _ h1
  obtain ⟨-, h1⟩ := eqns_append (fin m d) _ _ h1
  obtain ⟨-, -, -, -, -, c4, c5, c6, -⟩ := eqns_append (fin m d) _ _ h1
  have e6 : (rd (.of main_v21 : TRef sig ⟨S8192, .i32⟩) (fin m d) y : BitVec 32)
      = rd (.of main_v20 : TRef sig ⟨S_, .i32⟩) (fin m d) _ := congrFun c6 y
  have e4 : ∀ j : S1.Idx, (rd (.of main_v19 : TRef sig ⟨S1, .i32⟩) (fin m d) j : BitVec 32) = users m d z := fun j => by
    have hj : (j 0).val < 1 := (j 0).isLt
    have e : (rd (.of main_v19 : TRef sig ⟨S1, .i32⟩) (fin m d) j : BitVec 32)
        = rd (.of main_arg0 : TRef sig ⟨S4096, .i32⟩) (fin m d) _ := congrFun c4 j
    rw [e, eq_users]
    refine congrArg (users m d) (Steps.idx1 ?_)
    show 0 + (j 0).val = (z 0).val
    omega
  rw [e6, c5]
  exact e4 _

theorem second_lo (y : S8192.Idx) (z : S4096.Idx) (h : (y 0).val = (z 0).val) :
    (rd (.of main_v22 : TRef sig ⟨S8192, .i32⟩) (fin m d) y : BitVec 32) = named m d z := by
  obtain ⟨-, h1⟩ := eqns_append (fin m d) _ _ (fin_eqns (F := Ideal) m d)
  obtain ⟨-, h1⟩ := eqns_append (fin m d) _ _ h1
  obtain ⟨-, h1⟩ := eqns_append (fin m d) _ _ h1
  obtain ⟨-, -, -, -, -, -, -, -, c7, -⟩ := eqns_append (fin m d) _ _ h1
  exact (congrFun c7 y).trans ((join_lo _ _ y z h).trans (congrFun (eq_named m d) z))

/-- The second result: the items, then the items picked. -/
theorem second_hi (hit : ∀ j, (named m d j).toNat < 100000) (y : S8192.Idx) (p : Fin 4096) (h : (y 0).val = 4096 + p.val) :
    (rd (.of main_v22 : TRef sig ⟨S8192, .i32⟩) (fin m d) y : BitVec 32) = BitVec.ofNat 32 (pick (named m d) p).val := by
  have hs := scores m d hit
  obtain ⟨-, h1⟩ := eqns_append (fin m d) _ _ (fin_eqns (F := Ideal) m d)
  obtain ⟨-, h1⟩ := eqns_append (fin m d) _ _ h1
  obtain ⟨-, h1⟩ := eqns_append (fin m d) _ _ h1
  obtain ⟨-, -, c1, -, -, -, -, -, c7, -⟩ := eqns_append (fin m d) _ _ h1
  obtain ⟨z, hz⟩ : ∃ z : S4096.Idx, (z 0).val = p.val := ⟨Shape.Idx.ofFin p, rfl⟩
  refine (congrFun c7 y).trans ((join_hi _ _ y z (by omega)).trans ?_)
  exact (congrFun c1 z).trans (topK_pick hit _ _ hs z p hz.symm)

theorem third_lo (y : S8192.Idx) (z : S4096.Idx) (h : (y 0).val = (z 0).val) :
    (rd (.of main_v23 : TRef sig ⟨S8192, .f32⟩) (fin m d) y : EReal) = goals m d z := by
  obtain ⟨-, h1⟩ := eqns_append (fin m d) _ _ (fin_eqns (F := Ideal) m d)
  obtain ⟨-, h1⟩ := eqns_append (fin m d) _ _ h1
  obtain ⟨-, h1⟩ := eqns_append (fin m d) _ _ h1
  obtain ⟨-, -, -, -, -, -, -, -, -, c8, -⟩ := eqns_append (fin m d) _ _ h1
  exact (congrFun c8 y).trans ((join_lo _ _ y z h).trans (congrFun (eq_goals m d) z))

/-- The third result: the targets, then zeros. -/
theorem third_hi (y : S8192.Idx) (z : S4096.Idx) (h : (y 0).val = 4096 + (z 0).val) :
    (rd (.of main_v23 : TRef sig ⟨S8192, .f32⟩) (fin m d) y : EReal) = FloatOps.ofBits (F := Ideal) .f32 0x00000000#32 := by
  obtain ⟨-, h1⟩ := eqns_append (fin m d) _ _ (fin_eqns (F := Ideal) m d)
  obtain ⟨-, h1⟩ := eqns_append (fin m d) _ _ h1
  obtain ⟨-, h1⟩ := eqns_append (fin m d) _ _ h1
  obtain ⟨-, -, -, c2, c3, -, -, -, -, c8, -⟩ := eqns_append (fin m d) _ _ h1
  exact (congrFun c8 y).trans ((join_hi _ _ y z h).trans ((congrFun c3 z).trans (congrFun c2 _)))
end

end Cert.Proof.RefVal
-- ==== Proof.Same.lean ====
/-
  The idealised kernel and the idealised reference, from the same arguments, end with the same three results.
-/
module

public import proofs.«01_k».proof.Proof.RefVal
public import proofs.«01_k».proof.Proof.Frames

@[expose] public section

set_option maxRecDepth 4000

noncomputable section

namespace Cert.Proof.Same

open Idealize.ShloMosaic Idealize.SL.Sem
open Cert.Proof.Tab Cert.Proof.Key Cert.Proof.Run Cert.Proof.Ssa
open Cert.Proof.Choose (rank rank_lt8 rank_unmarked rank_U pick pref_lt)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (d : Dev Cert.KernelIdeal.nD)

/-- The reference's three results as its run leaves them. -/
abbrev refA : Cert.KernelIdeal.S8192.Idx → BitVec 32 := Ref.fin m' d (Proc.devRef .tc Cert.ReferenceIdeal.main_v21)
abbrev refB : Cert.KernelIdeal.S8192.Idx → BitVec 32 := Ref.fin m' d (Proc.devRef .tc Cert.ReferenceIdeal.main_v22)
abbrev refR : Cert.KernelIdeal.S8192.Idx → EReal := Ref.fin m' d (Proc.devRef .tc Cert.ReferenceIdeal.main_v23)

variable {m m' d} {fa fb : Cert.KernelIdeal.S8192.Idx → BitVec 32} {fr : Cert.KernelIdeal.S8192.Idx → EReal}
  (hs : OutSpec (F := Ideal) m d fa fb fr)

include hs

/-- The first result: the first user, repeated. -/
theorem first (hu : RefVal.users m' d = m (uLoc d)) : fa = refA m' d := by
  funext y
  have hz : ((Shape.Idx.ofFin (0 : Fin 4096) : Cert.KernelIdeal.S4096.Idx) 0).val = 0 := rfl
  exact (hs.1 y _ hz).trans ((congrFun hu _).symm.trans (RefVal.first_eq m' d y _ hz).symm)

/-- The second result: the items, then the negatives; the kernel's negative number `p` is the reference's pick `p`. -/
theorem second (hi : RefVal.named m' d = m (iLoc d)) (hin : ∀ j, (m (iLoc d) j : BitVec 32).toNat < 100000) : fb = refB m' d := by
  funext y
  by_cases hy : (y 0).val < 4096
  · obtain ⟨z, hz⟩ := lo_exists y hy
    exact (hs.2.1 y z hz).trans ((congrFun hi z).symm.trans (RefVal.second_lo m' d y z hz).symm)
  · obtain ⟨z, hz⟩ := hi_exists y (Nat.le_of_not_lt hy)
    have hz4 : (z 0).val < 4096 := (z 0).isLt
    have hr := RefVal.second_hi m' d (fun j => by rw [hi]; exact hin j) y ⟨(z 0).val, hz4⟩ hz
    rw [hi] at hr
    have hU := rank_U (it := m (iLoc d)) ⟨(z 0).val, hz4⟩
    have h8 := rank_lt8 (it := m (iLoc d)) ⟨(z 0).val, hz4⟩
    have hp : posN (rank (m (iLoc d)) ⟨(z 0).val, hz4⟩) < 8192 := Choose.posN_lt h8
    have hk := hs.2.2.1 _ h8 (rank_unmarked (it := m (iLoc d)) ⟨(z 0).val, hz4⟩) (hU.trans_lt hz4) y
      (Shape.Idx.ofFin (⟨_, hp⟩ : Fin 8192)) (hz.trans (congrArg (4096 + ·) hU.symm)) rfl
    refine hk.trans ?_
    refine Eq.trans ?_ hr.symm
    refine BitVec.eq_of_toNat_eq ?_
    rw [BitVec.toNat_ofNat, Nat.mod_eq_of_lt ((pick (m (iLoc d)) ⟨(z 0).val, hz4⟩).isLt.trans (by decide))]
    exact tabP_toNat _

/-- The third result: the targets, then zeros. -/
theorem third (ht : RefVal.goals m' d = m (tLoc d)) : fr = refR m' d := by
  funext y
  by_cases hy : (y 0).val < 4096
  · obtain ⟨z, hz⟩ := lo_exists y hy
    exact (hs.2.2.2.1 y z hz).trans ((congrFun ht z).symm.trans (RefVal.third_lo m' d y z hz).symm)
  · obtain ⟨z, hz⟩ := hi_exists y (Nat.le_of_not_lt hy)
    exact (hs.2.2.2.2 y (Nat.le_of_not_lt hy)).trans (RefVal.third_hi m' d y z hz).symm
end

/-- The reference's frame, stated again under the precondition. -/
theorem frame_pre : Cert.quiescent_ReferenceIdeal_pre_item_in_range := fun m ρ _ =>
  Ref.frame_reference m ρ True.intro

/-- Kernel and reference compute the same three results over the extended reals. -/
theorem algebraic : Cert.algebraic_KernelIdeal_ReferenceIdeal := by
  intro m g m' g' hpre heq
  have hok := Frames.ok_of_pre m hpre
  refine ⟨fun c => refA m' c, fun c => refB m' c, fun c => refR m' c, ?_, ?_⟩
  · refine (θ_run Cert.KernelIdeal.defs _ _).mono (fun r h c => ?_) (run_main (F := Ideal) m g hok)
    obtain ⟨h0, h1, h2, hs⟩ := h.1 c
    exact ⟨first hs (heq c).1, second hs (heq c).2.1 (hok c), third hs (heq c).2.2, h0, h1, h2⟩
  · refine (θ_run Cert.ReferenceIdeal.defs _ _).mono (fun r h c => ?_) (Ref.run_main m' g')
    exact ⟨h c _, h c _, h c _, (h c _).trans (Ref.fin_arg m' c _ (by decide)), (h c _).trans (Ref.fin_arg m' c _ (by decide)),
      (h c _).trans (Ref.fin_arg m' c _ (by decide))⟩

end Cert.Proof.Same

end
-- ==== Proof.lean ====
/-
  The certificate's claims, each from the module that proves it.
-/
module

public import proofs.«01_k».proof.Defs
public import proofs.«01_k».proof.Proof.Gen.Kernel
public import proofs.«01_k».proof.Proof.Gen.KernelIdeal.Skeleton
public import proofs.«01_k».proof.Proof.Gen.KernelIdeal
public import proofs.«01_k».proof.Proof.Gen.ReferenceIdeal
public import proofs.«01_k».proof.Proof.Gen.Pre_item_in_range
public import proofs.«01_k».proof.Proof.Frames
public import proofs.«01_k».proof.Proof.RefRun
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_item_in_range.Gen.facts,
    Frames.frame_kernel, Frames.frame_ideal, Ref.frame_reference, Same.frame_pre, trivial, Same.algebraic⟩

end Cert.Proof

end
